-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "lowest" .f32 0xFF61B1E6#32 ⊥
  ∧ IdealRules.named_const.Statement Cert.KernelIdeal.κ "sixth" .f32 0x3E2AAAAB#32 ((1 / 6 : ℝ) : EReal)
  ∧ IdealRules.named_const.Statement Cert.KernelIdeal.κ "highest" .f32 0x7F61B1E6#32 ⊤

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v25)) (v2 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_v32) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v426) = v0 c
          ∧ r.2.mem ((c.tc : Thread Cert.ReferenceIdeal.nD Cert.ReferenceIdeal.τ).loc Cert.ReferenceIdeal.main_v459) = v1 c
          ∧ r.2.mem ((c.tc : Thread Cert.ReferenceIdeal.nD Cert.ReferenceIdeal.τ).loc Cert.ReferenceIdeal.main_v461) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S20000x5 : Shape := ⟨2, ![20000, 5]⟩
abbrev S20000x4 : Shape := ⟨2, ![20000, 4]⟩
abbrev S1000x2 : Shape := ⟨2, ![1000, 2]⟩
abbrev S1000x20x3 : Shape := ⟨3, ![1000, 20, 3]⟩
abbrev S1000x30x2 : Shape := ⟨3, ![1000, 30, 2]⟩
abbrev S1000x30 : Shape := ⟨2, ![1000, 30]⟩
abbrev S1000 : Shape := ⟨1, ![1000]⟩
abbrev S_ : Shape := ⟨0, ![]⟩

class Facts : Prop where
  bcast_S_S20000x5 : S_.BroadcastsInDim S20000x5 (![] : Fin 0 → Fin S20000x5.rank)
  reducesTo_S20000x5_S_d0_1 : S20000x5.ReducesTo [0, 1] S_
  h_S_ : 0 < S_.numel
  bcast_S_S20000x4 : S_.BroadcastsInDim S20000x4 (![] : Fin 0 → Fin S20000x4.rank)
  reducesTo_S20000x4_S_d0_1 : S20000x4.ReducesTo [0, 1] S_
  bcast_S_S1000x30x2 : S_.BroadcastsInDim S1000x30x2 (![] : Fin 0 → Fin S1000x30x2.rank)
  reducesTo_S1000x30x2_S_d0_1_2 : S1000x30x2.ReducesTo [0, 1, 2] S_
  reducesTo_S1000x30_S_d0_1 : S1000x30.ReducesTo [0, 1] S_
  reducesTo_S1000_S_d0 : S1000.ReducesTo [0] S_

variable [Facts]

def fn_part1 {F : FTy → Type} [FloatOps F] (main_arg6 : IVec S1000 32) (main_v15 : IVec S_ 1) (main_v16 : IVec S1000 32) : IVec S_ 1 :=
  let main_v17 : IVec S1000 1 := cmpi .eq main_arg6 main_v16
  let main_c_5 : IVec S_ 1 := constantI S_ 1 1#1
  let main_v18 : IVec S_ 1 := (fun x v => Host.reduce IntOp.andi x v reducesTo_S1000_S_d0 h_S_) main_v17 main_c_5
  let main_v19 : IVec S_ 1 := andi main_v15 main_v18
  main_v19

def fn {F : FTy → Type} [FloatOps F] (main_arg0 : FVec F S20000x5 .f32) (main_arg1 : FVec F S20000x4 .f32) (main_arg2 : FVec F S1000x2 .f32) (main_arg3 : FVec F S1000x20x3 .f32) (main_arg4 : FVec F S1000x30x2 .f32) (main_arg5 : IVec S1000x30 1) (main_arg6 : IVec S1000 32) : IVec S_ 1 :=
  let main_v0 : FVec F S20000x5 .f32 := Host.absf main_arg0
  let main_cst : FVec F S_ .f32 := constant S_ .f32 0x7F800000#32
  let main_v1 : FVec F S20000x5 .f32 := broadcastInDim S20000x5 ![] bcast_S_S20000x5 main_cst
  let main_v2 : IVec S20000x5 1 := cmpf .olt main_v0 main_v1
  let main_c : IVec S_ 1 := constantI S_ 1 1#1
  let main_v3 : IVec S_ 1 := (fun x v => Host.reduce IntOp.andi x v reducesTo_S20000x5_S_d0_1 h_S_) main_v2 main_c
  let main_v4 : FVec F S20000x4 .f32 := Host.absf main_arg1
  let main_cst_0 : FVec F S_ .f32 := constant S_ .f32 0x7F800000#32
  let main_v5 : FVec F S20000x4 .f32 := broadcastInDim S20000x4 ![] bcast_S_S20000x4 main_cst_0
  let main_v6 : IVec S20000x4 1 := cmpf .olt main_v4 main_v5
  let main_c_1 : IVec S_ 1 := constantI S_ 1 1#1
  let main_v7 : IVec S_ 1 := (fun x v => Host.reduce IntOp.andi x v reducesTo_S20000x4_S_d0_1 h_S_) main_v6 main_c_1
  let main_v8 : IVec S_ 1 := andi main_v3 main_v7
  let main_v9 : FVec F S1000x30x2 .f32 := Host.absf main_arg4
  let main_cst_2 : FVec F S_ .f32 := constant S_ .f32 0x7F800000#32
  let main_v10 : FVec F S1000x30x2 .f32 := broadcastInDim S1000x30x2 ![] bcast_S_S1000x30x2 main_cst_2
  let main_v11 : IVec S1000x30x2 1 := cmpf .olt main_v9 main_v10
  let main_c_3 : IVec S_ 1 := constantI S_ 1 1#1
  let main_v12 : IVec S_ 1 := (fun x v => Host.reduce IntOp.andi x v reducesTo_S1000x30x2_S_d0_1_2 h_S_) main_v11 main_c_3
  let main_v13 : IVec S_ 1 := andi main_v8 main_v12
  let main_c_4 : IVec S_ 1 := constantI S_ 1 1#1
  let main_v14 : IVec S_ 1 := (fun x v => Host.reduce IntOp.andi x v reducesTo_S1000x30_S_d0_1 h_S_) main_arg5 main_c_4
  let main_v15 : IVec S_ 1 := andi main_v13 main_v14
  let main_v16 : IVec S1000 32 := iotaInDim S1000 32 0
  fn_part1 (F := F) main_arg6 main_v15 main_v16
-- ==== Kernel.lean ====
abbrev S20000x5 : Shape := ⟨2, ![20000, 5]⟩
abbrev S20000x4 : Shape := ⟨2, ![20000, 4]⟩
abbrev S1000x2 : Shape := ⟨2, ![1000, 2]⟩
abbrev S1000x20x3 : Shape := ⟨3, ![1000, 20, 3]⟩
abbrev S1000x30x2 : Shape := ⟨3, ![1000, 30, 2]⟩
abbrev S1000x30 : Shape := ⟨2, ![1000, 30]⟩
abbrev S1000 : Shape := ⟨1, ![1000]⟩
abbrev S1000x20x5 : Shape := ⟨3, ![1000, 20, 5]⟩
abbrev S1000x20x4 : Shape := ⟨3, ![1000, 20, 4]⟩
abbrev S1000x20x9 : Shape := ⟨3, ![1000, 20, 9]⟩
abbrev S_ : Shape := ⟨0, ![]⟩
abbrev S1024x20x9 : Shape := ⟨3, ![1024, 20, 9]⟩
abbrev S64x16x20x9 : Shape := ⟨4, ![64, 16, 20, 9]⟩
abbrev S64x9x20x16 : Shape := ⟨4, ![64, 9, 20, 16]⟩
abbrev S1000x1x2 : Shape := ⟨3, ![1000, 1, 2]⟩
abbrev S1024x2 : Shape := ⟨2, ![1024, 2]⟩
abbrev S64x16x2 : Shape := ⟨3, ![64, 16, 2]⟩
abbrev S64x2x16 : Shape := ⟨3, ![64, 2, 16]⟩
abbrev S64x6x5x16 : Shape := ⟨4, ![64, 6, 5, 16]⟩
abbrev S9x20x16 : Shape := ⟨3, ![9, 20, 16]⟩
abbrev S2x16 : Shape := ⟨2, ![2, 16]⟩
abbrev S4x20x16 : Shape := ⟨3, ![4, 20, 16]⟩
abbrev S20x16 : Shape := ⟨2, ![20, 16]⟩
abbrev S6x5x16 : Shape := ⟨3, ![6, 5, 16]⟩
abbrev S1x9x20x16 : Shape := ⟨4, ![1, 9, 20, 16]⟩
abbrev S1x2x16 : Shape := ⟨3, ![1, 2, 16]⟩
abbrev S1x1x16 : Shape := ⟨3, ![1, 1, 16]⟩
abbrev S16 : Shape := ⟨1, ![16]⟩
abbrev S1x16 : Shape := ⟨2, ![1, 16]⟩
abbrev S1x6x5x16 : Shape := ⟨4, ![1, 6, 5, 16]⟩
abbrev S6x5x64x16 : Shape := ⟨4, ![6, 5, 64, 16]⟩
abbrev S30x1024 : Shape := ⟨2, ![30, 1024]⟩
abbrev S1024x30x2 : Shape := ⟨3, ![1024, 30, 2]⟩
abbrev S2x30x1024 : Shape := ⟨3, ![2, 30, 1024]⟩
abbrev S1000x4 : Shape := ⟨2, ![1000, 4]⟩
abbrev S1024x4 : Shape := ⟨2, ![1024, 4]⟩
abbrev S4x1024 : Shape := ⟨2, ![4, 1024]⟩
abbrev S8x128 : Shape := ⟨2, ![8, 128]⟩
abbrev S12x30x128 : Shape := ⟨3, ![12, 30, 128]⟩
abbrev S1x30x1024 : Shape := ⟨3, ![1, 30, 1024]⟩
abbrev S1x1024 : Shape := ⟨2, ![1, 1024]⟩
abbrev S30x1 : Shape := ⟨2, ![30, 1]⟩
abbrev S1x1x1024 : Shape := ⟨3, ![1, 1, 1024]⟩
abbrev S1 : Shape := ⟨1, ![1]⟩
abbrev S1x1x1 : Shape := ⟨3, ![1, 1, 1]⟩
abbrev S30x128 : Shape := ⟨2, ![30, 128]⟩
abbrev S1x30x128 : Shape := ⟨3, ![1, 30, 128]⟩
abbrev S1x1 : Shape := ⟨2, ![1, 1]⟩
abbrev S6x30x1 : Shape := ⟨3, ![6, 30, 1]⟩
abbrev S6x30 : Shape := ⟨2, ![6, 30]⟩
abbrev S6x30x2 : Shape := ⟨3, ![6, 30, 2]⟩

abbrev nBuf : Table → Nat
  | .hbm => 50
  | .local .tc .vmem => 6
  | .local .scVector .vmem => 8
  | _ => 0

abbrev bufTy : (tb : Table) → Fin (nBuf tb) → BufTy
  | .hbm, ⟨0, _⟩ => ⟨S20000x5, .f32⟩
  | .hbm, ⟨1, _⟩ => ⟨S20000x4, .f32⟩
  | .hbm, ⟨2, _⟩ => ⟨S1000x2, .f32⟩
  | .hbm, ⟨3, _⟩ => ⟨S1000x20x3, .f32⟩
  | .hbm, ⟨4, _⟩ => ⟨S1000x30x2, .f32⟩
  | .hbm, ⟨5, _⟩ => ⟨S1000x30, .i1⟩
  | .hbm, ⟨6, _⟩ => ⟨S1000, .i32⟩
  | .hbm, ⟨7, _⟩ => ⟨S1000x20x5, .f32⟩
  | .hbm, ⟨8, _⟩ => ⟨S1000x20x4, .f32⟩
  | .hbm, ⟨9, _⟩ => ⟨S1000x20x9, .f32⟩
  | .hbm, ⟨10, _⟩ => ⟨S_, .i32⟩
  | .hbm, ⟨11, _⟩ => ⟨S_, .f32⟩
  | .hbm, ⟨12, _⟩ => ⟨S1024x20x9, .f32⟩
  | .hbm, ⟨13, _⟩ => ⟨S64x16x20x9, .f32⟩
  | .hbm, ⟨14, _⟩ => ⟨S64x9x20x16, .f32⟩
  | .hbm, ⟨15, _⟩ => ⟨S1000x1x2, .f32⟩
  | .hbm, ⟨16, _⟩ => ⟨S1000x2, .f32⟩
  | .hbm, ⟨17, _⟩ => ⟨S_, .i32⟩
  | .hbm, ⟨18, _⟩ => ⟨S_, .f32⟩
  | .hbm, ⟨19, _⟩ => ⟨S1024x2, .f32⟩
  | .hbm, ⟨20, _⟩ => ⟨S64x16x2, .f32⟩
  | .hbm, ⟨21, _⟩ => ⟨S64x2x16, .f32⟩
  | .hbm, ⟨22, _⟩ => ⟨S64x6x5x16, .f32⟩
  | .hbm, ⟨23, _⟩ => ⟨S6x5x64x16, .f32⟩
  | .hbm, ⟨24, _⟩ => ⟨S30x1024, .f32⟩
  | .hbm, ⟨25, _⟩ => ⟨S_, .i32⟩
  | .hbm, ⟨26, _⟩ => ⟨S_, .f32⟩
  | .hbm, ⟨27, _⟩ => ⟨S1024x30x2, .f32⟩
  | .hbm, ⟨28, _⟩ => ⟨S2x30x1024, .f32⟩
  | .hbm, ⟨29, _⟩ => ⟨S1000x1x2, .f32⟩
  | .hbm, ⟨30, _⟩ => ⟨S1000x2, .f32⟩
  | .hbm, ⟨31, _⟩ => ⟨S1000x4, .f32⟩
  | .hbm, ⟨32, _⟩ => ⟨S_, .i32⟩
  | .hbm, ⟨33, _⟩ => ⟨S_, .f32⟩
  | .hbm, ⟨34, _⟩ => ⟨S1024x4, .f32⟩
  | .hbm, ⟨35, _⟩ => ⟨S4x1024, .f32⟩
  | .hbm, ⟨36, _⟩ => ⟨S8x128, .f32⟩
  | .hbm, ⟨37, _⟩ => ⟨S8x128, .f32⟩
  | .hbm, ⟨38, _⟩ => ⟨S12x30x128, .f32⟩
  | .hbm, ⟨39, _⟩ => ⟨S1x1, .f32⟩
  | .hbm, ⟨40, _⟩ => ⟨S_, .f32⟩
  | .hbm, ⟨41, _⟩ => ⟨S1x1, .f32⟩
  | .hbm, ⟨42, _⟩ => ⟨S_, .f32⟩
  | .hbm, ⟨43, _⟩ => ⟨S6x30x1, .f32⟩
  | .hbm, ⟨44, _⟩ => ⟨S6x30, .f32⟩
  | .hbm, ⟨45, _⟩ => ⟨S6x30x1, .f32⟩
  | .hbm, ⟨46, _⟩ => ⟨S6x30, .f32⟩
  | .hbm, ⟨47, _⟩ => ⟨S6x30x1, .f32⟩
  | .hbm, ⟨48, _⟩ => ⟨S6x30x1, .f32⟩
  | .hbm, ⟨49, _⟩ => ⟨S6x30x2, .f32⟩
  | .local .tc .vmem, ⟨0, _⟩ => ⟨S30x1024, .f32⟩
  | .local .tc .vmem, ⟨1, _⟩ => ⟨S2x30x1024, .f32⟩
  | .local .tc .vmem, ⟨2, _⟩ => ⟨S4x1024, .f32⟩
  | .local .tc .vmem, ⟨3, _⟩ => ⟨S8x128, .f32⟩
  | .local .tc .vmem, ⟨4, _⟩ => ⟨S8x128, .f32⟩
  | .local .tc .vmem, ⟨5, _⟩ => ⟨S12x30x128, .f32⟩
  | .local .scVector .vmem, ⟨0, _⟩ => ⟨S9x20x16, .f32⟩
  | .local .scVector .vmem, ⟨1, _⟩ => ⟨S2x16, .f32⟩
  | .local .scVector .vmem, ⟨2, _⟩ => ⟨S4x20x16, .f32⟩
  | .local .scVector .vmem, ⟨3, _⟩ => ⟨S20x16, .f32⟩
  | .local .scVector .vmem, ⟨4, _⟩ => ⟨S20x16, .f32⟩
  | .local .scVector .vmem, ⟨5, _⟩ => ⟨S20x16, .f32⟩
  | .local .scVector .vmem, ⟨6, _⟩ => ⟨S20x16, .f32⟩
  | .local .scVector .vmem, ⟨7, _⟩ => ⟨S6x5x16, .f32⟩
  | _, _ => ⟨S20000x5, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_call1_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_call2_v0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_call3_v0 : Ref sig .tc := ⟨.hbm, 33, rfl⟩
abbrev main_v19 : Ref sig .tc := ⟨.hbm, 34, rfl⟩
abbrev main_v20 : Ref sig .tc := ⟨.hbm, 35, rfl⟩
abbrev main_v21_0 : Ref sig .tc := ⟨.hbm, 36, rfl⟩
abbrev main_v21_1 : Ref sig .tc := ⟨.hbm, 37, rfl⟩
abbrev main_v21_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v5_scv : Ref sig .scVector := ⟨.hbm, 14, rfl⟩
abbrev main_v10_scv : Ref sig .scVector := ⟨.hbm, 21, rfl⟩
abbrev main_v11_scv : Ref sig .scVector := ⟨.hbm, 22, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem5_0 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c2_i32_1 : BitVec 32 := 2#32
  let v2 : BitVec 32 := Scalar.addi c0_i32_0 c2_i32_1
  let c1_i32 : BitVec 32 := 1#32
  ⟨c0_i32_0, v2, c1_i32⟩
def k0_off1 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_3 : BitVec 32 := 2#32
  let v3 : BitVec 32 := Scalar.muli v1 c2_i32_3
  let c0_i32_0 : BitVec 32 := 0#32
  let c1_i32 : BitVec 32 := 1#32
  let arg13 : BitVec 32 := Scf.iv c0_i32_0 c1_i32 k0_t1
  let v4 : BitVec 32 := Scalar.addi v3 arg13
  let c0_i32_5325_r0 : BitVec 32 := 0#32
  let c0_i32_5326_r0 : BitVec 32 := 0#32
  let c0_i32_5327_r0 : BitVec 32 := 0#32
  ![v4.toNat, 0, 0, 0]
def k0_off2 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_3 : BitVec 32 := 2#32
  let v3 : BitVec 32 := Scalar.muli v1 c2_i32_3
  let c0_i32_0 : BitVec 32 := 0#32
  let c1_i32 : BitVec 32 := 1#32
  let arg13 : BitVec 32 := Scf.iv c0_i32_0 c1_i32 k0_t1
  let v4 : BitVec 32 := Scalar.addi v3 arg13
  let c0_i32_5325_r1 : BitVec 32 := 0#32
  let c0_i32_5326_r1 : BitVec 32 := 0#32
  ![v4.toNat, 0, 0]
@[reducible] def k0_t2_loop : Scf.Loop 32 :=
  let c0_i32_826 : BitVec 32 := 0#32
  let c20_i32 : BitVec 32 := 20#32
  let v1325 : BitVec 32 := Scalar.addi c0_i32_826 c20_i32
  let c1_i32_827 : BitVec 32 := 1#32
  ⟨c0_i32_826, v1325, c1_i32_827⟩
def k0_off3 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_3 : BitVec 32 := 2#32
  let v3 : BitVec 32 := Scalar.muli v1 c2_i32_3
  let c0_i32_0 : BitVec 32 := 0#32
  let c1_i32 : BitVec 32 := 1#32
  let arg13 : BitVec 32 := Scf.iv c0_i32_0 c1_i32 k0_t1
  let v4 : BitVec 32 := Scalar.addi v3 arg13
  let c0_i32_5325_r2 : BitVec 32 := 0#32
  let c0_i32_5326_r2 : BitVec 32 := 0#32
  let c0_i32_5327_r2 : BitVec 32 := 0#32
  ![v4.toNat, 0, 0, 0]
abbrev grid1 : Pipeline.Grid := .none

abbrev stage1_0 : Fin 1 → Memref sig .tc .vmem S30x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2x30x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S4x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S8x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S8x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S12x30x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "highest" => some ⊤
  | "lowest" => some ⊥
  | "sixth" => some ((1 / 6 : ℝ) : EReal)
  | _ => none
-- ==== ReferenceIdeal.lean ====
abbrev S20000x5 : Shape := ⟨2, ![20000, 5]⟩
abbrev S20000x4 : Shape := ⟨2, ![20000, 4]⟩
abbrev S1000x2 : Shape := ⟨2, ![1000, 2]⟩
abbrev S1000x20x3 : Shape := ⟨3, ![1000, 20, 3]⟩
abbrev S1000x30x2 : Shape := ⟨3, ![1000, 30, 2]⟩
abbrev S1000x30 : Shape := ⟨2, ![1000, 30]⟩
abbrev S1000 : Shape := ⟨1, ![1000]⟩
abbrev S_ : Shape := ⟨0, ![]⟩
abbrev S1000x1 : Shape := ⟨2, ![1000, 1]⟩
abbrev S1000x1x3 : Shape := ⟨3, ![1000, 1, 3]⟩
abbrev S1000x3 : Shape := ⟨2, ![1000, 3]⟩
abbrev S1000x20x5 : Shape := ⟨3, ![1000, 20, 5]⟩
abbrev S1000x20x1 : Shape := ⟨3, ![1000, 20, 1]⟩
abbrev S1000x20 : Shape := ⟨2, ![1000, 20]⟩
abbrev S1000x20x4 : Shape := ⟨3, ![1000, 20, 4]⟩
abbrev S20 : Shape := ⟨1, ![20]⟩
abbrev S1000x1x20 : Shape := ⟨3, ![1000, 1, 20]⟩
abbrev S1000x20x20 : Shape := ⟨3, ![1000, 20, 20]⟩
abbrev S1x20 : Shape := ⟨2, ![1, 20]⟩
abbrev S20x1 : Shape := ⟨2, ![20, 1]⟩
abbrev S20x20 : Shape := ⟨2, ![20, 20]⟩
abbrev S1x20x20 : Shape := ⟨3, ![1, 20, 20]⟩
abbrev S1000x1x1 : Shape := ⟨3, ![1000, 1, 1]⟩
abbrev S1000x6 : Shape := ⟨2, ![1000, 6]⟩
abbrev S30 : Shape := ⟨1, ![30]⟩
abbrev S1000x6x1 : Shape := ⟨3, ![1000, 6, 1]⟩
abbrev S1x1x30 : Shape := ⟨3, ![1, 1, 30]⟩
abbrev S1000x6x30 : Shape := ⟨3, ![1000, 6, 30]⟩
abbrev S1000x6x30x1 : Shape := ⟨4, ![1000, 6, 30, 1]⟩
abbrev S1000x6x30x2 : Shape := ⟨4, ![1000, 6, 30, 2]⟩
abbrev S1x30 : Shape := ⟨2, ![1, 30]⟩
abbrev S1000x6x2 : Shape := ⟨3, ![1000, 6, 2]⟩
abbrev S1000x1x2 : Shape := ⟨3, ![1000, 1, 2]⟩
abbrev S1x6 : Shape := ⟨2, ![1, 6]⟩
abbrev S1000x30x1 : Shape := ⟨3, ![1000, 30, 1]⟩
abbrev S1x6x30x2 : Shape := ⟨4, ![1, 6, 30, 2]⟩
abbrev S6x30x2 : Shape := ⟨3, ![6, 30, 2]⟩

abbrev nBuf : Space → Nat
  | .hbm => 541
  | .vmem => 0
  | .smem => 0
  | _ => 0

abbrev hbmTy0_0 (i : Nat) : BufTy := match i % 128 with
  | 0 => ⟨S20000x5, .f32⟩
  | 1 => ⟨S20000x4, .f32⟩
  | 2 => ⟨S1000x2, .f32⟩
  | 3 => ⟨S1000x20x3, .f32⟩
  | 4 => ⟨S1000x30x2, .f32⟩
  | 5 => ⟨S1000x30, .i1⟩
  | 6 => ⟨S1000, .i32⟩
  | 7 => ⟨S_, .i32⟩
  | 8 => ⟨S1000, .i32⟩
  | 9 => ⟨S1000, .i1⟩
  | 10 => ⟨S_, .i32⟩
  | 11 => ⟨S1000, .i32⟩
  | 12 => ⟨S1000, .i32⟩
  | 13 => ⟨S1000, .i32⟩
  | 14 => ⟨S1000x1, .i32⟩
  | 15 => ⟨S1000x30x2, .f32⟩
  | 16 => ⟨S_, .i32⟩
  | 17 => ⟨S1000, .i32⟩
  | 18 => ⟨S1000, .i1⟩
  | 19 => ⟨S_, .i32⟩
  | 20 => ⟨S1000, .i32⟩
  | 21 => ⟨S1000, .i32⟩
  | 22 => ⟨S1000, .i32⟩
  | 23 => ⟨S1000x1, .i32⟩
  | 24 => ⟨S1000x30, .i1⟩
  | 25 => ⟨S_, .i32⟩
  | 26 => ⟨S1000, .i32⟩
  | 27 => ⟨S1000, .i1⟩
  | 28 => ⟨S_, .i32⟩
  | 29 => ⟨S1000, .i32⟩
  | 30 => ⟨S1000, .i32⟩
  | 31 => ⟨S1000, .i32⟩
  | 32 => ⟨S1000x1, .i32⟩
  | 33 => ⟨S1000x2, .f32⟩
  | 34 => ⟨S_, .i32⟩
  | 35 => ⟨S1000, .i32⟩
  | 36 => ⟨S1000, .i1⟩
  | 37 => ⟨S_, .i32⟩
  | 38 => ⟨S1000, .i32⟩
  | 39 => ⟨S1000, .i32⟩
  | 40 => ⟨S1000, .i32⟩
  | 41 => ⟨S1000x1, .i32⟩
  | 42 => ⟨S1000x20x3, .f32⟩
  | 43 => ⟨S1000x1x3, .f32⟩
  | 44 => ⟨S1000x3, .f32⟩
  | 45 => ⟨S1000x20x5, .f32⟩
  | 46 => ⟨S1000x20x1, .f32⟩
  | 47 => ⟨S1000x20, .f32⟩
  | 48 => ⟨S1000x20x4, .f32⟩
  | 49 => ⟨S1000x20x4, .f32⟩
  | 50 => ⟨S1000x20x4, .f32⟩
  | 51 => ⟨S1000x20x1, .f32⟩
  | 52 => ⟨S1000x20, .f32⟩
  | 53 => ⟨S1000x20x1, .f32⟩
  | 54 => ⟨S1000x20, .f32⟩
  | 55 => ⟨S1000x20x1, .f32⟩
  | 56 => ⟨S1000x20, .f32⟩
  | 57 => ⟨S1000x20x1, .f32⟩
  | 58 => ⟨S1000x20, .f32⟩
  | 59 => ⟨S20, .i32⟩
  | 60 => ⟨S1000x20, .i32⟩
  | 61 => ⟨S1000x20, .f32⟩
  | 62 => ⟨S1000x20, .f32⟩
  | 63 => ⟨S1000x20, .i32⟩
  | 64 => ⟨S1000x20, .f32⟩
  | 65 => ⟨S1000x20, .f32⟩
  | 66 => ⟨S_, .f32⟩
  | 67 => ⟨S1000x20, .f32⟩
  | 68 => ⟨S1000x20, .f32⟩
  | 69 => ⟨S_, .f32⟩
  | 70 => ⟨S1000x20, .f32⟩
  | 71 => ⟨S1000x20, .f32⟩
  | 72 => ⟨S_, .f32⟩
  | 73 => ⟨S1000x20, .f32⟩
  | 74 => ⟨S1000x20, .f32⟩
  | 75 => ⟨S_, .f32⟩
  | 76 => ⟨S1000x20, .f32⟩
  | 77 => ⟨S1000x20, .f32⟩
  | 78 => ⟨S1000x20, .f32⟩
  | 79 => ⟨S1000x20, .f32⟩
  | 80 => ⟨S1000x20, .f32⟩
  | 81 => ⟨S1000x20x1, .f32⟩
  | 82 => ⟨S1000x1x20, .f32⟩
  | 83 => ⟨S1000x20x20, .f32⟩
  | 84 => ⟨S1000x20x20, .f32⟩
  | 85 => ⟨S1000x20x20, .f32⟩
  | 86 => ⟨S1000x20x1, .f32⟩
  | 87 => ⟨S1000x1x20, .f32⟩
  | 88 => ⟨S1000x20x20, .f32⟩
  | 89 => ⟨S1000x20x20, .f32⟩
  | 90 => ⟨S1000x20x20, .f32⟩
  | 91 => ⟨S1000x20x20, .f32⟩
  | 92 => ⟨S1000x20x1, .f32⟩
  | 93 => ⟨S1000x1x20, .f32⟩
  | 94 => ⟨S1000x20x20, .f32⟩
  | 95 => ⟨S1000x20x20, .f32⟩
  | 96 => ⟨S1000x20x20, .f32⟩
  | 97 => ⟨S1000x20x1, .f32⟩
  | 98 => ⟨S1000x1x20, .f32⟩
  | 99 => ⟨S1000x20x20, .f32⟩
  | 100 => ⟨S1000x20x20, .f32⟩
  | 101 => ⟨S1000x20x20, .f32⟩
  | 102 => ⟨S1000x20x20, .f32⟩
  | 103 => ⟨S_, .f32⟩
  | 104 => ⟨S1000x20x20, .f32⟩
  | 105 => ⟨S1000x20x20, .f32⟩
  | 106 => ⟨S_, .f32⟩
  | 107 => ⟨S1000x20x20, .f32⟩
  | 108 => ⟨S1000x20x20, .f32⟩
  | 109 => ⟨S1000x20x20, .f32⟩
  | 110 => ⟨S1000x20x1, .f32⟩
  | 111 => ⟨S1000x1x20, .f32⟩
  | 112 => ⟨S1000x20x20, .f32⟩
  | 113 => ⟨S1000x20x20, .f32⟩
  | 114 => ⟨S1000x20x20, .f32⟩
  | 115 => ⟨S1000x20x20, .f32⟩
  | 116 => ⟨S_, .f32⟩
  | 117 => ⟨S1000x20x20, .f32⟩
  | 118 => ⟨S1000x20x20, .f32⟩
  | 119 => ⟨S1000x20x20, .f32⟩
  | 120 => ⟨S20, .i32⟩
  | 121 => ⟨S1x20, .i32⟩
  | 122 => ⟨S20, .i32⟩
  | 123 => ⟨S20x1, .i32⟩
  | 124 => ⟨S20x20, .i32⟩
  | 125 => ⟨S20x20, .i32⟩
  | 126 => ⟨S20x20, .i1⟩
  | 127 => ⟨S_, .f32⟩
  | _ => ⟨S20000x5, .f32⟩

abbrev hbmTy0_1 (i : Nat) : BufTy := match i % 128 with
  | 0 => ⟨S1000x20x20, .f32⟩
  | 1 => ⟨S1000x20x20, .i1⟩
  | 2 => ⟨S1x20x20, .i1⟩
  | 3 => ⟨S1000x20x20, .i1⟩
  | 4 => ⟨S1000x20x20, .i1⟩
  | 5 => ⟨S_, .i1⟩
  | 6 => ⟨S1000x20, .i1⟩
  | 7 => ⟨S1000x1, .i1⟩
  | 8 => ⟨S1000x1, .i1⟩
  | 9 => ⟨S1000x1x20, .i1⟩
  | 10 => ⟨S1000x20, .i1⟩
  | 11 => ⟨S1000x20, .i1⟩
  | 12 => ⟨S1000x20, .i1⟩
  | 13 => ⟨S1000x20, .i1⟩
  | 14 => ⟨S1000x1, .i1⟩
  | 15 => ⟨S1000x1, .i1⟩
  | 16 => ⟨S1000x1x20, .i1⟩
  | 17 => ⟨S1000x20, .i1⟩
  | 18 => ⟨S1000x20, .i1⟩
  | 19 => ⟨S1000x20, .i1⟩
  | 20 => ⟨S1000x20, .i1⟩
  | 21 => ⟨S1000x1, .i1⟩
  | 22 => ⟨S1000x1, .i1⟩
  | 23 => ⟨S1000x1x20, .i1⟩
  | 24 => ⟨S1000x20, .i1⟩
  | 25 => ⟨S1000x20, .i1⟩
  | 26 => ⟨S1000x20, .i1⟩
  | 27 => ⟨S1000x20, .i1⟩
  | 28 => ⟨S1000x1, .i1⟩
  | 29 => ⟨S1000x1, .i1⟩
  | 30 => ⟨S1000x1x20, .i1⟩
  | 31 => ⟨S1000x20, .i1⟩
  | 32 => ⟨S1000x20, .i1⟩
  | 33 => ⟨S1000x20, .i1⟩
  | 34 => ⟨S1000x20, .i1⟩
  | 35 => ⟨S1000x1, .i1⟩
  | 36 => ⟨S1000x1, .i1⟩
  | 37 => ⟨S1000x1x20, .i1⟩
  | 38 => ⟨S1000x20, .i1⟩
  | 39 => ⟨S1000x20, .i1⟩
  | 40 => ⟨S1000x20, .i1⟩
  | 41 => ⟨S1000x20, .i1⟩
  | 42 => ⟨S1000x1, .i1⟩
  | 43 => ⟨S1000x1, .i1⟩
  | 44 => ⟨S1000x1x20, .i1⟩
  | 45 => ⟨S1000x20, .i1⟩
  | 46 => ⟨S1000x20, .i1⟩
  | 47 => ⟨S1000x20, .i1⟩
  | 48 => ⟨S1000x20, .i1⟩
  | 49 => ⟨S1000x1, .i1⟩
  | 50 => ⟨S1000x1, .i1⟩
  | 51 => ⟨S1000x1x20, .i1⟩
  | 52 => ⟨S1000x20, .i1⟩
  | 53 => ⟨S1000x20, .i1⟩
  | 54 => ⟨S1000x20, .i1⟩
  | 55 => ⟨S1000x20, .i1⟩
  | 56 => ⟨S1000x1, .i1⟩
  | 57 => ⟨S1000x1, .i1⟩
  | 58 => ⟨S1000x1x20, .i1⟩
  | 59 => ⟨S1000x20, .i1⟩
  | 60 => ⟨S1000x20, .i1⟩
  | 61 => ⟨S1000x20, .i1⟩
  | 62 => ⟨S1000x20, .i1⟩
  | 63 => ⟨S1000x1, .i1⟩
  | 64 => ⟨S1000x1, .i1⟩
  | 65 => ⟨S1000x1x20, .i1⟩
  | 66 => ⟨S1000x20, .i1⟩
  | 67 => ⟨S1000x20, .i1⟩
  | 68 => ⟨S1000x20, .i1⟩
  | 69 => ⟨S1000x20, .i1⟩
  | 70 => ⟨S1000x1, .i1⟩
  | 71 => ⟨S1000x1, .i1⟩
  | 72 => ⟨S1000x1x20, .i1⟩
  | 73 => ⟨S1000x20, .i1⟩
  | 74 => ⟨S1000x20, .i1⟩
  | 75 => ⟨S1000x20, .i1⟩
  | 76 => ⟨S1000x20, .i1⟩
  | 77 => ⟨S1000x1, .i1⟩
  | 78 => ⟨S1000x1, .i1⟩
  | 79 => ⟨S1000x1x20, .i1⟩
  | 80 => ⟨S1000x20, .i1⟩
  | 81 => ⟨S1000x20, .i1⟩
  | 82 => ⟨S1000x20, .i1⟩
  | 83 => ⟨S1000x20, .i1⟩
  | 84 => ⟨S1000x1, .i1⟩
  | 85 => ⟨S1000x1, .i1⟩
  | 86 => ⟨S1000x1x20, .i1⟩
  | 87 => ⟨S1000x20, .i1⟩
  | 88 => ⟨S1000x20, .i1⟩
  | 89 => ⟨S1000x20, .i1⟩
  | 90 => ⟨S1000x20, .i1⟩
  | 91 => ⟨S1000x1, .i1⟩
  | 92 => ⟨S1000x1, .i1⟩
  | 93 => ⟨S1000x1x20, .i1⟩
  | 94 => ⟨S1000x20, .i1⟩
  | 95 => ⟨S1000x20, .i1⟩
  | 96 => ⟨S1000x20, .i1⟩
  | 97 => ⟨S1000x20, .i1⟩
  | 98 => ⟨S1000x1, .i1⟩
  | 99 => ⟨S1000x1, .i1⟩
  | 100 => ⟨S1000x1x20, .i1⟩
  | 101 => ⟨S1000x20, .i1⟩
  | 102 => ⟨S1000x20, .i1⟩
  | 103 => ⟨S1000x20, .i1⟩
  | 104 => ⟨S1000x20, .i1⟩
  | 105 => ⟨S1000x1, .i1⟩
  | 106 => ⟨S1000x1, .i1⟩
  | 107 => ⟨S1000x1x20, .i1⟩
  | 108 => ⟨S1000x20, .i1⟩
  | 109 => ⟨S1000x20, .i1⟩
  | 110 => ⟨S1000x20, .i1⟩
  | 111 => ⟨S1000x20, .i1⟩
  | 112 => ⟨S1000x1, .i1⟩
  | 113 => ⟨S1000x1, .i1⟩
  | 114 => ⟨S1000x1x20, .i1⟩
  | 115 => ⟨S1000x20, .i1⟩
  | 116 => ⟨S1000x20, .i1⟩
  | 117 => ⟨S1000x20, .i1⟩
  | 118 => ⟨S1000x20, .i1⟩
  | 119 => ⟨S1000x1, .i1⟩
  | 120 => ⟨S1000x1, .i1⟩
  | 121 => ⟨S1000x1x20, .i1⟩
  | 122 => ⟨S1000x20, .i1⟩
  | 123 => ⟨S1000x20, .i1⟩
  | 124 => ⟨S1000x20, .i1⟩
  | 125 => ⟨S1000x20, .i1⟩
  | 126 => ⟨S1000x1, .i1⟩
  | 127 => ⟨S1000x1, .i1⟩
  | _ => ⟨S20000x5, .f32⟩

abbrev hbmTy0_2 (i : Nat) : BufTy := match i % 128 with
  | 0 => ⟨S1000x1x20, .i1⟩
  | 1 => ⟨S1000x20, .i1⟩
  | 2 => ⟨S1000x20, .i1⟩
  | 3 => ⟨S1000x20, .i1⟩
  | 4 => ⟨S1000x20, .i1⟩
  | 5 => ⟨S1000x1, .i1⟩
  | 6 => ⟨S1000x1, .i1⟩
  | 7 => ⟨S1000x1x20, .i1⟩
  | 8 => ⟨S1000x20, .i1⟩
  | 9 => ⟨S1000x20, .i1⟩
  | 10 => ⟨S1000x20, .i1⟩
  | 11 => ⟨S1000x20, .i1⟩
  | 12 => ⟨S1000x1, .i1⟩
  | 13 => ⟨S1000x1, .i1⟩
  | 14 => ⟨S1000x1x20, .i1⟩
  | 15 => ⟨S1000x20, .i1⟩
  | 16 => ⟨S1000x20, .i1⟩
  | 17 => ⟨S1000x20, .i1⟩
  | 18 => ⟨S1000x20, .i1⟩
  | 19 => ⟨S1000x20, .i1⟩
  | 20 => ⟨S1000x20, .i32⟩
  | 21 => ⟨S1000x20, .i32⟩
  | 22 => ⟨S1000x20, .i32⟩
  | 23 => ⟨S_, .i32⟩
  | 24 => ⟨S1000, .i32⟩
  | 25 => ⟨S_, .i32⟩
  | 26 => ⟨S1000, .i32⟩
  | 27 => ⟨S1000, .i1⟩
  | 28 => ⟨S1000x1, .i1⟩
  | 29 => ⟨S_, .i32⟩
  | 30 => ⟨S1000x20, .i32⟩
  | 31 => ⟨S1000x20, .i1⟩
  | 32 => ⟨S1000x20, .i1⟩
  | 33 => ⟨S1000x20, .i1⟩
  | 34 => ⟨S1000x1x1, .f32⟩
  | 35 => ⟨S1000, .f32⟩
  | 36 => ⟨S1000x1, .f32⟩
  | 37 => ⟨S1000x20, .f32⟩
  | 38 => ⟨S1000x20, .f32⟩
  | 39 => ⟨S1000x1x1, .f32⟩
  | 40 => ⟨S1000, .f32⟩
  | 41 => ⟨S1000x1, .f32⟩
  | 42 => ⟨S1000x20, .f32⟩
  | 43 => ⟨S1000x20, .f32⟩
  | 44 => ⟨S1000x20, .f32⟩
  | 45 => ⟨S1000x20, .f32⟩
  | 46 => ⟨S1000x20, .f32⟩
  | 47 => ⟨S1000x20, .f32⟩
  | 48 => ⟨S1000x20, .f32⟩
  | 49 => ⟨S_, .f32⟩
  | 50 => ⟨S_, .f32⟩
  | 51 => ⟨S1000x20, .f32⟩
  | 52 => ⟨S1000x20, .f32⟩
  | 53 => ⟨S1000x20, .f32⟩
  | 54 => ⟨S1000x20, .f32⟩
  | 55 => ⟨S1000x20, .f32⟩
  | 56 => ⟨S1000x20, .f32⟩
  | 57 => ⟨S1000x6, .f32⟩
  | 58 => ⟨S1000x6, .f32⟩
  | 59 => ⟨S1000x6, .f32⟩
  | 60 => ⟨S1000x6, .f32⟩
  | 61 => ⟨S1000x20, .f32⟩
  | 62 => ⟨S1000x20, .f32⟩
  | 63 => ⟨S1000x20, .f32⟩
  | 64 => ⟨S1000x6, .f32⟩
  | 65 => ⟨S1000x6, .f32⟩
  | 66 => ⟨S1000x6, .f32⟩
  | 67 => ⟨S1000x1, .f32⟩
  | 68 => ⟨S1000x1, .f32⟩
  | 69 => ⟨S1000x1, .f32⟩
  | 70 => ⟨S1000x1, .f32⟩
  | 71 => ⟨S30, .f32⟩
  | 72 => ⟨S_, .f32⟩
  | 73 => ⟨S30, .f32⟩
  | 74 => ⟨S30, .f32⟩
  | 75 => ⟨S_, .f32⟩
  | 76 => ⟨S1000x6, .f32⟩
  | 77 => ⟨S1000x6, .f32⟩
  | 78 => ⟨S1000x6, .f32⟩
  | 79 => ⟨S1000x6, .f32⟩
  | 80 => ⟨S_, .f32⟩
  | 81 => ⟨S1000x1, .f32⟩
  | 82 => ⟨S1000x1, .f32⟩
  | 83 => ⟨S1000x1, .f32⟩
  | 84 => ⟨S1000x6, .f32⟩
  | 85 => ⟨S1000x6, .f32⟩
  | 86 => ⟨S_, .f32⟩
  | 87 => ⟨S1000x1, .f32⟩
  | 88 => ⟨S1000x1, .f32⟩
  | 89 => ⟨S1000x6, .f32⟩
  | 90 => ⟨S1000x6, .f32⟩
  | 91 => ⟨S1000x6, .f32⟩
  | 92 => ⟨S1000x6, .f32⟩
  | 93 => ⟨S1000x6, .f32⟩
  | 94 => ⟨S1000x6, .f32⟩
  | 95 => ⟨S_, .f32⟩
  | 96 => ⟨S1000x6, .f32⟩
  | 97 => ⟨S1000x6, .f32⟩
  | 98 => ⟨S1000x6, .f32⟩
  | 99 => ⟨S1000x6, .f32⟩
  | 100 => ⟨S_, .f32⟩
  | 101 => ⟨S1000x1, .f32⟩
  | 102 => ⟨S1000x1, .f32⟩
  | 103 => ⟨S1000x1, .f32⟩
  | 104 => ⟨S1000x6, .f32⟩
  | 105 => ⟨S1000x6, .f32⟩
  | 106 => ⟨S_, .f32⟩
  | 107 => ⟨S1000x1, .f32⟩
  | 108 => ⟨S1000x1, .f32⟩
  | 109 => ⟨S1000x6, .f32⟩
  | 110 => ⟨S1000x6, .f32⟩
  | 111 => ⟨S1000x6, .f32⟩
  | 112 => ⟨S1000x6, .f32⟩
  | 113 => ⟨S1000x6, .f32⟩
  | 114 => ⟨S1000x6, .f32⟩
  | 115 => ⟨S1000x6x1, .f32⟩
  | 116 => ⟨S30, .f32⟩
  | 117 => ⟨S1x1x30, .f32⟩
  | 118 => ⟨S1000x6x30, .f32⟩
  | 119 => ⟨S1000x6x30, .f32⟩
  | 120 => ⟨S1000x6x30, .f32⟩
  | 121 => ⟨S1000x6x1, .f32⟩
  | 122 => ⟨S1x1x30, .f32⟩
  | 123 => ⟨S1000x6x30, .f32⟩
  | 124 => ⟨S1000x6x30, .f32⟩
  | 125 => ⟨S1000x6x30, .f32⟩
  | 126 => ⟨S1000x6x30, .f32⟩
  | 127 => ⟨S1000x1x1, .f32⟩
  | _ => ⟨S20000x5, .f32⟩

abbrev hbmTy0_3 (i : Nat) : BufTy := match i % 128 with
  | 0 => ⟨S1000x6x30, .f32⟩
  | 1 => ⟨S1000x6x30, .f32⟩
  | 2 => ⟨S1000x6x1, .f32⟩
  | 3 => ⟨S30, .f32⟩
  | 4 => ⟨S1x1x30, .f32⟩
  | 5 => ⟨S1000x6x30, .f32⟩
  | 6 => ⟨S1000x6x30, .f32⟩
  | 7 => ⟨S1000x6x30, .f32⟩
  | 8 => ⟨S1000x6x1, .f32⟩
  | 9 => ⟨S1x1x30, .f32⟩
  | 10 => ⟨S1000x6x30, .f32⟩
  | 11 => ⟨S1000x6x30, .f32⟩
  | 12 => ⟨S1000x6x30, .f32⟩
  | 13 => ⟨S1000x6x30, .f32⟩
  | 14 => ⟨S1000x1x1, .f32⟩
  | 15 => ⟨S1000x6x30, .f32⟩
  | 16 => ⟨S1000x6x30, .f32⟩
  | 17 => ⟨S1000x6x30x1, .f32⟩
  | 18 => ⟨S1000x6x30x1, .f32⟩
  | 19 => ⟨S1000x6x30x2, .f32⟩
  | 20 => ⟨S1000x30, .f32⟩
  | 21 => ⟨S30, .f32⟩
  | 22 => ⟨S_, .f32⟩
  | 23 => ⟨S30, .f32⟩
  | 24 => ⟨S30, .f32⟩
  | 25 => ⟨S_, .f32⟩
  | 26 => ⟨S30, .f32⟩
  | 27 => ⟨S30, .f32⟩
  | 28 => ⟨S1x30, .f32⟩
  | 29 => ⟨S1000x30, .f32⟩
  | 30 => ⟨S1000x30, .f32⟩
  | 31 => ⟨S_, .f32⟩
  | 32 => ⟨S1000, .f32⟩
  | 33 => ⟨S1000x30, .f32⟩
  | 34 => ⟨S1000x30, .i32⟩
  | 35 => ⟨S1000x30, .f32⟩
  | 36 => ⟨S1000x30, .i32⟩
  | 37 => ⟨S1000x1, .i32⟩
  | 38 => ⟨S1000, .i32⟩
  | 39 => ⟨S_, .f32⟩
  | 40 => ⟨S1000, .f32⟩
  | 41 => ⟨S1000, .i1⟩
  | 42 => ⟨S1000, .f32⟩
  | 43 => ⟨S1000, .i32⟩
  | 44 => ⟨S_, .i32⟩
  | 45 => ⟨S1000, .i32⟩
  | 46 => ⟨S1000, .i1⟩
  | 47 => ⟨S_, .i32⟩
  | 48 => ⟨S1000, .i32⟩
  | 49 => ⟨S1000, .i32⟩
  | 50 => ⟨S1000, .i32⟩
  | 51 => ⟨S_, .i32⟩
  | 52 => ⟨S1000, .i32⟩
  | 53 => ⟨S1000, .i1⟩
  | 54 => ⟨S_, .i32⟩
  | 55 => ⟨S1000, .i32⟩
  | 56 => ⟨S1000, .i32⟩
  | 57 => ⟨S1000, .i32⟩
  | 58 => ⟨S1000x1, .i32⟩
  | 59 => ⟨S1000x1, .i32⟩
  | 60 => ⟨S1000x2, .i32⟩
  | 61 => ⟨S1000x6x2, .f32⟩
  | 62 => ⟨S_, .i32⟩
  | 63 => ⟨S1000, .i32⟩
  | 64 => ⟨S1000, .i1⟩
  | 65 => ⟨S_, .i32⟩
  | 66 => ⟨S1000, .i32⟩
  | 67 => ⟨S1000, .i32⟩
  | 68 => ⟨S1000, .i32⟩
  | 69 => ⟨S_, .i32⟩
  | 70 => ⟨S1000, .i32⟩
  | 71 => ⟨S1000, .i1⟩
  | 72 => ⟨S_, .i32⟩
  | 73 => ⟨S1000, .i32⟩
  | 74 => ⟨S1000, .i32⟩
  | 75 => ⟨S1000, .i32⟩
  | 76 => ⟨S1000x1, .i32⟩
  | 77 => ⟨S1000x1, .i32⟩
  | 78 => ⟨S1000x2, .i32⟩
  | 79 => ⟨S1000x2, .f32⟩
  | 80 => ⟨S1000x1x2, .f32⟩
  | 81 => ⟨S1000x6x2, .f32⟩
  | 82 => ⟨S1000x6x2, .f32⟩
  | 83 => ⟨S1000x6x2, .f32⟩
  | 84 => ⟨S_, .f32⟩
  | 85 => ⟨S1000x6, .f32⟩
  | 86 => ⟨S1000x6, .f32⟩
  | 87 => ⟨S1000x6, .i32⟩
  | 88 => ⟨S1000x6, .f32⟩
  | 89 => ⟨S1000x6, .i32⟩
  | 90 => ⟨S1000x1, .i32⟩
  | 91 => ⟨S1000, .i32⟩
  | 92 => ⟨S1000x1, .i32⟩
  | 93 => ⟨S1x6, .i32⟩
  | 94 => ⟨S1000x6, .i32⟩
  | 95 => ⟨S1000x6, .i32⟩
  | 96 => ⟨S1000x6, .i1⟩
  | 97 => ⟨S1000x6, .f32⟩
  | 98 => ⟨S_, .f32⟩
  | 99 => ⟨S1000x6, .f32⟩
  | 100 => ⟨S1000x6, .f32⟩
  | 101 => ⟨S1000x6, .f32⟩
  | 102 => ⟨S1000x6, .f32⟩
  | 103 => ⟨S1000x6, .f32⟩
  | 104 => ⟨S1000x6, .f32⟩
  | 105 => ⟨S1000x6, .f32⟩
  | 106 => ⟨S1000x6, .f32⟩
  | 107 => ⟨S1000x6, .f32⟩
  | 108 => ⟨S1000x1, .f32⟩
  | 109 => ⟨S1000x6, .f32⟩
  | 110 => ⟨S1000x6, .f32⟩
  | 111 => ⟨S_, .f32⟩
  | 112 => ⟨S_, .f32⟩
  | 113 => ⟨S_, .i32⟩
  | 114 => ⟨S1000, .i32⟩
  | 115 => ⟨S1000, .i1⟩
  | 116 => ⟨S_, .i32⟩
  | 117 => ⟨S1000, .i32⟩
  | 118 => ⟨S1000, .i32⟩
  | 119 => ⟨S1000, .i32⟩
  | 120 => ⟨S_, .i32⟩
  | 121 => ⟨S1000, .i32⟩
  | 122 => ⟨S1000, .i1⟩
  | 123 => ⟨S_, .i32⟩
  | 124 => ⟨S1000, .i32⟩
  | 125 => ⟨S1000, .i32⟩
  | 126 => ⟨S1000, .i32⟩
  | 127 => ⟨S1000x1, .i32⟩
  | _ => ⟨S20000x5, .f32⟩

abbrev hbmTy0_4 (i : Nat) : BufTy := match i % 128 with
  | 0 => ⟨S1000x1, .i32⟩
  | 1 => ⟨S1000x2, .i32⟩
  | 2 => ⟨S1000x30x2, .f32⟩
  | 3 => ⟨S1000x30x2, .f32⟩
  | 4 => ⟨S1000x30x2, .f32⟩
  | 5 => ⟨S_, .f32⟩
  | 6 => ⟨S1000x30x2, .f32⟩
  | 7 => ⟨S1000x30x2, .i1⟩
  | 8 => ⟨S1000x30x2, .f32⟩
  | 9 => ⟨S_, .f32⟩
  | 10 => ⟨S1000x30x2, .f32⟩
  | 11 => ⟨S1000x30x2, .f32⟩
  | 12 => ⟨S_, .f32⟩
  | 13 => ⟨S1000x30x2, .f32⟩
  | 14 => ⟨S1000x30x2, .f32⟩
  | 15 => ⟨S1000x30x2, .f32⟩
  | 16 => ⟨S1000x30, .f32⟩
  | 17 => ⟨S1000x30x1, .f32⟩
  | 18 => ⟨S1000x1x1, .f32⟩
  | 19 => ⟨S1000x30x1, .f32⟩
  | 20 => ⟨S1000x30x1, .f32⟩
  | 21 => ⟨S1000x30x2, .f32⟩
  | 22 => ⟨S1000x30x2, .f32⟩
  | 23 => ⟨S_, .f32⟩
  | 24 => ⟨S_, .f32⟩
  | 25 => ⟨S_, .f32⟩
  | 26 => ⟨S_, .f32⟩
  | 27 => ⟨S1x6x30x2, .f32⟩
  | 28 => ⟨S6x30x2, .f32⟩
  | _ => ⟨S20000x5, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S20000x5, .f32⟩

abbrev bufTy : (tb : Table) → Fin (tcTables nBuf tb) → BufTy
  | .hbm, ⟨i, _⟩ => hbmTy i
  | _, _ => ⟨S20000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_5 : Ref sig .tc := ⟨.hbm, 34, rfl⟩
abbrev main_v21 : Ref sig .tc := ⟨.hbm, 35, rfl⟩
abbrev main_v22 : Ref sig .tc := ⟨.hbm, 36, rfl⟩
abbrev main_c_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47_0 : Ref sig .tc := ⟨.hbm, 62, rfl⟩
abbrev main_v47_1 : Ref sig .tc := ⟨.hbm, 63, rfl⟩
abbrev main_v47_2 : Ref sig .tc := ⟨.hbm, 64, rfl⟩
abbrev main_v47_3 : Ref sig .tc := ⟨.hbm, 65, rfl⟩
abbrev main_cst : Ref sig .tc := ⟨.hbm, 66, rfl⟩
abbrev main_v48 : Ref sig .tc := ⟨.hbm, 67, rfl⟩
abbrev main_v49 : Ref sig .tc := ⟨.hbm, 68, rfl⟩
abbrev main_cst_7 : Ref sig .tc := ⟨.hbm, 69, rfl⟩
abbrev main_v50 : Ref sig .tc := ⟨.hbm, 70, rfl⟩
abbrev main_v51 : Ref sig .tc := ⟨.hbm, 71, rfl⟩
abbrev main_cst_8 : Ref sig .tc := ⟨.hbm, 72, rfl⟩
abbrev main_v52 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_10 : Ref sig .tc := ⟨.hbm, 103, rfl⟩
abbrev main_v81 : Ref sig .tc := ⟨.hbm, 104, rfl⟩
abbrev main_v82 : Ref sig .tc := ⟨.hbm, 105, rfl⟩
abbrev main_cst_11 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_cst_12 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_cst_13 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_c_14 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_v169 : Ref sig .tc := ⟨.hbm, 196, rfl⟩
abbrev main_v170 : Ref sig .tc := ⟨.hbm, 197, rfl⟩
abbrev main_v171 : Ref sig .tc := ⟨.hbm, 198, rfl⟩
abbrev main_v172 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩
abbrev main_v185 : Ref sig .tc := ⟨.hbm, 212, rfl⟩
abbrev main_v186 : Ref sig .tc := ⟨.hbm, 213, rfl⟩
abbrev main_v187 : Ref sig .tc := ⟨.hbm, 214, rfl⟩
abbrev main_v188 : Ref sig .tc := ⟨.hbm, 215, rfl⟩
abbrev main_v189 : Ref sig .tc := ⟨.hbm, 216, rfl⟩
abbrev main_v190 : Ref sig .tc := ⟨.hbm, 217, rfl⟩
abbrev main_v191 : Ref sig .tc := ⟨.hbm, 218, rfl⟩
abbrev main_v192 : Ref sig .tc := ⟨.hbm, 219, rfl⟩
abbrev main_v193 : Ref sig .tc := ⟨.hbm, 220, rfl⟩
abbrev main_v194 : Ref sig .tc := ⟨.hbm, 221, rfl⟩
abbrev main_v195 : Ref sig .tc := ⟨.hbm, 222, rfl⟩
abbrev main_v196 : Ref sig .tc := ⟨.hbm, 223, rfl⟩
abbrev main_v197 : Ref sig .tc := ⟨.hbm, 224, rfl⟩
abbrev main_v198 : Ref sig .tc := ⟨.hbm, 225, rfl⟩
abbrev main_v199 : Ref sig .tc := ⟨.hbm, 226, rfl⟩
abbrev main_v200 : Ref sig .tc := ⟨.hbm, 227, rfl⟩
abbrev main_v201 : Ref sig .tc := ⟨.hbm, 228, rfl⟩
abbrev main_v202 : Ref sig .tc := ⟨.hbm, 229, rfl⟩
abbrev main_v203 : Ref sig .tc := ⟨.hbm, 230, rfl⟩
abbrev main_v204 : Ref sig .tc := ⟨.hbm, 231, rfl⟩
abbrev main_v205 : Ref sig .tc := ⟨.hbm, 232, rfl⟩
abbrev main_v206 : Ref sig .tc := ⟨.hbm, 233, rfl⟩
abbrev main_v207 : Ref sig .tc := ⟨.hbm, 234, rfl⟩
abbrev main_v208 : Ref sig .tc := ⟨.hbm, 235, rfl⟩
abbrev main_v209 : Ref sig .tc := ⟨.hbm, 236, rfl⟩
abbrev main_v210 : Ref sig .tc := ⟨.hbm, 237, rfl⟩
abbrev main_v211 : Ref sig .tc := ⟨.hbm, 238, rfl⟩
abbrev main_v212 : Ref sig .tc := ⟨.hbm, 239, rfl⟩
abbrev main_v213 : Ref sig .tc := ⟨.hbm, 240, rfl⟩
abbrev main_v214 : Ref sig .tc := ⟨.hbm, 241, rfl⟩
abbrev main_v215 : Ref sig .tc := ⟨.hbm, 242, rfl⟩
abbrev main_v216 : Ref sig .tc := ⟨.hbm, 243, rfl⟩
abbrev main_v217 : Ref sig .tc := ⟨.hbm, 244, rfl⟩
abbrev main_v218 : Ref sig .tc := ⟨.hbm, 245, rfl⟩
abbrev main_v219 : Ref sig .tc := ⟨.hbm, 246, rfl⟩
abbrev main_v220 : Ref sig .tc := ⟨.hbm, 247, rfl⟩
abbrev main_v221 : Ref sig .tc := ⟨.hbm, 248, rfl⟩
abbrev main_v222 : Ref sig .tc := ⟨.hbm, 249, rfl⟩
abbrev main_v223 : Ref sig .tc := ⟨.hbm, 250, rfl⟩
abbrev main_v224 : Ref sig .tc := ⟨.hbm, 251, rfl⟩
abbrev main_v225 : Ref sig .tc := ⟨.hbm, 252, rfl⟩
abbrev main_v226 : Ref sig .tc := ⟨.hbm, 253, rfl⟩
abbrev main_v227 : Ref sig .tc := ⟨.hbm, 254, rfl⟩
abbrev main_v228 : Ref sig .tc := ⟨.hbm, 255, rfl⟩
abbrev main_v229 : Ref sig .tc := ⟨.hbm, 256, rfl⟩
abbrev main_v230 : Ref sig .tc := ⟨.hbm, 257, rfl⟩
abbrev main_v231 : Ref sig .tc := ⟨.hbm, 258, rfl⟩
abbrev main_v232 : Ref sig .tc := ⟨.hbm, 259, rfl⟩
abbrev main_v233 : Ref sig .tc := ⟨.hbm, 260, rfl⟩
abbrev main_v234 : Ref sig .tc := ⟨.hbm, 261, rfl⟩
abbrev main_v235 : Ref sig .tc := ⟨.hbm, 262, rfl⟩
abbrev main_v236 : Ref sig .tc := ⟨.hbm, 263, rfl⟩
abbrev main_v237 : Ref sig .tc := ⟨.hbm, 264, rfl⟩
abbrev main_v238 : Ref sig .tc := ⟨.hbm, 265, rfl⟩
abbrev main_v239 : Ref sig .tc := ⟨.hbm, 266, rfl⟩
abbrev main_v240 : Ref sig .tc := ⟨.hbm, 267, rfl⟩
abbrev main_v241 : Ref sig .tc := ⟨.hbm, 268, rfl⟩
abbrev main_v242 : Ref sig .tc := ⟨.hbm, 269, rfl⟩
abbrev main_v243 : Ref sig .tc := ⟨.hbm, 270, rfl⟩
abbrev main_v244 : Ref sig .tc := ⟨.hbm, 271, rfl⟩
abbrev main_v245 : Ref sig .tc := ⟨.hbm, 272, rfl⟩
abbrev main_v246 : Ref sig .tc := ⟨.hbm, 273, rfl⟩
abbrev main_v247 : Ref sig .tc := ⟨.hbm, 274, rfl⟩
abbrev main_v248 : Ref sig .tc := ⟨.hbm, 275, rfl⟩
abbrev main_v249 : Ref sig .tc := ⟨.hbm, 276, rfl⟩
abbrev main_v250_0 : Ref sig .tc := ⟨.hbm, 277, rfl⟩
abbrev main_v250_1 : Ref sig .tc := ⟨.hbm, 278, rfl⟩
abbrev main_c_15 : Ref sig .tc := ⟨.hbm, 279, rfl⟩
abbrev main_v251 : Ref sig .tc := ⟨.hbm, 280, rfl⟩
abbrev main_c_16 : Ref sig .tc := ⟨.hbm, 281, rfl⟩
abbrev main_v252 : Ref sig .tc := ⟨.hbm, 282, rfl⟩
abbrev main_v253 : Ref sig .tc := ⟨.hbm, 283, rfl⟩
abbrev main_v254 : Ref sig .tc := ⟨.hbm, 284, rfl⟩
abbrev main_c_17 : Ref sig .tc := ⟨.hbm, 285, rfl⟩
abbrev main_v255 : Ref sig .tc := ⟨.hbm, 286, rfl⟩
abbrev main_v256 : Ref sig .tc := ⟨.hbm, 287, rfl⟩
abbrev main_v257 : Ref sig .tc := ⟨.hbm, 288, rfl⟩
abbrev main_v258 : Ref sig .tc := ⟨.hbm, 289, rfl⟩
abbrev main_v259 : Ref sig .tc := ⟨.hbm, 290, rfl⟩
abbrev main_v260 : Ref sig .tc := ⟨.hbm, 291, rfl⟩
abbrev main_v261 : Ref sig .tc := ⟨.hbm, 292, rfl⟩
abbrev main_v262 : Ref sig .tc := ⟨.hbm, 293, rfl⟩
abbrev main_v263 : Ref sig .tc := ⟨.hbm, 294, rfl⟩
abbrev main_v264 : Ref sig .tc := ⟨.hbm, 295, rfl⟩
abbrev main_v265 : Ref sig .tc := ⟨.hbm, 296, rfl⟩
abbrev main_v266 : Ref sig .tc := ⟨.hbm, 297, rfl⟩
abbrev main_v267 : Ref sig .tc := ⟨.hbm, 298, rfl⟩
abbrev main_v268 : Ref sig .tc := ⟨.hbm, 299, rfl⟩
abbrev main_v269 : Ref sig .tc := ⟨.hbm, 300, rfl⟩
abbrev main_v270 : Ref sig .tc := ⟨.hbm, 301, rfl⟩
abbrev main_v271 : Ref sig .tc := ⟨.hbm, 302, rfl⟩
abbrev main_v272 : Ref sig .tc := ⟨.hbm, 303, rfl⟩
abbrev main_v273 : Ref sig .tc := ⟨.hbm, 304, rfl⟩
abbrev main_cst_18 : Ref sig .tc := ⟨.hbm, 305, rfl⟩
abbrev main_call0_v0 : Ref sig .tc := ⟨.hbm, 306, rfl⟩
abbrev main_call0_v1 : Ref sig .tc := ⟨.hbm, 307, rfl⟩
abbrev main_v274 : Ref sig .tc := ⟨.hbm, 308, rfl⟩
abbrev main_v275_0 : Ref sig .tc := ⟨.hbm, 309, rfl⟩
abbrev main_v275_1 : Ref sig .tc := ⟨.hbm, 310, rfl⟩
abbrev main_v275_2 : Ref sig .tc := ⟨.hbm, 311, rfl⟩
abbrev main_v275_3 : Ref sig .tc := ⟨.hbm, 312, rfl⟩
abbrev main_v276 : Ref sig .tc := ⟨.hbm, 313, rfl⟩
abbrev main_v277 : Ref sig .tc := ⟨.hbm, 314, rfl⟩
abbrev main_v278 : Ref sig .tc := ⟨.hbm, 315, rfl⟩
abbrev main_v279 : Ref sig .tc := ⟨.hbm, 316, rfl⟩
abbrev main_v280_0 : Ref sig .tc := ⟨.hbm, 317, rfl⟩
abbrev main_v280_1 : Ref sig .tc := ⟨.hbm, 318, rfl⟩
abbrev main_v280_2 : Ref sig .tc := ⟨.hbm, 319, rfl⟩
abbrev main_v281 : Ref sig .tc := ⟨.hbm, 320, rfl⟩
abbrev main_v282 : Ref sig .tc := ⟨.hbm, 321, rfl⟩
abbrev main_v283 : Ref sig .tc := ⟨.hbm, 322, rfl⟩
abbrev main_v284 : Ref sig .tc := ⟨.hbm, 323, rfl⟩
abbrev main_v285 : Ref sig .tc := ⟨.hbm, 324, rfl⟩
abbrev main_v286 : Ref sig .tc := ⟨.hbm, 325, rfl⟩
abbrev main_v287 : Ref sig .tc := ⟨.hbm, 326, rfl⟩
abbrev main_v288 : Ref sig .tc := ⟨.hbm, 327, rfl⟩
abbrev main_cst_19 : Ref sig .tc := ⟨.hbm, 328, rfl⟩
abbrev main_v289 : Ref sig .tc := ⟨.hbm, 329, rfl⟩
abbrev main_v290 : Ref sig .tc := ⟨.hbm, 330, rfl⟩
abbrev main_cst_20 : Ref sig .tc := ⟨.hbm, 331, rfl⟩
abbrev main_v291 : Ref sig .tc := ⟨.hbm, 332, rfl⟩
abbrev main_v292 : Ref sig .tc := ⟨.hbm, 333, rfl⟩
abbrev main_v293 : Ref sig .tc := ⟨.hbm, 334, rfl⟩
abbrev main_v294 : Ref sig .tc := ⟨.hbm, 335, rfl⟩
abbrev main_cst_21 : Ref sig .tc := ⟨.hbm, 336, rfl⟩
abbrev main_v295 : Ref sig .tc := ⟨.hbm, 337, rfl⟩
abbrev main_v296 : Ref sig .tc := ⟨.hbm, 338, rfl⟩
abbrev main_v297 : Ref sig .tc := ⟨.hbm, 339, rfl⟩
abbrev main_v298 : Ref sig .tc := ⟨.hbm, 340, rfl⟩
abbrev main_v299 : Ref sig .tc := ⟨.hbm, 341, rfl⟩
abbrev main_cst_22 : Ref sig .tc := ⟨.hbm, 342, rfl⟩
abbrev main_v300 : Ref sig .tc := ⟨.hbm, 343, rfl⟩
abbrev main_v301 : Ref sig .tc := ⟨.hbm, 344, rfl⟩
abbrev main_v302 : Ref sig .tc := ⟨.hbm, 345, rfl⟩
abbrev main_v303 : Ref sig .tc := ⟨.hbm, 346, rfl⟩
abbrev main_v304 : Ref sig .tc := ⟨.hbm, 347, rfl⟩
abbrev main_v305 : Ref sig .tc := ⟨.hbm, 348, rfl⟩
abbrev main_v306 : Ref sig .tc := ⟨.hbm, 349, rfl⟩
abbrev main_v307 : Ref sig .tc := ⟨.hbm, 350, rfl⟩
abbrev main_cst_23 : Ref sig .tc := ⟨.hbm, 351, rfl⟩
abbrev main_v308 : Ref sig .tc := ⟨.hbm, 352, rfl⟩
abbrev main_v309 : Ref sig .tc := ⟨.hbm, 353, rfl⟩
abbrev main_v310 : Ref sig .tc := ⟨.hbm, 354, rfl⟩
abbrev main_v311 : Ref sig .tc := ⟨.hbm, 355, rfl⟩
abbrev main_cst_24 : Ref sig .tc := ⟨.hbm, 356, rfl⟩
abbrev main_v312 : Ref sig .tc := ⟨.hbm, 357, rfl⟩
abbrev main_v313 : Ref sig .tc := ⟨.hbm, 358, rfl⟩
abbrev main_v314 : Ref sig .tc := ⟨.hbm, 359, rfl⟩
abbrev main_v315 : Ref sig .tc := ⟨.hbm, 360, rfl⟩
abbrev main_v316 : Ref sig .tc := ⟨.hbm, 361, rfl⟩
abbrev main_cst_25 : Ref sig .tc := ⟨.hbm, 362, rfl⟩
abbrev main_v317 : Ref sig .tc := ⟨.hbm, 363, rfl⟩
abbrev main_v318 : Ref sig .tc := ⟨.hbm, 364, rfl⟩
abbrev main_v319 : Ref sig .tc := ⟨.hbm, 365, rfl⟩
abbrev main_v320 : Ref sig .tc := ⟨.hbm, 366, rfl⟩
abbrev main_v321 : Ref sig .tc := ⟨.hbm, 367, rfl⟩
abbrev main_v322 : Ref sig .tc := ⟨.hbm, 368, rfl⟩
abbrev main_v323 : Ref sig .tc := ⟨.hbm, 369, rfl⟩
abbrev main_v324 : Ref sig .tc := ⟨.hbm, 370, rfl⟩
abbrev main_v325 : Ref sig .tc := ⟨.hbm, 371, rfl⟩
abbrev main_v326 : Ref sig .tc := ⟨.hbm, 372, rfl⟩
abbrev main_v327 : Ref sig .tc := ⟨.hbm, 373, rfl⟩
abbrev main_v328 : Ref sig .tc := ⟨.hbm, 374, rfl⟩
abbrev main_v329 : Ref sig .tc := ⟨.hbm, 375, rfl⟩
abbrev main_v330 : Ref sig .tc := ⟨.hbm, 376, rfl⟩
abbrev main_v331 : Ref sig .tc := ⟨.hbm, 377, rfl⟩
abbrev main_v332 : Ref sig .tc := ⟨.hbm, 378, rfl⟩
abbrev main_v333 : Ref sig .tc := ⟨.hbm, 379, rfl⟩
abbrev main_v334 : Ref sig .tc := ⟨.hbm, 380, rfl⟩
abbrev main_v335 : Ref sig .tc := ⟨.hbm, 381, rfl⟩
abbrev main_v336 : Ref sig .tc := ⟨.hbm, 382, rfl⟩
abbrev main_v337 : Ref sig .tc := ⟨.hbm, 383, rfl⟩
abbrev main_v338 : Ref sig .tc := ⟨.hbm, 384, rfl⟩
abbrev main_v339 : Ref sig .tc := ⟨.hbm, 385, rfl⟩
abbrev main_v340 : Ref sig .tc := ⟨.hbm, 386, rfl⟩
abbrev main_v341 : Ref sig .tc := ⟨.hbm, 387, rfl⟩
abbrev main_v342 : Ref sig .tc := ⟨.hbm, 388, rfl⟩
abbrev main_v343 : Ref sig .tc := ⟨.hbm, 389, rfl⟩
abbrev main_v344 : Ref sig .tc := ⟨.hbm, 390, rfl⟩
abbrev main_v345 : Ref sig .tc := ⟨.hbm, 391, rfl⟩
abbrev main_v346 : Ref sig .tc := ⟨.hbm, 392, rfl⟩
abbrev main_v347 : Ref sig .tc := ⟨.hbm, 393, rfl⟩
abbrev main_v348 : Ref sig .tc := ⟨.hbm, 394, rfl⟩
abbrev main_v349 : Ref sig .tc := ⟨.hbm, 395, rfl⟩
abbrev main_v350 : Ref sig .tc := ⟨.hbm, 396, rfl⟩
abbrev main_v351 : Ref sig .tc := ⟨.hbm, 397, rfl⟩
abbrev main_v352 : Ref sig .tc := ⟨.hbm, 398, rfl⟩
abbrev main_v353 : Ref sig .tc := ⟨.hbm, 399, rfl⟩
abbrev main_v354 : Ref sig .tc := ⟨.hbm, 400, rfl⟩
abbrev main_v355 : Ref sig .tc := ⟨.hbm, 401, rfl⟩
abbrev main_v356 : Ref sig .tc := ⟨.hbm, 402, rfl⟩
abbrev main_v357 : Ref sig .tc := ⟨.hbm, 403, rfl⟩
abbrev main_v358 : Ref sig .tc := ⟨.hbm, 404, rfl⟩
abbrev main_v359 : Ref sig .tc := ⟨.hbm, 405, rfl⟩
abbrev main_cst_26 : Ref sig .tc := ⟨.hbm, 406, rfl⟩
abbrev main_v360 : Ref sig .tc := ⟨.hbm, 407, rfl⟩
abbrev main_v361 : Ref sig .tc := ⟨.hbm, 408, rfl⟩
abbrev main_cst_27 : Ref sig .tc := ⟨.hbm, 409, rfl⟩
abbrev main_v362 : Ref sig .tc := ⟨.hbm, 410, rfl⟩
abbrev main_v363 : Ref sig .tc := ⟨.hbm, 411, rfl⟩
abbrev main_v364 : Ref sig .tc := ⟨.hbm, 412, rfl⟩
abbrev main_v365 : Ref sig .tc := ⟨.hbm, 413, rfl⟩
abbrev main_v366 : Ref sig .tc := ⟨.hbm, 414, rfl⟩
abbrev main_cst_28 : Ref sig .tc := ⟨.hbm, 415, rfl⟩
abbrev main_v367 : Ref sig .tc := ⟨.hbm, 416, rfl⟩
abbrev main_v368 : Ref sig .tc := ⟨.hbm, 417, rfl⟩
abbrev main_call1_v0 : Ref sig .tc := ⟨.hbm, 418, rfl⟩
abbrev main_call1_v1_0 : Ref sig .tc := ⟨.hbm, 419, rfl⟩
abbrev main_v369 : Ref sig .tc := ⟨.hbm, 420, rfl⟩
abbrev main_v370 : Ref sig .tc := ⟨.hbm, 421, rfl⟩
abbrev main_v371 : Ref sig .tc := ⟨.hbm, 422, rfl⟩
abbrev main_cst_29 : Ref sig .tc := ⟨.hbm, 423, rfl⟩
abbrev main_v372 : Ref sig .tc := ⟨.hbm, 424, rfl⟩
abbrev main_v373 : Ref sig .tc := ⟨.hbm, 425, rfl⟩
abbrev main_v374 : Ref sig .tc := ⟨.hbm, 426, rfl⟩
abbrev main_v375 : Ref sig .tc := ⟨.hbm, 427, rfl⟩
abbrev main_c_30 : Ref sig .tc := ⟨.hbm, 428, rfl⟩
abbrev main_v376 : Ref sig .tc := ⟨.hbm, 429, rfl⟩
abbrev main_v377 : Ref sig .tc := ⟨.hbm, 430, rfl⟩
abbrev main_c_31 : Ref sig .tc := ⟨.hbm, 431, rfl⟩
abbrev main_v378 : Ref sig .tc := ⟨.hbm, 432, rfl⟩
abbrev main_v379 : Ref sig .tc := ⟨.hbm, 433, rfl⟩
abbrev main_v380 : Ref sig .tc := ⟨.hbm, 434, rfl⟩
abbrev main_c_32 : Ref sig .tc := ⟨.hbm, 435, rfl⟩
abbrev main_v381 : Ref sig .tc := ⟨.hbm, 436, rfl⟩
abbrev main_v382 : Ref sig .tc := ⟨.hbm, 437, rfl⟩
abbrev main_c_33 : Ref sig .tc := ⟨.hbm, 438, rfl⟩
abbrev main_v383 : Ref sig .tc := ⟨.hbm, 439, rfl⟩
abbrev main_v384 : Ref sig .tc := ⟨.hbm, 440, rfl⟩
abbrev main_v385 : Ref sig .tc := ⟨.hbm, 441, rfl⟩
abbrev main_v386 : Ref sig .tc := ⟨.hbm, 442, rfl⟩
abbrev main_v387 : Ref sig .tc := ⟨.hbm, 443, rfl⟩
abbrev main_v388 : Ref sig .tc := ⟨.hbm, 444, rfl⟩
abbrev main_v389 : Ref sig .tc := ⟨.hbm, 445, rfl⟩
abbrev main_c_34 : Ref sig .tc := ⟨.hbm, 446, rfl⟩
abbrev main_v390 : Ref sig .tc := ⟨.hbm, 447, rfl⟩
abbrev main_v391 : Ref sig .tc := ⟨.hbm, 448, rfl⟩
abbrev main_c_35 : Ref sig .tc := ⟨.hbm, 449, rfl⟩
abbrev main_v392 : Ref sig .tc := ⟨.hbm, 450, rfl⟩
abbrev main_v393 : Ref sig .tc := ⟨.hbm, 451, rfl⟩
abbrev main_v394 : Ref sig .tc := ⟨.hbm, 452, rfl⟩
abbrev main_c_36 : Ref sig .tc := ⟨.hbm, 453, rfl⟩
abbrev main_v395 : Ref sig .tc := ⟨.hbm, 454, rfl⟩
abbrev main_v396 : Ref sig .tc := ⟨.hbm, 455, rfl⟩
abbrev main_c_37 : Ref sig .tc := ⟨.hbm, 456, rfl⟩
abbrev main_v397 : Ref sig .tc := ⟨.hbm, 457, rfl⟩
abbrev main_v398 : Ref sig .tc := ⟨.hbm, 458, rfl⟩
abbrev main_v399 : Ref sig .tc := ⟨.hbm, 459, rfl⟩
abbrev main_v400 : Ref sig .tc := ⟨.hbm, 460, rfl⟩
abbrev main_v401 : Ref sig .tc := ⟨.hbm, 461, rfl⟩
abbrev main_v402 : Ref sig .tc := ⟨.hbm, 462, rfl⟩
abbrev main_v403 : Ref sig .tc := ⟨.hbm, 463, rfl⟩
abbrev main_v404 : Ref sig .tc := ⟨.hbm, 464, rfl⟩
abbrev main_v405 : Ref sig .tc := ⟨.hbm, 465, rfl⟩
abbrev main_v406 : Ref sig .tc := ⟨.hbm, 466, rfl⟩
abbrev main_v407 : Ref sig .tc := ⟨.hbm, 467, rfl⟩
abbrev main_cst_38 : Ref sig .tc := ⟨.hbm, 468, rfl⟩
abbrev main_v408 : Ref sig .tc := ⟨.hbm, 469, rfl⟩
abbrev main_v409 : Ref sig .tc := ⟨.hbm, 470, rfl⟩
abbrev main_call2_v0 : Ref sig .tc := ⟨.hbm, 471, rfl⟩
abbrev main_call2_v1_0 : Ref sig .tc := ⟨.hbm, 472, rfl⟩
abbrev main_v410 : Ref sig .tc := ⟨.hbm, 473, rfl⟩
abbrev main_v411 : Ref sig .tc := ⟨.hbm, 474, rfl⟩
abbrev main_v412 : Ref sig .tc := ⟨.hbm, 475, rfl⟩
abbrev main_call3_v0 : Ref sig .tc := ⟨.hbm, 476, rfl⟩
abbrev main_call3_v1 : Ref sig .tc := ⟨.hbm, 477, rfl⟩
abbrev main_call3_v2 : Ref sig .tc := ⟨.hbm, 478, rfl⟩
abbrev main_call3_v3 : Ref sig .tc := ⟨.hbm, 479, rfl⟩
abbrev main_call3_v4 : Ref sig .tc := ⟨.hbm, 480, rfl⟩
abbrev main_v413 : Ref sig .tc := ⟨.hbm, 481, rfl⟩
abbrev main_cst_39 : Ref sig .tc := ⟨.hbm, 482, rfl⟩
abbrev main_v414 : Ref sig .tc := ⟨.hbm, 483, rfl⟩
abbrev main_v415 : Ref sig .tc := ⟨.hbm, 484, rfl⟩
abbrev main_v416 : Ref sig .tc := ⟨.hbm, 485, rfl⟩
abbrev main_v417 : Ref sig .tc := ⟨.hbm, 486, rfl⟩
abbrev main_v418 : Ref sig .tc := ⟨.hbm, 487, rfl⟩
abbrev main_v419 : Ref sig .tc := ⟨.hbm, 488, rfl⟩
abbrev main_v420 : Ref sig .tc := ⟨.hbm, 489, rfl⟩
abbrev main_v421 : Ref sig .tc := ⟨.hbm, 490, rfl⟩
abbrev main_v422 : Ref sig .tc := ⟨.hbm, 491, rfl⟩
abbrev main_v423 : Ref sig .tc := ⟨.hbm, 492, rfl⟩
abbrev main_v424 : Ref sig .tc := ⟨.hbm, 493, rfl⟩
abbrev main_v425 : Ref sig .tc := ⟨.hbm, 494, rfl⟩
abbrev main_cst_40 : Ref sig .tc := ⟨.hbm, 495, rfl⟩
abbrev main_v426 : Ref sig .tc := ⟨.hbm, 496, rfl⟩
abbrev main_c_41 : Ref sig .tc := ⟨.hbm, 497, rfl⟩
abbrev main_v427 : Ref sig .tc := ⟨.hbm, 498, rfl⟩
abbrev main_v428 : Ref sig .tc := ⟨.hbm, 499, rfl⟩
abbrev main_c_42 : Ref sig .tc := ⟨.hbm, 500, rfl⟩
abbrev main_v429 : Ref sig .tc := ⟨.hbm, 501, rfl⟩
abbrev main_v430 : Ref sig .tc := ⟨.hbm, 502, rfl⟩
abbrev main_v431 : Ref sig .tc := ⟨.hbm, 503, rfl⟩
abbrev main_c_43 : Ref sig .tc := ⟨.hbm, 504, rfl⟩
abbrev main_v432 : Ref sig .tc := ⟨.hbm, 505, rfl⟩
abbrev main_v433 : Ref sig .tc := ⟨.hbm, 506, rfl⟩
abbrev main_c_44 : Ref sig .tc := ⟨.hbm, 507, rfl⟩
abbrev main_v434 : Ref sig .tc := ⟨.hbm, 508, rfl⟩
abbrev main_v435 : Ref sig .tc := ⟨.hbm, 509, rfl⟩
abbrev main_v436 : Ref sig .tc := ⟨.hbm, 510, rfl⟩
abbrev main_v437 : Ref sig .tc := ⟨.hbm, 511, rfl⟩
abbrev main_v438 : Ref sig .tc := ⟨.hbm, 512, rfl⟩
abbrev main_v439 : Ref sig .tc := ⟨.hbm, 513, rfl⟩
abbrev main_v440 : Ref sig .tc := ⟨.hbm, 514, rfl⟩
abbrev main_v441 : Ref sig .tc := ⟨.hbm, 515, rfl⟩
abbrev main_v442 : Ref sig .tc := ⟨.hbm, 516, rfl⟩
abbrev main_cst_45 : Ref sig .tc := ⟨.hbm, 517, rfl⟩
abbrev main_v443 : Ref sig .tc := ⟨.hbm, 518, rfl⟩
abbrev main_v444 : Ref sig .tc := ⟨.hbm, 519, rfl⟩
abbrev main_v445 : Ref sig .tc := ⟨.hbm, 520, rfl⟩
abbrev main_cst_46 : Ref sig .tc := ⟨.hbm, 521, rfl⟩
abbrev main_v446 : Ref sig .tc := ⟨.hbm, 522, rfl⟩
abbrev main_v447 : Ref sig .tc := ⟨.hbm, 523, rfl⟩
abbrev main_cst_47 : Ref sig .tc := ⟨.hbm, 524, rfl⟩
abbrev main_v448 : Ref sig .tc := ⟨.hbm, 525, rfl⟩
abbrev main_v449 : Ref sig .tc := ⟨.hbm, 526, rfl⟩
abbrev main_v450 : Ref sig .tc := ⟨.hbm, 527, rfl⟩
abbrev main_v451 : Ref sig .tc := ⟨.hbm, 528, rfl⟩
abbrev main_v452 : Ref sig .tc := ⟨.hbm, 529, rfl⟩
abbrev main_v453 : Ref sig .tc := ⟨.hbm, 530, rfl⟩
abbrev main_v454 : Ref sig .tc := ⟨.hbm, 531, rfl⟩
abbrev main_v455 : Ref sig .tc := ⟨.hbm, 532, rfl⟩
abbrev main_v456 : Ref sig .tc := ⟨.hbm, 533, rfl⟩
abbrev main_v457 : Ref sig .tc := ⟨.hbm, 534, rfl⟩
abbrev main_cst_48 : Ref sig .tc := ⟨.hbm, 535, rfl⟩
abbrev main_v458 : Ref sig .tc := ⟨.hbm, 536, rfl⟩
abbrev main_cst_49 : Ref sig .tc := ⟨.hbm, 537, rfl⟩
abbrev main_v459 : Ref sig .tc := ⟨.hbm, 538, rfl⟩
abbrev main_v460 : Ref sig .tc := ⟨.hbm, 539, rfl⟩
abbrev main_v461 : Ref sig .tc := ⟨.hbm, 540, rfl⟩

abbrev nD : Nat := 1
abbrev τ : Topo := Topo.v7x

variable {F : FTy → Type} [FloatOps F]
-- ==== Proof.Rolled.lean ====
/- The tile's body with its unrolled loops rolled up again: the same memory operations in the same order, each loop over
   the twenty candidates (and the six picks) a recursion over the list of its indices. -/
module

public import proofs.«01_k».proof.Proof.Gen.KernelIdeal
public import Idealize.ShloMosaic.Lib.Pipeline.Regions

@[expose] public section

set_option synthInstance.maxSize 4096

noncomputable section

namespace Cert.KernelIdeal.Rolled

open Idealize.ShloMosaic Idealize.SL.Sem
open Facts₀ Facts

variable {F : FTy → Type} [FloatOps F] [Named F] [Facts]

/-- The programs of one vector subcore. -/
abbrev TP (F : FTy → Type) [FloatOps F] [Named F] [Facts] (i : grid0.Coords) (α : Type) :=
  Prog (TpuEff nD τ sig (Elt F) Λ₀ (.scVector ((i 0).castLE hcore0) ((i 1).castLE hsub0))) α

/-- A buffer of twenty rows of sixteen lanes, of four and nine such planes, of two rows, and of the six picks. -/
abbrev M20 := Memref sig .scVector .vmem S20x16 .f32
abbrev M4 := Memref sig .scVector .vmem S4x20x16 .f32
abbrev M9 := Memref sig .scVector .vmem S9x20x16 .f32
abbrev M2 := Memref sig .scVector .vmem S2x16 .f32
abbrev M6 := Memref sig .scVector .vmem S6x5x16 .f32

theorem inb20 (r : Fin 20) : ∀ a, (![r.val, 0] : Fin 2 → Nat) a + S1x16.size a ≤ S20x16.size a := by
  intro a
  have := r.isLt
  fin_cases a <;> simp [Shape.size] <;> omega
theorem inb2 (r : Fin 2) : ∀ a, (![r.val, 0] : Fin 2 → Nat) a + S1x16.size a ≤ S2x16.size a := by
  intro a
  have := r.isLt
  fin_cases a <;> simp [Shape.size] <;> omega
theorem inb4 (p : Fin 4) (r : Fin 20) :
    ∀ a, (![p.val, r.val, 0] : Fin 3 → Nat) a + S1x1x16.size a ≤ S4x20x16.size a := by
  intro a
  have := r.isLt
  have := p.isLt
  fin_cases a <;> simp [Shape.size] <;> omega
theorem inb9 (p : Fin 9) (r : Fin 20) :
    ∀ a, (![p.val, r.val, 0] : Fin 3 → Nat) a + S1x1x16.size a ≤ S9x20x16.size a := by
  intro a
  have := r.isLt
  have := p.isLt
  fin_cases a <;> simp [Shape.size] <;> omega
theorem inb6 (p : Fin 6) (r : Fin 5) :
    ∀ a, (![p.val, r.val, 0] : Fin 3 → Nat) a + S1x1x16.size a ≤ S6x5x16.size a := by
  intro a
  have := r.isLt
  have := p.isLt
  fin_cases a <;> simp [Shape.size] <;> omega

section ops
variable {i : grid0.Coords}

/-- Read row `r` of a twenty-row buffer. -/
def ld20 (a : M20) (r : Fin 20) : TP F i (FVec F S16 .f32) :=
  .op (.load a (Rect.unit (s := S20x16) ![r.val, 0] S1x16.size (inb20 r)).toLoadRect (View.loadsAt_vmem h_S1x16))
    fun v => .ret (shapeCast S16 v shapeCasts_S1x16_S16)
/-- Write row `r` of a twenty-row buffer (the row is read first, and the value read dropped). -/
def st20 (a : M20) (r : Fin 20) (x : FVec F S16 .f32) : TP F i PUnit :=
  .op (.load a (Rect.unit (s := S20x16) ![r.val, 0] S1x16.size (inb20 r)).toLoadRect (View.loadsAt_vmem h_S1x16))
    fun _ => .op (.store a (Rect.unit (s := S20x16) ![r.val, 0] S1x16.size (inb20 r))
      (shapeCast S1x16 x shapeCasts_S16_S1x16) Finset.univ (View.stores_vmem_bits_univ h_S1x16 rfl) (.inl rfl)) .ret
/-- Read row `r` of the two-row buffer. -/
def ld2 (a : M2) (r : Fin 2) : TP F i (FVec F S16 .f32) :=
  .op (.load a (Rect.unit (s := S2x16) ![r.val, 0] S1x16.size (inb2 r)).toLoadRect (View.loadsAt_vmem h_S1x16))
    fun v => .ret (shapeCast S16 v shapeCasts_S1x16_S16)
/-- Read row `r` of plane `p` of the nine-plane buffer. -/
def ld9 (a : M9) (p : Fin 9) (r : Fin 20) : TP F i (FVec F S16 .f32) :=
  .op (.load a (Rect.unit (s := S9x20x16) ![p.val, r.val, 0] S1x1x16.size (inb9 p r)).toLoadRect
      (View.loadsAt_vmem h_S1x1x16))
    fun v => .ret (shapeCast S16 v shapeCasts_S1x1x16_S16)
/-- Read row `r` of plane `p` of the four-plane buffer. -/
def ld4 (a : M4) (p : Fin 4) (r : Fin 20) : TP F i (FVec F S16 .f32) :=
  .op (.load a (Rect.unit (s := S4x20x16) ![p.val, r.val, 0] S1x1x16.size (inb4 p r)).toLoadRect
      (View.loadsAt_vmem h_S1x1x16))
    fun v => .ret (shapeCast S16 v shapeCasts_S1x1x16_S16)
/-- Write row `r` of plane `p` of the four-plane buffer. -/
def st4 (a : M4) (p : Fin 4) (r : Fin 20) (x : FVec F S16 .f32) : TP F i PUnit :=
  .op (.load a (Rect.unit (s := S4x20x16) ![p.val, r.val, 0] S1x1x16.size (inb4 p r)).toLoadRect
      (View.loadsAt_vmem h_S1x1x16))
    fun _ => .op (.store a (Rect.unit (s := S4x20x16) ![p.val, r.val, 0] S1x1x16.size (inb4 p r))
      (shapeCast S1x1x16 x shapeCasts_S16_S1x1x16) Finset.univ (View.stores_vmem_bits_univ h_S1x1x16 rfl)
        (.inl rfl)) .ret
/-- Write field `r` of pick `p`. -/
def st6 (a : M6) (p : Fin 6) (r : Fin 5) (x : FVec F S16 .f32) : TP F i PUnit :=
  .op (.load a (Rect.unit (s := S6x5x16) ![p.val, r.val, 0] S1x1x16.size (inb6 p r)).toLoadRect
      (View.loadsAt_vmem h_S1x1x16))
    fun _ => .op (.store a (Rect.unit (s := S6x5x16) ![p.val, r.val, 0] S1x1x16.size (inb6 p r))
      (shapeCast S1x1x16 x shapeCasts_S16_S1x1x16) Finset.univ (View.stores_vmem_bits_univ h_S1x1x16 rfl)
        (.inl rfl)) .ret

/-- Run `f` on the members of a list in turn, a carried value passed along. -/
def each {ι σ : Type} (f : ι → σ → TP F i σ) : List ι → σ → TP F i σ
  | [], s => .ret s
  | r :: l, s => (f r s).bind (each f l)

end ops

/-! The values, lane by lane. -/

def c0 : FVec F S16 .f32 := broadcast S16 (Scalar.ofBits .f32 0x00000000#32)
def c1 : FVec F S16 .f32 := broadcast S16 (Scalar.ofBits .f32 0x3F800000#32)
def half : FVec F S16 .f32 := broadcast S16 (Scalar.ofBits .f32 0x3F000000#32)
def six : FVec F S16 .f32 := broadcast S16 (Scalar.ofBits .f32 0x40C00000#32)
def lowest : FVec F S16 .f32 := broadcast S16 (Named.named κ "lowest" 0xFF61B1E6#32)
def highest : FVec F S16 .f32 := broadcast S16 (Named.named κ "highest" 0x7F61B1E6#32)
def sixth : FVec F S16 .f32 := broadcast S16 (Named.named κ "sixth" 0x3E2AAAAB#32)
/-- One where the bit is set, nought elsewhere. -/
def flag (b : IVec S16 1) : FVec F S16 .f32 := select b c1 c0
/-- The score where the candidate is still open, the lowest value elsewhere. -/
def keyLo (u s : FVec F S16 .f32) : FVec F S16 .f32 := select (cmpf .ogt u half) s lowest
/-- The distance where the candidate is still open, the highest value elsewhere. -/
def keyHi (u s : FVec F S16 .f32) : FVec F S16 .f32 := select (cmpf .ogt u half) s highest
/-- How far two squares of side one half overlap along one axis. -/
def lap (x c : FVec F S16 .f32) : FVec F S16 .f32 := maximumf (subf half (absf (subf x c))) c0
/-- The first candidate whose key is the extreme: one there, nought elsewhere. -/
def hit (k m found : FVec F S16 .f32) : FVec F S16 .f32 := mulf (flag (cmpf .oeq k m)) (subf c1 found)

/-- What the search for the next candidate carries: whether it was found, whether it is kept, and where it ends. -/
structure Pick (F : FTy → Type) where
  found : FVec F S16 .f32
  kept : FVec F S16 .f32
  cx : FVec F S16 .f32
  cy : FVec F S16 .f32
/-- What a pick carries. -/
structure Top (F : FTy → Type) where
  found : FVec F S16 .f32
  al : FVec F S16 .f32
  ax : FVec F S16 .f32
  ay : FVec F S16 .f32
  a2 : FVec F S16 .f32
  a3 : FVec F S16 .f32

section body
variable {i : grid0.Coords} (buf : M9) (gtb : M2) (geo : M4) (sup unp hb dist : M20) (out : M6)

abbrev rows : List (Fin 20) := [0, 1, 2, 3, 4, 5, 6, 7, 8, 9, 10, 11, 12, 13, 14, 15, 16, 17, 18, 19]

def initRow (r : Fin 20) (_ : PUnit) : TP F i PUnit :=
  (ld9 buf 1 r).bind fun a => (ld9 buf 5 r).bind fun b => (st4 geo 0 r (addf a b)).bind fun _ =>
  (ld9 buf 2 r).bind fun a => (ld9 buf 6 r).bind fun b => (st4 geo 1 r (addf a b)).bind fun _ =>
  (ld9 buf 3 r).bind fun a => (ld9 buf 7 r).bind fun b => (st4 geo 2 r (addf a b)).bind fun _ =>
  (ld9 buf 4 r).bind fun a => (ld9 buf 8 r).bind fun b => (st4 geo 3 r (addf a b)).bind fun _ =>
  (st20 sup r c0).bind fun _ => st20 unp r c1

def maxRow (r : Fin 20) (m : FVec F S16 .f32) : TP F i (FVec F S16 .f32) :=
  (ld20 unp r).bind fun u => (ld9 buf 0 r).bind fun s => .ret (maximumf m (keyLo u s))

def pickRow (m : FVec F S16 .f32) (r : Fin 20) (p : Pick F) : TP F i (Pick F) :=
  (ld20 unp r).bind fun u => (ld9 buf 0 r).bind fun s =>
  (ld20 sup r).bind fun q => (ld4 geo 0 r).bind fun x => (ld4 geo 1 r).bind fun y =>
  (st20 hb r (hit (keyLo u s) m p.found)).bind fun _ =>
  .ret ⟨addf p.found (hit (keyLo u s) m p.found),
    addf p.kept (mulf (hit (keyLo u s) m p.found) (subf c1 q)),
    addf p.cx (mulf (hit (keyLo u s) m p.found) x), addf p.cy (mulf (hit (keyLo u s) m p.found) y)⟩

def supRow (p : Pick F) (r : Fin 20) (_ : PUnit) : TP F i PUnit :=
  (ld20 unp r).bind fun u => (ld20 hb r).bind fun h =>
  (st20 unp r (mulf u (subf c1 h))).bind fun _ =>
  (ld4 geo 0 r).bind fun x => (ld4 geo 1 r).bind fun y => (ld20 sup r).bind fun q =>
  st20 sup r (maximumf q (mulf (mulf (flag (cmpf .ogt p.kept half))
    (flag (cmpf .ogt (mulf (lap x p.cx) (lap y p.cy)) sixth))) (mulf u (subf c1 h))))

/-- One round of the suppression: find the best open candidate, close it, and if it is kept suppress the open ones
    that overlap it. -/
def nmsStep : TP F i PUnit :=
  (each (maxRow buf unp) rows lowest).bind fun m =>
  (each (pickRow buf geo sup unp hb m) rows ⟨c0, c0, c0, c0⟩).bind fun p =>
  each (supRow geo sup unp hb p) rows ⟨⟩

/-- One less the suppressed ones, counted. -/
def countRow (r : Fin 20) (n : FVec F S16 .f32) : TP F i (FVec F S16 .f32) :=
  (ld20 sup r).bind fun q => .ret (addf n (subf c1 q))

def selRow (all : FVec F S16 .f32) (r : Fin 20) (_ : PUnit) : TP F i PUnit :=
  (ld20 sup r).bind fun q => (st20 sup r (maximumf (subf c1 q) all)).bind fun _ =>
  (ld4 geo 0 r).bind fun x => (ld2 gtb 0).bind fun gx => (ld4 geo 1 r).bind fun y => (ld2 gtb 1).bind fun gy =>
  st20 dist r (addf (absf (subf x gx)) (absf (subf y gy)))

def minRow (r : Fin 20) (m : FVec F S16 .f32) : TP F i (FVec F S16 .f32) :=
  (ld20 sup r).bind fun u => (ld20 dist r).bind fun s => .ret (minimumf m (keyHi u s))

def topRow (m : FVec F S16 .f32) (r : Fin 20) (p : Top F) : TP F i (Top F) :=
  (ld20 sup r).bind fun u => (ld20 dist r).bind fun s =>
  (st20 sup r (mulf u (subf c1 (hit (keyHi u s) m p.found)))).bind fun _ =>
  (ld9 buf 0 r).bind fun l => (ld4 geo 0 r).bind fun x => (ld4 geo 1 r).bind fun y =>
  (ld4 geo 2 r).bind fun z => (ld4 geo 3 r).bind fun w =>
  .ret ⟨addf p.found (hit (keyHi u s) m p.found),
    addf p.al (mulf (hit (keyHi u s) m p.found) l), addf p.ax (mulf (hit (keyHi u s) m p.found) x),
    addf p.ay (mulf (hit (keyHi u s) m p.found) y), addf p.a2 (mulf (hit (keyHi u s) m p.found) z),
    addf p.a3 (mulf (hit (keyHi u s) m p.found) w)⟩

/-- One pick: the nearest candidate still selected, taken out, its score and corners written. -/
def topStep (k : Fin 6) (_ : PUnit) : TP F i PUnit :=
  (each (minRow sup dist) rows highest).bind fun m =>
  (each (topRow buf geo sup dist m) rows ⟨c0, c0, c0, c0, c0, c0⟩).bind fun p =>
  (st6 out k 0 p.al).bind fun _ => (st6 out k 1 p.ax).bind fun _ => (st6 out k 2 p.ay).bind fun _ =>
  (st6 out k 3 p.a2).bind fun _ => st6 out k 4 p.a3

/-- The rest of the first pick, once the least of the first two distances is found. -/
def topStepRest (k : Fin 6) (m : FVec F S16 .f32) : TP F i PUnit :=
  (each (minRow sup dist) [2, 3, 4, 5, 6, 7, 8, 9, 10, 11, 12, 13, 14, 15, 16, 17, 18, 19] m).bind fun m =>
  (each (topRow buf geo sup dist m) rows ⟨c0, c0, c0, c0, c0, c0⟩).bind fun p =>
  (st6 out k 0 p.al).bind fun _ => (st6 out k 1 p.ax).bind fun _ => (st6 out k 2 p.ay).bind fun _ =>
  (st6 out k 3 p.a2).bind fun _ => st6 out k 4 p.a3

/-- All of a group's work between its copies. -/
def work : TP F i PUnit :=
  (each (initRow buf geo sup unp) rows ⟨⟩).bind fun _ =>
  (Scf.Loop.for k0_t2_loop k0_t2_ok ⟨⟩ fun _ _ => nmsStep buf geo sup unp hb).bind fun _ =>
  (each (countRow sup) rows c0).bind fun n =>
  (each (selRow gtb geo sup dist (flag (cmpf .olt n six))) rows ⟨⟩).bind fun _ =>
  each (topStep buf geo sup dist out) [0, 1, 2, 3, 4, 5] ⟨⟩

/-- The same work with what follows it, bracketed as the printed windows bracket it around the suppression loop. -/
def workThen (k : PUnit → TP F i PUnit) : TP F i PUnit :=
  (each (initRow buf geo sup unp) rows ⟨⟩).bind fun _ =>
  (((Scf.Loop.for k0_t2_loop k0_t2_ok ⟨⟩ fun _ _ => nmsStep buf geo sup unp hb).bind fun _ =>
    (ld20 sup 0).bind fun q => .ret (⟨c0, q, c1⟩ : Σ' (_ : FVec F S16 .f32) (_ : FVec F S16 .f32), FVec F S16 .f32)).bind
      fun q =>
    (each (countRow sup) [1, 2, 3, 4, 5, 6, 7, 8, 9, 10, 11, 12, 13, 14, 15, 16, 17, 18, 19]
      (addf q.1 (subf q.2.2 q.2.1))).bind fun n =>
    (each (selRow gtb geo sup dist (flag (cmpf .olt n six))) rows ⟨⟩).bind fun _ =>
    each (minRow sup dist) [0, 1] highest).bind fun m =>
  (topStepRest buf geo sup dist out 0 m).bind fun _ =>
  (each (topStep buf geo sup dist out) [1, 2, 3, 4, 5] ⟨⟩).bind k

/-- One group: its operands copied in, its work, its result copied out. -/
def group (arg2 : Memref sig .scVector .hbm S64x9x20x16 .f32) (arg3 : Memref sig .scVector .hbm S64x2x16 .f32)
    (arg4 : Memref sig .scVector .hbm S64x6x5x16 .f32) (hbuf : buf.IsWhole) (hgtb : gtb.IsWhole) (hout : out.IsWhole)
    (q0 q1 q2 : DmaSems sig S_) (t : Fin k0_t1_loop.trips) : TP F i PUnit :=
  .op (.enqueueDma ((arg2.slice (Rect.unit (s := S64x9x20x16) (k0_off1 i t) S1x9x20x16.size (k0_off1_inb i t)) (fun _ => rfl)).squeeze
      S9x20x16 squeezes_S1x9x20x16_S9x20x16) (.here buf) (.dma q0.sem) ((View.wordExact_bits rfl).reshape _ _)
      hbuf.wordExact ⟨Or.inl rfl, trivial⟩) fun _ =>
  .op (.waitDma2 q0.sem ((arg2.slice (Rect.unit (s := S64x9x20x16) (k0_off1 i t) S1x9x20x16.size (k0_off1_inb i t)) (fun _ => rfl)).squeeze
      S9x20x16 squeezes_S1x9x20x16_S9x20x16) buf ((View.wordExact_bits rfl).reshape _ _) hbuf.wordExact) fun _ =>
  .op (.enqueueDma ((arg3.slice (Rect.unit (s := S64x2x16) (k0_off2 i t) S1x2x16.size (k0_off2_inb i t)) (fun _ => rfl)).squeeze
      S2x16 squeezes_S1x2x16_S2x16) (.here gtb) (.dma q1.sem) ((View.wordExact_bits rfl).reshape _ _)
      hgtb.wordExact ⟨Or.inl rfl, trivial⟩) fun _ =>
  .op (.waitDma2 q1.sem ((arg3.slice (Rect.unit (s := S64x2x16) (k0_off2 i t) S1x2x16.size (k0_off2_inb i t)) (fun _ => rfl)).squeeze
      S2x16 squeezes_S1x2x16_S2x16) gtb ((View.wordExact_bits rfl).reshape _ _) hgtb.wordExact) fun _ =>
  workThen buf gtb geo sup unp hb dist out fun _ =>
  .op (.enqueueDma out (.here ((arg4.slice (Rect.unit (s := S64x6x5x16) (k0_off3 i t) S1x6x5x16.size (k0_off3_inb i t)) (fun _ => rfl)).squeeze
      S6x5x16 squeezes_S1x6x5x16_S6x5x16)) (.dma q2.sem) hout.wordExact ((View.wordExact_bits rfl).reshape _ _)
      ⟨Or.inl rfl, trivial⟩) fun _ =>
  .op (.waitDma2 q2.sem out ((arg4.slice (Rect.unit (s := S64x6x5x16) (k0_off3 i t) S1x6x5x16.size (k0_off3_inb i t)) (fun _ => rfl)).squeeze
      S6x5x16 squeezes_S1x6x5x16_S6x5x16) hout.wordExact ((View.wordExact_bits rfl).reshape _ _)) .ret

end body

section workEq
variable {i : grid0.Coords} (buf : M9) (gtb : M2) (geo : M4) (sup unp hb dist : M20) (out : M6)

/-- The bracketing does not matter. -/
theorem workThen_eq (k : PUnit → TP F i PUnit) :
    workThen buf gtb geo sup unp hb dist out k = (work buf gtb geo sup unp hb dist out).bind k := by
  have ba : ∀ {α β γ : Type} (L : TP F i α) (f : α → TP F i β) (g : β → TP F i γ),
      (L.bind f).bind g = L.bind fun x => (f x).bind g := fun L f g => Prog.bind_assoc L f g
  unfold workThen work
  refine Eq.trans ?_ (ba _ _ _).symm
  refine congrArg _ (funext fun x => ?_)
  refine Eq.trans ?_ (ba _ _ _).symm
  refine ((congrArg (fun p => Prog.bind p _) (ba _ _ _)).trans (ba _ _ _)).trans (congrArg _ (funext fun y => ?_))
  chain_rfl

end workEq

/-- The printed body is the rolled one. -/
theorem body_eq (i : grid0.Coords) (arg2 : Memref sig .scVector .hbm S64x9x20x16 .f32) (harg2 : arg2.IsWhole)
    (arg3 : Memref sig .scVector .hbm S64x2x16 .f32) (harg3 : arg3.IsWhole)
    (arg4 : Memref sig .scVector .hbm S64x6x5x16 .f32) (harg4 : arg4.IsWhole)
    (arg5 : M9) (harg5 : arg5.IsWhole) (arg6 : M2) (harg6 : arg6.IsWhole) (arg7 : M4) (harg7 : arg7.IsWhole)
    (arg8 : M20) (harg8 : arg8.IsWhole) (arg9 : M20) (harg9 : arg9.IsWhole) (arg10 : M20) (harg10 : arg10.IsWhole)
    (arg11 : M20) (harg11 : arg11.IsWhole) (arg12 : M6) (harg12 : arg12.IsWhole)
    (q0 q1 q2 : DmaSems sig S_) :
    cc0__sc_nms_body (F := F) i arg2 harg2 arg3 harg3 arg4 harg4 arg5 harg5 arg6 harg6 arg7 harg7 arg8 harg8 arg9 harg9 arg10 harg10
      arg11 harg11 arg12 harg12 q0 q1 q2
    = (Scf.Loop.for k0_t1_loop k0_t1_ok ⟨⟩ fun t _ =>
        group arg5 arg6 arg7 arg8 arg9 arg10 arg11 arg12 arg2 arg3 arg4 harg5 harg6 harg12 q0 q1 q2 t).bind
          fun _ => .ret ⟨⟩ := by
  chain_rfl

end Cert.KernelIdeal.Rolled
end
-- ==== Proof.Tile.lean ====
/- One tile's run. The buffers' contents are kept row by row; each memory operation of the rolled body reads or replaces
   one row, so the body is a function on the tables of rows (`Tab`), and the run follows that function step by step. -/
module

public import proofs.«01_k».proof.Proof.Rolled
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.KernelIdeal.Tile

open Cert.KernelIdeal Cert.KernelIdeal.Rolled

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Facts₀ Facts

variable {F : FTy → Type} [FloatOps F] [Named F] [Facts]

/-! ## Rows -/

/-- A row of sixteen lanes. -/
abbrev Row (F : FTy → Type) := FVec F S16 .f32

section Rows
variable {s : Shape} {ι : Type}

/-- Row `i` of a buffer, the rows being the rectangles `R`. -/
def rowOf (m : Memref sig .scVector .vmem s .f32) (R : ι → Rect s) (hc : ∀ i, (R i).shape.ShapeCasts S16)
    (f : m.view.ty.Contents (Elt F)) (i : ι) : Row F :=
  shapeCast S16 ((m.access (R i)).read (Elt F) f) (hc i)

/-- The rectangles have no element in common. -/
def Apart (R : ι → Rect s) : Prop := ∀ i j, i ≠ j → ∀ x y, (R i).emb x ≠ (R j).emb y

theorem rowOf_write [DecidableEq ι] (m : Memref sig .scVector .vmem s .f32) (R : ι → Rect s)
    (hc : ∀ i, (R i).shape.ShapeCasts S16) (hd : Apart R) (f : m.view.ty.Contents (Elt F)) (i : ι)
    (w : (R i).shape.Idx → F .f32) :
    rowOf m R hc ((m.access (R i)).write (Elt F) f w Finset.univ)
      = Function.update (rowOf m R hc f) i (shapeCast S16 w (hc i)) := by
  funext j
  by_cases h : j = i
  · subst h
    rw [Function.update_self]
    unfold rowOf
    rw [View.read_write_univ]
  · rw [Function.update_of_ne h]
    funext x
    unfold rowOf shapeCast
    rw [View.read_apply, View.read_apply]
    congr 1
    apply View.write_of_not_mem
    intro hm
    rw [View.setOn, Finset.mem_map] at hm
    obtain ⟨y, -, hy⟩ := hm
    exact hd i j (Ne.symm h) y _ (m.view.emb.injective hy)

end Rows

/-! ## The resource algebra -/

abbrev UH : Type := URounds (GSem nD τ sig) ℕ
abbrev UU : Type := UH × (UR sig nD τ × Counters)

local notation "𝕄" => MT nD τ sig (HIx 1) (Elt F) ℕ UU ℕ

abbrev 𝒱₀ : Variants := Variants.none

abbrev cV (L : grid0.Coords) : Fin τ.nSC := (L 0).castLE hcore0
abbrev jV (L : grid0.Coords) : Fin τ.nSub := (L 1).castLE hsub0

/-- The weakest precondition of a program of tile `L` of device `d`. -/
abbrev wpT (d : Dev nD) (L : grid0.Coords) {α : Type} (p : TP F L α) (Q : α → sProp 𝕄) : sProp 𝕄 :=
  wp frame (wpE (defs₀ (F := F)) 𝒱₀ (V d (cV L) (jV L)) none) Set.univ p Q

theorem wpT_bind (d : Dev nD) (L : grid0.Coords) {α β : Type} (p : TP F L α) (k : α → TP F L β) (Q : β → sProp 𝕄) :
    wpT d L (p.bind k) Q = wpT d L p fun a => wpT d L (k a) Q :=
  wp_bind _ _ _ p k Q

section Own
variable (d : Dev nD) (L : grid0.Coords) {s : Shape} {ι : Type}

/-- The buffer `m`, whole, its rows holding `v`. -/
def own (m : Memref sig .scVector .vmem s .f32) (R : ι → Rect s) (hc : ∀ i, (R i).shape.ShapeCasts S16) (v : ι → Row F) :
    sProp 𝕄 :=
  iprop(∃ f : Buf (Elt F) (m.view.loc (V d (cV L) (jV L))), ⌜rowOf m R hc f = v⌝
    ∗ (m.view.loc (V d (cV L) (jV L)) ↦{fullShare} f))

theorem own_load (m : Memref sig .scVector .vmem s .f32) (R : ι → Rect s) (hc : ∀ i, (R i).shape.ShapeCasts S16)
    (v : ι → Row F) (i : ι) (hl : m.view.LoadsAt (R i).toLoadRect) {α : Type} (k : Row F → TP F L α) (Q : α → sProp 𝕄) :
    own d L m R hc v ⊢ iprop((own d L m R hc v -∗ wpT d L (k (v i)) Q)
      -∗ wpT d L (.op (.load m (R i).toLoadRect hl) fun w => k (shapeCast S16 w (hc i))) Q) := by
  unfold own
  iintro ⟨%f, %hf, H⟩ Hk
  iapply (wp_load (defs := defs₀ (F := F)) 𝒱₀ (V d (cV L) (jV L)) none Set.univ (m := m) (r := (R i).toLoadRect) (hl := hl)
    (k := fun w => k (shapeCast S16 w (hc i))) (S := Finset.univ) (q := fullShare) (f := f) (Finset.subset_univ _)) $$ H
  iintro H
  rw [show shapeCast S16 (m.view.readAt (Elt F) (R i).toLoadRect f) (hc i) = v i from hf ▸ rfl]
  iapply Hk
  iexists f
  isplitr
  · ipureintro; exact hf
  · iexact H

theorem own_store [DecidableEq ι] (m : Memref sig .scVector .vmem s .f32) (R : ι → Rect s)
    (hc : ∀ i, (R i).shape.ShapeCasts S16) (hd : Apart R)
    (v : ι → Row F) (i : ι) (hl : m.view.LoadsAt (R i).toLoadRect) (w : (R i).shape.Idx → F .f32)
    (hx : (m.access (R i)).Stores Finset.univ) (hm : Finset.univ = Finset.univ ∨ ∀ a, (R i).stride a = 1)
    {α : Type} (k : PUnit → TP F L α) (Q : α → sProp 𝕄) :
    own d L m R hc v ⊢ iprop((own d L m R hc (Function.update v i (shapeCast S16 w (hc i))) -∗ wpT d L (k ⟨⟩) Q)
      -∗ wpT d L (.op (.load m (R i).toLoadRect hl) fun _ => .op (.store m (R i) w Finset.univ hx hm) k) Q) := by
  unfold own
  iintro ⟨%f, %hf, H⟩ Hk
  iapply (wp_load (defs := defs₀ (F := F)) 𝒱₀ (V d (cV L) (jV L)) none Set.univ (m := m) (r := (R i).toLoadRect) (hl := hl)
    (S := Finset.univ) (q := fullShare) (f := f) (Finset.subset_univ _)) $$ H
  iintro H
  iapply (wp_store (defs := defs₀ (F := F)) 𝒱₀ (V d (cV L) (jV L)) none Set.univ (m := m) (r := R i) (w := w) (hx := hx)
    (hm := hm) (k := k) (S := Finset.univ) (f := f) (Finset.subset_univ _)) $$ H
  iintro H
  iapply Hk
  iexists _
  isplitr
  swap
  · iexact H
  · ipureintro
    rw [← hf]
    exact rowOf_write m R hc hd f i w

end Own

/-! ## The tables -/

abbrev R20 (r : Fin 20) : Rect S20x16 := Rect.unit (s := S20x16) ![r.val, 0] S1x16.size (inb20 r)
abbrev R2 (r : Fin 2) : Rect S2x16 := Rect.unit (s := S2x16) ![r.val, 0] S1x16.size (inb2 r)
abbrev R4 (p : Fin 4 × Fin 20) : Rect S4x20x16 := Rect.unit (s := S4x20x16) ![p.1.val, p.2.val, 0] S1x1x16.size (inb4 p.1 p.2)
abbrev R9 (p : Fin 9 × Fin 20) : Rect S9x20x16 := Rect.unit (s := S9x20x16) ![p.1.val, p.2.val, 0] S1x1x16.size (inb9 p.1 p.2)
abbrev R6 (p : Fin 6 × Fin 5) : Rect S6x5x16 := Rect.unit (s := S6x5x16) ![p.1.val, p.2.val, 0] S1x1x16.size (inb6 p.1 p.2)

theorem apart20 : Apart R20 := by
  intro i j h x y e
  have := congrArg Fin.val (congrFun e 0)
  have hx : (x 0).val < 1 := (x 0).isLt
  have hy : (y 0).val < 1 := (y 0).isLt
  apply h
  apply Fin.ext
  simp [Rect.emb, Rect.unit] at this
  omega
theorem apart4 : Apart R4 := by
  intro i j h x y e
  have h0 := congrArg Fin.val (congrFun e 0)
  have h1 := congrArg Fin.val (congrFun e 1)
  have hx : (x 0).val < 1 := (x 0).isLt
  have hy : (y 0).val < 1 := (y 0).isLt
  have hx1 : (x 1).val < 1 := (x 1).isLt
  have hy1 : (y 1).val < 1 := (y 1).isLt
  apply h
  simp [Rect.emb, Rect.unit] at h0 h1
  exact Prod.ext (Fin.ext (by omega)) (Fin.ext (by omega))
theorem apart6 : Apart R6 := by
  intro i j h x y e
  have h0 := congrArg Fin.val (congrFun e 0)
  have h1 := congrArg Fin.val (congrFun e 1)
  have hx : (x 0).val < 1 := (x 0).isLt
  have hy : (y 0).val < 1 := (y 0).isLt
  have hx1 : (x 1).val < 1 := (x 1).isLt
  have hy1 : (y 1).val < 1 := (y 1).isLt
  apply h
  simp [Rect.emb, Rect.unit] at h0 h1
  exact Prod.ext (Fin.ext (by omega)) (Fin.ext (by omega))

/-- The rows of all eight buffers. -/
structure Tab (F : FTy → Type) where
  buf : Fin 9 × Fin 20 → Row F
  gtb : Fin 2 → Row F
  geo : Fin 4 × Fin 20 → Row F
  sup : Fin 20 → Row F
  unp : Fin 20 → Row F
  hb : Fin 20 → Row F
  dist : Fin 20 → Row F
  out : Fin 6 × Fin 5 → Row F

/-! ## What the body computes, on the tables -/

/-- Pass a value and the tables through a list. -/
def over {ι σ : Type} (G : ι → σ → Tab F → σ × Tab F) : List ι → σ → Tab F → σ × Tab F
  | [], a, t => (a, t)
  | i :: l, a, t => over G l (G i a t).1 (G i a t).2

def initG (r : Fin 20) (_ : PUnit) (t : Tab F) : PUnit × Tab F :=
  (⟨⟩, { t with
    geo := Function.update (Function.update (Function.update (Function.update t.geo
      (0, r) (addf (t.buf (1, r)) (t.buf (5, r)))) (1, r) (addf (t.buf (2, r)) (t.buf (6, r))))
      (2, r) (addf (t.buf (3, r)) (t.buf (7, r)))) (3, r) (addf (t.buf (4, r)) (t.buf (8, r)))
    sup := Function.update t.sup r c0
    unp := Function.update t.unp r c1 })

def maxG (r : Fin 20) (m : Row F) (t : Tab F) : Row F × Tab F :=
  (maximumf m (keyLo (t.unp r) (t.buf (0, r))), t)

def pickG (m : Row F) (r : Fin 20) (p : Pick F) (t : Tab F) : Pick F × Tab F :=
  let h := hit (keyLo (t.unp r) (t.buf (0, r))) m p.found
  (⟨addf p.found h, addf p.kept (mulf h (subf c1 (t.sup r))), addf p.cx (mulf h (t.geo (0, r))),
    addf p.cy (mulf h (t.geo (1, r)))⟩, { t with hb := Function.update t.hb r h })

def supG (p : Pick F) (r : Fin 20) (_ : PUnit) (t : Tab F) : PUnit × Tab F :=
  let u := mulf (t.unp r) (subf c1 (t.hb r))
  (⟨⟩, { t with
    unp := Function.update t.unp r u
    sup := Function.update t.sup r (maximumf (t.sup r) (mulf (mulf (flag (cmpf .ogt p.kept half))
      (flag (cmpf .ogt (mulf (lap (t.geo (0, r)) p.cx) (lap (t.geo (1, r)) p.cy)) sixth))) u)) })

def nmsG (t : Tab F) : Tab F :=
  let q := over (pickG (over maxG rows lowest t).1) rows ⟨c0, c0, c0, c0⟩ t
  (over (supG q.1) rows ⟨⟩ q.2).2

def countG (r : Fin 20) (n : Row F) (t : Tab F) : Row F × Tab F := (addf n (subf c1 (t.sup r)), t)

def selG (all : Row F) (r : Fin 20) (_ : PUnit) (t : Tab F) : PUnit × Tab F :=
  (⟨⟩, { t with
    sup := Function.update t.sup r (maximumf (subf c1 (t.sup r)) all)
    dist := Function.update t.dist r (addf (absf (subf (t.geo (0, r)) (t.gtb 0))) (absf (subf (t.geo (1, r)) (t.gtb 1)))) })

def minG (r : Fin 20) (m : Row F) (t : Tab F) : Row F × Tab F :=
  (minimumf m (keyHi (t.sup r) (t.dist r)), t)

def topG (m : Row F) (r : Fin 20) (p : Top F) (t : Tab F) : Top F × Tab F :=
  let h := hit (keyHi (t.sup r) (t.dist r)) m p.found
  (⟨addf p.found h, addf p.al (mulf h (t.buf (0, r))), addf p.ax (mulf h (t.geo (0, r))), addf p.ay (mulf h (t.geo (1, r))),
    addf p.a2 (mulf h (t.geo (2, r))), addf p.a3 (mulf h (t.geo (3, r)))⟩,
    { t with sup := Function.update t.sup r (mulf (t.sup r) (subf c1 h)) })

def topStepG (k : Fin 6) (_ : PUnit) (t : Tab F) : PUnit × Tab F :=
  let q := over (topG (over minG rows highest t).1) rows ⟨c0, c0, c0, c0, c0, c0⟩ t
  (⟨⟩, { q.2 with out := Function.update (Function.update (Function.update (Function.update (Function.update q.2.out
    (k, 0) q.1.al) (k, 1) q.1.ax) (k, 2) q.1.ay) (k, 3) q.1.a2) (k, 4) q.1.a3 })

/-- What a group's work leaves in the tables. -/
def workG (t : Tab F) : Tab F :=
  let t := nmsG^[20] (over initG rows ⟨⟩ t).2
  let t := (over (selG (flag (cmpf .olt (over countG rows c0 t).1 six))) rows ⟨⟩ t).2
  (over topStepG [0, 1, 2, 3, 4, 5] ⟨⟩ t).2

section Run
variable (d : Dev nD) (L : grid0.Coords) (buf : M9) (gtb : M2) (geo : M4) (sup unp hb dist : M20) (out : M6)

/-- The eight buffers, holding the tables. -/
def tabs (t : Tab F) : sProp 𝕄 :=
  iprop(own d L buf R9 (fun _ => shapeCasts_S1x1x16_S16) t.buf ∗ own d L gtb R2 (fun _ => shapeCasts_S1x16_S16) t.gtb
    ∗ own d L geo R4 (fun _ => shapeCasts_S1x1x16_S16) t.geo ∗ own d L sup R20 (fun _ => shapeCasts_S1x16_S16) t.sup
    ∗ own d L unp R20 (fun _ => shapeCasts_S1x16_S16) t.unp ∗ own d L hb R20 (fun _ => shapeCasts_S1x16_S16) t.hb
    ∗ own d L dist R20 (fun _ => shapeCasts_S1x16_S16) t.dist ∗ own d L out R6 (fun _ => shapeCasts_S1x1x16_S16) t.out)

/-- Run at the tables `t`, the program `p` yields `a` and leaves the tables `t'`. -/
def Tri {α : Type} (p : TP F L α) (t : Tab F) (a : α) (t' : Tab F) : Prop :=
  ∀ Q : α → sProp 𝕄, iprop(tabs d L buf gtb geo sup unp hb dist out t
    ∗ (tabs d L buf gtb geo sup unp hb dist out t' -∗ Q a)) ⊢ wpT d L p Q

variable {d L buf gtb geo sup unp hb dist out}

theorem Tri.ret {α : Type} (a : α) (t : Tab F) : Tri d L buf gtb geo sup unp hb dist out (.ret a) t a t := by
  intro Q
  show _ ⊢ wp _ _ _ _ _
  rw [wp_ret]
  iintro ⟨H, HQ⟩
  imodintro
  iapply HQ; iexact H

theorem Tri.bind {α β : Type} {p : TP F L α} {f : α → TP F L β} {t t' t'' : Tab F} {a : α} {b : β}
    (h : Tri d L buf gtb geo sup unp hb dist out p t a t') (h' : Tri d L buf gtb geo sup unp hb dist out (f a) t' b t'') : Tri d L buf gtb geo sup unp hb dist out (p.bind f) t b t'' := by
  intro Q
  rw [wpT_bind]
  refine BIBase.Entails.trans ?_ (h _)
  iintro ⟨H, HQ⟩
  isplitl [H]; · iexact H
  iintro H
  iapply (h' Q)
  isplitl [H] <;> iassumption

/-- The buffer `m` with its rows `get`, one of the eight: taken out, and put back at other rows. -/
def Focus (L : grid0.Coords) (buf : M9) (gtb : M2) (geo : M4) (sup unp hb dist : M20) (out : M6)
    {s : Shape} {ι : Type} (m : Memref sig .scVector .vmem s .f32) (R : ι → Rect s)
    (hc : ∀ i, (R i).shape.ShapeCasts S16) (get : Tab F → ι → Row F) (set : Tab F → (ι → Row F) → Tab F) : Prop :=
  ∀ (d : Dev nD) (t : Tab F), tabs d L buf gtb geo sup unp hb dist out t
    ⊢ iprop(own d L m R hc (get t) ∗ ∀ v, own d L m R hc v -∗ tabs d L buf gtb geo sup unp hb dist out (set t v))

section Focused
variable {s : Shape} {ι : Type} {m : Memref sig .scVector .vmem s .f32} {R : ι → Rect s}
  {hc : ∀ i, (R i).shape.ShapeCasts S16} {get : Tab F → ι → Row F} {set : Tab F → (ι → Row F) → Tab F}

theorem Focus.load (hf : Focus L buf gtb geo sup unp hb dist out m R hc get set) (t : Tab F) (ht : set t (get t) = t) (i : ι)
    (hl : m.view.LoadsAt (R i).toLoadRect) :
    Tri d L buf gtb geo sup unp hb dist out (.op (.load m (R i).toLoadRect hl) fun w => .ret (shapeCast S16 w (hc i))) t (get t i) t := by
  intro Q
  iintro ⟨H, HQ⟩
  ihave H := (hf d t) $$ H
  icases H with ⟨H, Hb⟩
  iapply (own_load d L m R hc (get t) i hl (fun v => .ret v) Q) $$ H
  iintro H
  iapply (Tri.ret (d := d) (L := L) (buf := buf) (gtb := gtb) (geo := geo) (sup := sup) (unp := unp) (hb := hb) (dist := dist)
    (out := out) (get t i) t Q)
  isplitr [HQ]
  swap; · iexact HQ
  ihave Hb := Hb $$ %(get t) H
  rw [ht]
  iexact Hb

theorem Focus.store [DecidableEq ι] (hf : Focus L buf gtb geo sup unp hb dist out m R hc get set) (hd : Apart R) (t : Tab F) (i : ι)
    (hl : m.view.LoadsAt (R i).toLoadRect) (w : (R i).shape.Idx → F .f32) (x : Row F) (hw : shapeCast S16 w (hc i) = x)
    (hx : (m.access (R i)).Stores Finset.univ) (hm : Finset.univ = Finset.univ ∨ ∀ a, (R i).stride a = 1) :
    Tri d L buf gtb geo sup unp hb dist out (.op (.load m (R i).toLoadRect hl) fun _ => .op (.store m (R i) w Finset.univ hx hm) .ret) t ⟨⟩
      (set t (Function.update (get t) i x)) := by
  subst hw
  intro Q
  iintro ⟨H, HQ⟩
  ihave H := (hf d t) $$ H
  icases H with ⟨H, Hb⟩
  iapply (own_store d L m R hc hd (get t) i hl w hx hm .ret Q) $$ H
  iintro H
  iapply (Tri.ret (d := d) (L := L) (buf := buf) (gtb := gtb) (geo := geo) (sup := sup) (unp := unp) (hb := hb) (dist := dist)
    (out := out) ⟨⟩ _ Q)
  isplitr [HQ]
  swap; · iexact HQ
  iapply Hb
  iexact H

end Focused

theorem focus_buf : Focus (F := F) L buf gtb geo sup unp hb dist out buf R9 (fun _ => shapeCasts_S1x1x16_S16) Tab.buf (fun t v => { t with buf := v }) := by
  intro d t
  unfold tabs
  iintro ⟨H0, H1, H2, H3, H4, H5, H6, H7⟩
  isplitl [H0]; · iexact H0
  iintro %v H
  isplitl [H]; · iexact H
  isplitl [H1]; · iexact H1
  isplitl [H2]; · iexact H2
  isplitl [H3]; · iexact H3
  isplitl [H4]; · iexact H4
  isplitl [H5]; · iexact H5
  isplitl [H6]; · iexact H6
  iexact H7
theorem focus_gtb : Focus (F := F) L buf gtb geo sup unp hb dist out gtb R2 (fun _ => shapeCasts_S1x16_S16) Tab.gtb (fun t v => { t with gtb := v }) := by
  intro d t
  unfold tabs
  iintro ⟨H0, H1, H2, H3, H4, H5, H6, H7⟩
  isplitl [H1]; · iexact H1
  iintro %v H
  isplitl [H0]; · iexact H0
  isplitl [H]; · iexact H
  isplitl [H2]; · iexact H2
  isplitl [H3]; · iexact H3
  isplitl [H4]; · iexact H4
  isplitl [H5]; · iexact H5
  isplitl [H6]; · iexact H6
  iexact H7
theorem focus_geo : Focus (F := F) L buf gtb geo sup unp hb dist out geo R4 (fun _ => shapeCasts_S1x1x16_S16) Tab.geo (fun t v => { t with geo := v }) := by
  intro d t
  unfold tabs
  iintro ⟨H0, H1, H2, H3, H4, H5, H6, H7⟩
  isplitl [H2]; · iexact H2
  iintro %v H
  isplitl [H0]; · iexact H0
  isplitl [H1]; · iexact H1
  isplitl [H]; · iexact H
  isplitl [H3]; · iexact H3
  isplitl [H4]; · iexact H4
  isplitl [H5]; · iexact H5
  isplitl [H6]; · iexact H6
  iexact H7
theorem focus_sup : Focus (F := F) L buf gtb geo sup unp hb dist out sup R20 (fun _ => shapeCasts_S1x16_S16) Tab.sup (fun t v => { t with sup := v }) := by
  intro d t
  unfold tabs
  iintro ⟨H0, H1, H2, H3, H4, H5, H6, H7⟩
  isplitl [H3]; · iexact H3
  iintro %v H
  isplitl [H0]; · iexact H0
  isplitl [H1]; · iexact H1
  isplitl [H2]; · iexact H2
  isplitl [H]; · iexact H
  isplitl [H4]; · iexact H4
  isplitl [H5]; · iexact H5
  isplitl [H6]; · iexact H6
  iexact H7
theorem focus_unp : Focus (F := F) L buf gtb geo sup unp hb dist out unp R20 (fun _ => shapeCasts_S1x16_S16) Tab.unp (fun t v => { t with unp := v }) := by
  intro d t
  unfold tabs
  iintro ⟨H0, H1, H2, H3, H4, H5, H6, H7⟩
  isplitl [H4]; · iexact H4
  iintro %v H
  isplitl [H0]; · iexact H0
  isplitl [H1]; · iexact H1
  isplitl [H2]; · iexact H2
  isplitl [H3]; · iexact H3
  isplitl [H]; · iexact H
  isplitl [H5]; · iexact H5
  isplitl [H6]; · iexact H6
  iexact H7
theorem focus_hb : Focus (F := F) L buf gtb geo sup unp hb dist out hb R20 (fun _ => shapeCasts_S1x16_S16) Tab.hb (fun t v => { t with hb := v }) := by
  intro d t
  unfold tabs
  iintro ⟨H0, H1, H2, H3, H4, H5, H6, H7⟩
  isplitl [H5]; · iexact H5
  iintro %v H
  isplitl [H0]; · iexact H0
  isplitl [H1]; · iexact H1
  isplitl [H2]; · iexact H2
  isplitl [H3]; · iexact H3
  isplitl [H4]; · iexact H4
  isplitl [H]; · iexact H
  isplitl [H6]; · iexact H6
  iexact H7
theorem focus_dist : Focus (F := F) L buf gtb geo sup unp hb dist out dist R20 (fun _ => shapeCasts_S1x16_S16) Tab.dist (fun t v => { t with dist := v }) := by
  intro d t
  unfold tabs
  iintro ⟨H0, H1, H2, H3, H4, H5, H6, H7⟩
  isplitl [H6]; · iexact H6
  iintro %v H
  isplitl [H0]; · iexact H0
  isplitl [H1]; · iexact H1
  isplitl [H2]; · iexact H2
  isplitl [H3]; · iexact H3
  isplitl [H4]; · iexact H4
  isplitl [H5]; · iexact H5
  isplitl [H]; · iexact H
  iexact H7
theorem focus_out : Focus (F := F) L buf gtb geo sup unp hb dist out out R6 (fun _ => shapeCasts_S1x1x16_S16) Tab.out (fun t v => { t with out := v }) := by
  intro d t
  unfold tabs
  iintro ⟨H0, H1, H2, H3, H4, H5, H6, H7⟩
  isplitl [H7]; · iexact H7
  iintro %v H
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H

theorem cast_cast16 {t : Shape} (x : Row F) (h : S16.ShapeCasts t) (h' : t.ShapeCasts S16) :
    shapeCast S16 (shapeCast t x h) h' = x := by
  funext j
  unfold shapeCast
  congr 1
  simp [Shape.reshapeEquiv]

theorem Tri.ld9 (t : Tab F) (p : Fin 9) (r : Fin 20) : Tri d L buf gtb geo sup unp hb dist out (Rolled.ld9 buf p r) t (t.buf (p, r)) t :=
  focus_buf.load t rfl (p, r) _
theorem Tri.ld2 (t : Tab F) (r : Fin 2) : Tri d L buf gtb geo sup unp hb dist out (Rolled.ld2 gtb r) t (t.gtb r) t :=
  focus_gtb.load t rfl r _
theorem Tri.ld4 (t : Tab F) (p : Fin 4) (r : Fin 20) : Tri d L buf gtb geo sup unp hb dist out (Rolled.ld4 geo p r) t (t.geo (p, r)) t :=
  focus_geo.load t rfl (p, r) _
theorem Tri.ldSup (t : Tab F) (r : Fin 20) : Tri d L buf gtb geo sup unp hb dist out (Rolled.ld20 sup r) t (t.sup r) t := focus_sup.load t rfl r _
theorem Tri.ldUnp (t : Tab F) (r : Fin 20) : Tri d L buf gtb geo sup unp hb dist out (Rolled.ld20 unp r) t (t.unp r) t := focus_unp.load t rfl r _
theorem Tri.ldHb (t : Tab F) (r : Fin 20) : Tri d L buf gtb geo sup unp hb dist out (Rolled.ld20 hb r) t (t.hb r) t := focus_hb.load t rfl r _
theorem Tri.ldDist (t : Tab F) (r : Fin 20) : Tri d L buf gtb geo sup unp hb dist out (Rolled.ld20 dist r) t (t.dist r) t := focus_dist.load t rfl r _

theorem Tri.st4 (t : Tab F) (p : Fin 4) (r : Fin 20) (x : Row F) :
    Tri d L buf gtb geo sup unp hb dist out (Rolled.st4 geo p r x) t ⟨⟩ { t with geo := Function.update t.geo (p, r) x } :=
  focus_geo.store apart4 t (p, r) _ _ x (cast_cast16 x _ _) _ _
theorem Tri.st6 (t : Tab F) (p : Fin 6) (r : Fin 5) (x : Row F) :
    Tri d L buf gtb geo sup unp hb dist out (Rolled.st6 out p r x) t ⟨⟩ { t with out := Function.update t.out (p, r) x } :=
  focus_out.store apart6 t (p, r) _ _ x (cast_cast16 x _ _) _ _
theorem Tri.stSup (t : Tab F) (r : Fin 20) (x : Row F) :
    Tri d L buf gtb geo sup unp hb dist out (Rolled.st20 sup r x) t ⟨⟩ { t with sup := Function.update t.sup r x } :=
  focus_sup.store apart20 t r _ _ x (cast_cast16 x _ _) _ _
theorem Tri.stUnp (t : Tab F) (r : Fin 20) (x : Row F) :
    Tri d L buf gtb geo sup unp hb dist out (Rolled.st20 unp r x) t ⟨⟩ { t with unp := Function.update t.unp r x } :=
  focus_unp.store apart20 t r _ _ x (cast_cast16 x _ _) _ _
theorem Tri.stHb (t : Tab F) (r : Fin 20) (x : Row F) :
    Tri d L buf gtb geo sup unp hb dist out (Rolled.st20 hb r x) t ⟨⟩ { t with hb := Function.update t.hb r x } :=
  focus_hb.store apart20 t r _ _ x (cast_cast16 x _ _) _ _
theorem Tri.stDist (t : Tab F) (r : Fin 20) (x : Row F) :
    Tri d L buf gtb geo sup unp hb dist out (Rolled.st20 dist r x) t ⟨⟩ { t with dist := Function.update t.dist r x } :=
  focus_dist.store apart20 t r _ _ x (cast_cast16 x _ _) _ _

/-! ## The body as a function on the tables -/

theorem Tri.each {ι σ : Type} {f : ι → σ → TP F L σ} {G : ι → σ → Tab F → σ × Tab F}
    (h : ∀ i a t, Tri d L buf gtb geo sup unp hb dist out (f i a) t (G i a t).1 (G i a t).2) :
    ∀ (l : List ι) (a : σ) (t : Tab F), Tri d L buf gtb geo sup unp hb dist out (Rolled.each f l a) t (over G l a t).1 (over G l a t).2
  | [], a, t => Tri.ret a t
  | i :: l, a, t => (h i a t).bind (Tri.each h l _ _)

theorem Tri.initRow (r : Fin 20) (a : PUnit) (t : Tab F) :
    Tri d L buf gtb geo sup unp hb dist out (Rolled.initRow buf geo sup unp r a) t (initG r a t).1 (initG r a t).2 :=
  (Tri.ld9 _ _ _).bind <| (Tri.ld9 _ _ _).bind <| (Tri.st4 _ _ _ _).bind <|
  (Tri.ld9 _ _ _).bind <| (Tri.ld9 _ _ _).bind <| (Tri.st4 _ _ _ _).bind <|
  (Tri.ld9 _ _ _).bind <| (Tri.ld9 _ _ _).bind <| (Tri.st4 _ _ _ _).bind <|
  (Tri.ld9 _ _ _).bind <| (Tri.ld9 _ _ _).bind <| (Tri.st4 _ _ _ _).bind <|
  (Tri.stSup _ _ _).bind <| Tri.stUnp _ _ _

theorem Tri.maxRow (r : Fin 20) (a : Row F) (t : Tab F) :
    Tri d L buf gtb geo sup unp hb dist out (Rolled.maxRow buf unp r a) t (maxG r a t).1 (maxG r a t).2 :=
  (Tri.ldUnp _ _).bind <| (Tri.ld9 _ _ _).bind <| Tri.ret _ _

theorem Tri.pickRow (m : Row F) (r : Fin 20) (a : Pick F) (t : Tab F) :
    Tri d L buf gtb geo sup unp hb dist out (Rolled.pickRow buf geo sup unp hb m r a) t (pickG m r a t).1 (pickG m r a t).2 :=
  (Tri.ldUnp _ _).bind <| (Tri.ld9 _ _ _).bind <| (Tri.ldSup _ _).bind <| (Tri.ld4 _ _ _).bind <| (Tri.ld4 _ _ _).bind <|
  (Tri.stHb _ _ _).bind <| Tri.ret _ _

theorem Tri.supRow (p : Pick F) (r : Fin 20) (a : PUnit) (t : Tab F) :
    Tri d L buf gtb geo sup unp hb dist out (Rolled.supRow geo sup unp hb p r a) t (supG p r a t).1 (supG p r a t).2 :=
  (Tri.ldUnp _ _).bind <| (Tri.ldHb _ _).bind <| (Tri.stUnp _ _ _).bind <| (Tri.ld4 _ _ _).bind <| (Tri.ld4 _ _ _).bind <|
  (Tri.ldSup _ _).bind <| Tri.stSup _ _ _

theorem Tri.nmsStep (t : Tab F) : Tri d L buf gtb geo sup unp hb dist out (Rolled.nmsStep buf geo sup unp hb) t ⟨⟩ (nmsG t) :=
  (Tri.each Tri.maxRow rows lowest t).bind <| (Tri.each (Tri.pickRow _) rows _ _).bind <| Tri.each (Tri.supRow _) rows ⟨⟩ _

theorem Tri.countRow (r : Fin 20) (a : Row F) (t : Tab F) :
    Tri d L buf gtb geo sup unp hb dist out (Rolled.countRow sup r a) t (countG r a t).1 (countG r a t).2 :=
  (Tri.ldSup _ _).bind <| Tri.ret _ _

theorem Tri.selRow (all : Row F) (r : Fin 20) (a : PUnit) (t : Tab F) :
    Tri d L buf gtb geo sup unp hb dist out (Rolled.selRow gtb geo sup dist all r a) t (selG all r a t).1 (selG all r a t).2 :=
  (Tri.ldSup _ _).bind <| (Tri.stSup _ _ _).bind <| (Tri.ld4 _ _ _).bind <| (Tri.ld2 _ _).bind <| (Tri.ld4 _ _ _).bind <|
  (Tri.ld2 _ _).bind <| Tri.stDist _ _ _

theorem Tri.minRow (r : Fin 20) (a : Row F) (t : Tab F) :
    Tri d L buf gtb geo sup unp hb dist out (Rolled.minRow sup dist r a) t (minG r a t).1 (minG r a t).2 :=
  (Tri.ldSup _ _).bind <| (Tri.ldDist _ _).bind <| Tri.ret _ _

theorem Tri.topRow (m : Row F) (r : Fin 20) (a : Top F) (t : Tab F) :
    Tri d L buf gtb geo sup unp hb dist out (Rolled.topRow buf geo sup dist m r a) t (topG m r a t).1 (topG m r a t).2 :=
  (Tri.ldSup _ _).bind <| (Tri.ldDist _ _).bind <| (Tri.stSup _ _ _).bind <| (Tri.ld9 _ _ _).bind <| (Tri.ld4 _ _ _).bind <|
  (Tri.ld4 _ _ _).bind <| (Tri.ld4 _ _ _).bind <| (Tri.ld4 _ _ _).bind <| Tri.ret _ _

theorem Tri.topStep (k : Fin 6) (a : PUnit) (t : Tab F) :
    Tri d L buf gtb geo sup unp hb dist out (Rolled.topStep buf geo sup dist out k a) t (topStepG k a t).1 (topStepG k a t).2 :=
  (Tri.each Tri.minRow rows highest t).bind <| (Tri.each (Tri.topRow _) rows _ _).bind <|
  (Tri.st6 _ _ _ _).bind <| (Tri.st6 _ _ _ _).bind <| (Tri.st6 _ _ _ _).bind <| (Tri.st6 _ _ _ _).bind <| Tri.st6 _ _ _ _

theorem Tri.rounds (t : Tab F) :
    Tri d L buf gtb geo sup unp hb dist out (Scf.Loop.for k0_t2_loop k0_t2_ok ⟨⟩ fun _ _ => Rolled.nmsStep buf geo sup unp hb) t ⟨⟩ (nmsG^[20] t) := by
  intro Q
  have h := Scf.wp_for frame (wpE (defs₀ (F := F)) 𝒱₀ (V d (cV L) (jV L)) none) Set.univ k0_t2_loop.lb k0_t2_loop.ub k0_t2_loop.st
    k0_t2_ok ⟨⟩ (fun _ _ => Rolled.nmsStep buf geo sup unp hb)
    (fun n (_ : PUnit) => tabs d L buf gtb geo sup unp hb dist out (nmsG^[n] t))
    (fun k _ => by
      rw [Function.iterate_succ_apply']
      refine BIBase.Entails.trans ?_ (Tri.nmsStep (buf := buf) (gtb := gtb) (geo := geo) (sup := sup) (unp := unp) (hb := hb)
        (dist := dist) (out := out) (nmsG^[k.val] t) _)
      iintro H
      isplitl [H]; · iexact H
      iintro H; iexact H) (Q := Q)
  refine BIBase.Entails.trans ?_ h
  iintro ⟨H, HQ⟩
  isplitl [H]; · iexact H
  iintro %_ H
  iapply HQ
  iexact H

theorem Tri.work (t : Tab F) : Tri d L buf gtb geo sup unp hb dist out (Rolled.work buf gtb geo sup unp hb dist out) t ⟨⟩ (workG t) :=
  (Tri.each Tri.initRow rows ⟨⟩ t).bind <| (Tri.rounds _).bind <| (Tri.each Tri.countRow rows c0 _).bind <|
  (Tri.each (Tri.selRow _) rows ⟨⟩ _).bind <| Tri.each Tri.topStep [0, 1, 2, 3, 4, 5] ⟨⟩ _

end Run

end Cert.KernelIdeal.Tile
end
-- ==== Proof.Group.lean ====
/- One group of a tile: its operands' copies in, the rolled body between, its result's copy out; and the tile, which runs
   two of them. -/
module

public import proofs.«01_k».proof.Proof.Tile
public import Idealize.ShloMosaic.Lib.ValueLayout

@[expose] public section

noncomputable section

namespace Cert.KernelIdeal.Tile

open Cert.KernelIdeal Cert.KernelIdeal.Rolled

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Facts₀ Facts

variable {F : FTy → Type} [FloatOps F] [Named F] [Facts]

local notation "𝕄" => MT nD τ sig (HIx 1) (Elt F) ℕ UU ℕ

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## Rows by coordinates -/

theorem lane2 (h : S16.numel = S1x16.numel) (x : Fin 16) : Shape.reshapeEquiv h (ix1 x) = ix2 (0 : Fin 1) x :=
  Shape.reshapeEquiv_eq_of_rowMajor h (by
    rw [Shape.rowMajor_val_two, Shape.rowMajor_val_one]
    show 0 * 16 + x.val = x.val
    omega)
theorem lane3 (h : S16.numel = S1x1x16.numel) (x : Fin 16) :
    Shape.reshapeEquiv h (ix1 x) = ix3 (0 : Fin 1) (0 : Fin 1) x :=
  Shape.reshapeEquiv_eq_of_rowMajor h (by
    rw [Shape.rowMajor_val_three, Shape.rowMajor_val_one]
    show (0 * 1 + 0) * 16 + x.val = x.val
    omega)

theorem emb9 (p : Fin 9) (r : Fin 20) (x : Fin 16) : (R9 (p, r)).emb (ix3 (0 : Fin 1) (0 : Fin 1) x) = ix3 p r x := by
  funext a
  match a with
  | ⟨0, _⟩ => exact Fin.ext (by simp [Rect.emb, Rect.unit])
  | ⟨1, _⟩ => exact Fin.ext (by simp [Rect.emb, Rect.unit])
  | ⟨2, _⟩ => exact Fin.ext (by simp [Rect.emb, Rect.unit])
theorem emb6 (p : Fin 6) (r : Fin 5) (x : Fin 16) : (R6 (p, r)).emb (ix3 (0 : Fin 1) (0 : Fin 1) x) = ix3 p r x := by
  funext a
  match a with
  | ⟨0, _⟩ => exact Fin.ext (by simp [Rect.emb, Rect.unit])
  | ⟨1, _⟩ => exact Fin.ext (by simp [Rect.emb, Rect.unit])
  | ⟨2, _⟩ => exact Fin.ext (by simp [Rect.emb, Rect.unit])
theorem emb2 (r : Fin 2) (x : Fin 16) : (R2 r).emb (ix2 (0 : Fin 1) x) = ix2 r x := by
  funext a
  match a with
  | ⟨0, _⟩ => exact Fin.ext (by simp [Rect.emb, Rect.unit])
  | ⟨1, _⟩ => exact Fin.ext (by simp [Rect.emb, Rect.unit])

theorem rowOf9 (m : M9) (f : m.view.ty.Contents (Elt F)) (p : Fin 9) (r : Fin 20) (x : Fin 16) :
    rowOf m R9 (fun _ => shapeCasts_S1x1x16_S16) f (p, r) (ix1 x) = m.view.read (Elt F) f (ix3 p r x) := by
  rw [← emb9 p r x, ← lane3 rfl x]
  rfl
theorem rowOf6 (m : M6) (f : m.view.ty.Contents (Elt F)) (p : Fin 6) (r : Fin 5) (x : Fin 16) :
    rowOf m R6 (fun _ => shapeCasts_S1x1x16_S16) f (p, r) (ix1 x) = m.view.read (Elt F) f (ix3 p r x) := by
  rw [← emb6 p r x, ← lane3 rfl x]
  rfl
theorem rowOf2 (m : M2) (f : m.view.ty.Contents (Elt F)) (r : Fin 2) (x : Fin 16) :
    rowOf m R2 (fun _ => shapeCasts_S1x16_S16) f r (ix1 x) = m.view.read (Elt F) f (ix2 r x) := by
  rw [← emb2 r x, ← lane2 rfl x]
  rfl

/-! ## A group's operands and its result -/

/-- The group of trip `t` of tile `L`. -/
def grp (L : grid0.Coords) (t : Fin k0_t1_loop.trips) : Fin 64 :=
  ⟨4 * (L 1).val + 2 * (L 0).val + t.val, by
    have h0 : (L 0).val < 2 := (L 0).isLt
    have h1 : (L 1).val < 16 := (L 1).isLt
    have h2 : t.val < 2 := t.isLt
    omega⟩

/-- The rows a group reads. -/
def rowsA (A : FVec F S64x9x20x16 .f32) (g : Fin 64) : Fin 9 × Fin 20 → Row F := fun p x => A (ix4 g p.1 p.2 (x 0 : Fin 16))
def rowsB (B : FVec F S64x2x16 .f32) (g : Fin 64) : Fin 2 → Row F := fun p x => B (ix3 g p (x 0 : Fin 16))

/-- What a group leaves in its part of the result: what its work computes from some tables holding its operands' rows. -/
def OutOK (A : FVec F S64x9x20x16 .f32) (B : FVec F S64x2x16 .f32) (g : Fin 64) (f : FVec F S64x6x5x16 .f32) : Prop :=
  ∃ T : Tab F, T.buf = rowsA A g ∧ T.gtb = rowsB B g ∧ ∀ k j x, f (ix4 g k j x) = (workG T).out (k, j) (ix1 x)

abbrev aV : Memref sig .scVector .hbm S64x9x20x16 .f32 := Memref.whole main_v5_scv
abbrev bV : Memref sig .scVector .hbm S64x2x16 .f32 := Memref.whole main_v10_scv
abbrev oV : Memref sig .scVector .hbm S64x6x5x16 .f32 := Memref.whole main_v11_scv

abbrev aK (L : grid0.Coords) (t : Fin k0_t1_loop.trips) : Memref sig .scVector .hbm S9x20x16 .f32 :=
  (aV.slice (Rect.unit (s := S64x9x20x16) (k0_off1 L t) S1x9x20x16.size (k0_off1_inb L t)) (fun _ => rfl)).squeeze
      S9x20x16 squeezes_S1x9x20x16_S9x20x16
abbrev bK (L : grid0.Coords) (t : Fin k0_t1_loop.trips) : Memref sig .scVector .hbm S2x16 .f32 :=
  (bV.slice (Rect.unit (s := S64x2x16) (k0_off2 L t) S1x2x16.size (k0_off2_inb L t)) (fun _ => rfl)).squeeze
      S2x16 squeezes_S1x2x16_S2x16
abbrev oK (L : grid0.Coords) (t : Fin k0_t1_loop.trips) : Memref sig .scVector .hbm S6x5x16 .f32 :=
  (oV.slice (Rect.unit (s := S64x6x5x16) (k0_off3 L t) S1x6x5x16.size (k0_off3_inb L t)) (fun _ => rfl)).squeeze
      S6x5x16 squeezes_S1x6x5x16_S6x5x16

theorem embA (L : grid0.Coords) (t : Fin k0_t1_loop.trips) (p : Fin 9) (r : Fin 20) (x : Fin 16) :
    (aK L t).view.emb (ix3 p r x) = ix4 (grp L t) p r x := by
  show (Rect.unit (s := S64x9x20x16) (k0_off1 L t) S1x9x20x16.size (k0_off1_inb L t)).emb
    (Shape.reshapeEquiv squeezes_S1x9x20x16_S9x20x16.numel_eq (ix3 p r x)) = _
  rw [show Shape.reshapeEquiv squeezes_S1x9x20x16_S9x20x16.numel_eq (ix3 p r x) = ix4 (⟨0, Nat.one_pos⟩ : Fin 1) p r x
    from reshapeEquiv_ix3_1abc _ p r x]
  have h := Gen.k0_off1_eq L t
  funext a
  apply Fin.ext
  refine (congrArg (fun n => n + 1 * _) (congrFun h a)).trans ?_
  match a with
  | ⟨0, _⟩ => simp [grp, ix4]
  | ⟨1, _⟩ => simp [ix4]
  | ⟨2, _⟩ => simp [ix4]
  | ⟨3, _⟩ => simp [ix4]
theorem embO (L : grid0.Coords) (t : Fin k0_t1_loop.trips) (p : Fin 6) (r : Fin 5) (x : Fin 16) :
    (oK L t).view.emb (ix3 p r x) = ix4 (grp L t) p r x := by
  show (Rect.unit (s := S64x6x5x16) (k0_off3 L t) S1x6x5x16.size (k0_off3_inb L t)).emb
    (Shape.reshapeEquiv squeezes_S1x6x5x16_S6x5x16.numel_eq (ix3 p r x)) = _
  rw [show Shape.reshapeEquiv squeezes_S1x6x5x16_S6x5x16.numel_eq (ix3 p r x) = ix4 (⟨0, Nat.one_pos⟩ : Fin 1) p r x
    from reshapeEquiv_ix3_1abc _ p r x]
  have h := Gen.k0_off3_eq L t
  funext a
  apply Fin.ext
  refine (congrArg (fun n => n + 1 * _) (congrFun h a)).trans ?_
  match a with
  | ⟨0, _⟩ => simp [grp, ix4]
  | ⟨1, _⟩ => simp [ix4]
  | ⟨2, _⟩ => simp [ix4]
  | ⟨3, _⟩ => simp [ix4]
theorem embB (L : grid0.Coords) (t : Fin k0_t1_loop.trips) (r : Fin 2) (x : Fin 16) :
    (bK L t).view.emb (ix2 r x) = ix3 (grp L t) r x := by
  show (Rect.unit (s := S64x2x16) (k0_off2 L t) S1x2x16.size (k0_off2_inb L t)).emb
    (Shape.reshapeEquiv squeezes_S1x2x16_S2x16.numel_eq (ix2 r x)) = _
  rw [show Shape.reshapeEquiv squeezes_S1x2x16_S2x16.numel_eq (ix2 r x) = ix3 (⟨0, Nat.one_pos⟩ : Fin 1) r x
    from reshapeEquiv_ix2_1ab _ r x]
  have h := Gen.k0_off2_eq L t
  funext a
  apply Fin.ext
  refine (congrArg (fun n => n + 1 * _) (congrFun h a)).trans ?_
  match a with
  | ⟨0, _⟩ => simp [grp, ix3]
  | ⟨1, _⟩ => simp [ix3]
  | ⟨2, _⟩ => simp [ix3]

/-- A buffer copied into is its rows. -/
theorem rows_fetchA (L : grid0.Coords) (t : Fin k0_t1_loop.trips) (buf : M9) (f : buf.view.ty.Contents (Elt F))
    (A : FVec F S64x9x20x16 .f32) :
    rowOf buf R9 (fun _ => shapeCasts_S1x1x16_S16) (buf.view.write (Elt F) f ((aK L t).view.read (Elt F) A) Finset.univ)
      = rowsA A (grp L t) := by
  funext p x
  obtain ⟨y, rfl⟩ : ∃ y : Fin 16, x = ix1 y := ⟨x 0, eq_ix1 x⟩
  obtain ⟨p, r⟩ := p
  refine (rowOf9 buf _ p r y).trans ?_
  rw [View.read_write_univ]
  exact congrArg A (embA L t p r y)
theorem rows_fetchB (L : grid0.Coords) (t : Fin k0_t1_loop.trips) (gtb : M2) (f : gtb.view.ty.Contents (Elt F))
    (B : FVec F S64x2x16 .f32) :
    rowOf gtb R2 (fun _ => shapeCasts_S1x16_S16) (gtb.view.write (Elt F) f ((bK L t).view.read (Elt F) B) Finset.univ)
      = rowsB B (grp L t) := by
  funext p x
  obtain ⟨y, rfl⟩ : ∃ y : Fin 16, x = ix1 y := ⟨x 0, eq_ix1 x⟩
  refine (rowOf2 gtb _ p y).trans ?_
  rw [View.read_write_univ]
  exact congrArg B (embB L t p y)
theorem out_flush (L : grid0.Coords) (t : Fin k0_t1_loop.trips) (out : M6) (f : out.view.ty.Contents (Elt F))
    (o : FVec F S64x6x5x16 .f32) (v : Fin 6 × Fin 5 → Row F) (h : rowOf out R6 (fun _ => shapeCasts_S1x1x16_S16) f = v)
    (k : Fin 6) (j : Fin 5) (x : Fin 16) :
    ((oK L t).view.write (Elt F) o (out.view.read (Elt F) f) Finset.univ : FVec F S64x6x5x16 .f32) (ix4 (grp L t) k j x)
      = v (k, j) (ix1 x) := by
  rw [← embO L t k j x, ← h, rowOf6]
  exact congrFun (View.read_write_univ (Val := Elt F) (v := (oK L t).view) o (out.view.read (Elt F) f)) (ix3 k j x)

/-! ## The run of a group -/

section Run
variable (d : Dev nD) (L : grid0.Coords)

abbrev s0 : M9 := Memref.whole cc0_scratch0
abbrev s1 : M2 := Memref.whole cc0_scratch1
abbrev s2 : M4 := Memref.whole cc0_scratch2
abbrev s3 : M20 := Memref.whole cc0_scratch3
abbrev s4 : M20 := Memref.whole cc0_scratch4
abbrev s5 : M20 := Memref.whole cc0_scratch5
abbrev s6 : M20 := Memref.whole cc0_scratch6
abbrev s7 : M6 := Memref.whole cc0_scratch7

/-- The eight scratch buffers of the tile, holding the tables. -/
abbrev tabsS (t : Tab F) : sProp 𝕄 := tabs d L s0 s1 s2 s3 s4 s5 s6 s7 t

abbrev thrV : Thread nD τ := V d (cV L) (jV L)

/-- A group's parts of the two operands and of the result. -/
abbrev aPts (t : Fin k0_t1_loop.trips) (A : FVec F S64x9x20x16 .f32) : sProp 𝕄 :=
  (aK L t).view.loc (thrV d L) ↦[(aK L t).view.set]{fullShare} A
abbrev bPts (t : Fin k0_t1_loop.trips) (B : FVec F S64x2x16 .f32) : sProp 𝕄 :=
  (bK L t).view.loc (thrV d L) ↦[(bK L t).view.set]{fullShare} B
abbrev oPts (t : Fin k0_t1_loop.trips) (f : FVec F S64x6x5x16 .f32) : sProp 𝕄 :=
  (oK L t).view.loc (thrV d L) ↦[(oK L t).view.set]{fullShare} f

/-- The three copies' semaphores at zero. -/
abbrev sems0 : sProp 𝕄 := iprop(semVal (thrV d L, .dma cc0_scoped0.sem) 0 ∗ semVal (thrV d L, .dma cc0_scoped1.sem) 0
  ∗ semVal (thrV d L, .dma cc0_scoped2.sem) 0)

abbrev debt (O : CellTallies nD τ sig (HIx 1)) (W : Waits sig (HIx 1)) : sProp 𝕄 :=
  iprop(∃ W', ⌜∀ p ∈ W', p ∈ W ∨ p.2 = none⌝ ∗ owes (thrV d L) O W')

/-- The tables with the two operand buffers laid open. -/
abbrev tabsRest (t : Tab F) : sProp 𝕄 :=
  iprop(own d L s2 R4 (fun _ => shapeCasts_S1x1x16_S16) t.geo ∗ own d L s3 R20 (fun _ => shapeCasts_S1x16_S16) t.sup
    ∗ own d L s4 R20 (fun _ => shapeCasts_S1x16_S16) t.unp ∗ own d L s5 R20 (fun _ => shapeCasts_S1x16_S16) t.hb
    ∗ own d L s6 R20 (fun _ => shapeCasts_S1x16_S16) t.dist ∗ own d L s7 R6 (fun _ => shapeCasts_S1x1x16_S16) t.out)
theorem tabs_split (t : Tab F) : tabsS d L t
    = iprop((∃ f : Buf (Elt F) (s0.view.loc (thrV d L)), ⌜rowOf s0 R9 (fun _ => shapeCasts_S1x1x16_S16) f = t.buf⌝ ∗ s0.view.loc (thrV d L) ↦{fullShare} f)
      ∗ (∃ f : Buf (Elt F) (s1.view.loc (thrV d L)), ⌜rowOf s1 R2 (fun _ => shapeCasts_S1x16_S16) f = t.gtb⌝ ∗ s1.view.loc (thrV d L) ↦{fullShare} f)
      ∗ tabsRest d L t) := rfl

/-- The tables with the result's buffer laid open. -/
abbrev tabsFirst (t : Tab F) : sProp 𝕄 :=
  iprop(own d L s0 R9 (fun _ => shapeCasts_S1x1x16_S16) t.buf ∗ own d L s1 R2 (fun _ => shapeCasts_S1x16_S16) t.gtb
    ∗ own d L s2 R4 (fun _ => shapeCasts_S1x1x16_S16) t.geo ∗ own d L s3 R20 (fun _ => shapeCasts_S1x16_S16) t.sup
    ∗ own d L s4 R20 (fun _ => shapeCasts_S1x16_S16) t.unp ∗ own d L s5 R20 (fun _ => shapeCasts_S1x16_S16) t.hb
    ∗ own d L s6 R20 (fun _ => shapeCasts_S1x16_S16) t.dist)
theorem tabs_out (t : Tab F) : tabsS d L t
    = iprop(tabsFirst d L t ∗ ∃ f : Buf (Elt F) (s7.view.loc (thrV d L)), ⌜rowOf s7 R6 (fun _ => shapeCasts_S1x1x16_S16) f = t.out⌝ ∗ s7.view.loc (thrV d L) ↦{fullShare} f) := by
  have h : tabsS d L t ⊣⊢ iprop(tabsFirst d L t ∗ own d L s7 R6 (fun _ => shapeCasts_S1x1x16_S16) t.out) := by
    unfold tabsS tabs
    constructor
    · iintro ⟨H0, H1, H2, H3, H4, H5, H6, H7⟩
      isplitr [H7]
      swap; · iexact H7
      isplitl [H0]; · iexact H0
      isplitl [H1]; · iexact H1
      isplitl [H2]; · iexact H2
      isplitl [H3]; · iexact H3
      isplitl [H4]; · iexact H4
      isplitl [H5]; · iexact H5
      iexact H6
    · iintro ⟨⟨H0, H1, H2, H3, H4, H5, H6⟩, H7⟩
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  exact BI.Entails.antisymm h.1 h.2

theorem wpT_ret {α : Type} (a : α) (Q : α → sProp 𝕄) : Q a ⊢ wpT d L (.ret a : TP F L α) Q := by
  show _ ⊢ wp _ _ _ _ _
  rw [wp_ret]
  iintro H
  imodintro
  iexact H

/-- A buffer known by its rows is the buffer at some contents. -/
theorem own_of {s : Shape} {ι : Type} {d : Dev nD} {L : grid0.Coords} (m : Memref sig .scVector .vmem s .f32) (R : ι → Rect s)
    (hc : ∀ i, (R i).shape.ShapeCasts S16) (f : Buf (Elt F) (m.view.loc (thrV d L))) :
    (m.view.loc (thrV d L) ↦{fullShare} f : sProp 𝕄) ⊢ own d L m R hc (rowOf m R hc f) := by
  unfold own
  iintro H
  iexists f
  isplitr
  · ipureintro; rfl
  · iexact H

set_option maxHeartbeats 1000000 in
theorem group_run (t : Fin k0_t1_loop.trips) (A : FVec F S64x9x20x16 .f32) (B : FVec F S64x2x16 .f32)
    (o : FVec F S64x6x5x16 .f32) (O : CellTallies nD τ sig (HIx 1)) (W : Waits sig (HIx 1)) (hO : ∀ g, O g none = 0)
    (Q : PUnit → sProp 𝕄) :
    iprop(levAts (K (F := F)).L (K (F := F)).lev ∗ (∃ T, tabsS d L T) ∗ aPts d L t A ∗ bPts d L t B ∗ oPts d L t o ∗ sems0 d L
        ∗ debt d L O W
        ∗ (iprop((∃ T, tabsS d L T) ∗ aPts d L t A ∗ bPts d L t B ∗ (∃ f, ⌜OutOK A B (grp L t) f⌝ ∗ oPts d L t f) ∗ sems0 d L
            ∗ debt d L O W) -∗ Q ⟨⟩))
      ⊢ wpT d L (group s0 s1 s2 s3 s4 s5 s6 s7 aV bV oV (Memref.isWhole_whole _) (Memref.isWhole_whole _) (Memref.isWhole_whole _)
          cc0_scoped0 cc0_scoped1 cc0_scoped2 t) Q := by
  unfold group
  rw [workThen_eq]
  iintro ⟨#Hlv, ⟨%T, HT⟩, HA, HB, HO, ⟨Hs0, Hs1, Hs2⟩, ⟨%W1, %hW1, Hw⟩, HQ⟩
  ihave Hmw := (show levAts (K (F := F)).L (K (F := F)).lev ⊢ Transfers.MayWaits (thrV d L) (default : HIx 1) O from
    (K (F := F)).mayWaits_none (thr := thrV d L) hO) $$ Hlv
  ihave HT := (Entails.of_eq (tabs_split d L T)) $$ HT
  icases HT with ⟨H0, H1, HT⟩
  icases H0 with ⟨%f0, %h0, H0⟩
  icases H1 with ⟨%f1, %h1, H1⟩
  -- the first operand in
  iapply (Transfers.wp_dmaLocal countersEmb 𝒱₀ (thrV d L) none (via := ReadAs.same) (default : HIx 1) s0.view.dmaCredit rfl (by decide)
    (Finset.subset_univ _)) $$ [HA H0 Hs0]
  · isplitl [HA]; · iexact HA
    isplitl [H0]; · iexact H0
    iexact Hs0
  iintro Hfl
  iapply (Transfers.wp_waitLocalO countersEmb 𝒱₀ (thrV d L) none (default : HIx 1) (rfl : s0.view.dmaCredit = _)) $$ [Hfl Hw]
  · isplitl [Hfl]; · iexact Hfl
    isplitl [Hw]; · iexact Hw
    iapply (Transfers.MayWaits.elim (SemLoc.dma cc0_scoped0.sem)) $$ Hmw
  iintro ⟨⟨H0, HA⟩, Hs0, Hw⟩
  -- the second
  iapply (Transfers.wp_dmaLocal countersEmb 𝒱₀ (thrV d L) none (via := ReadAs.same) (default : HIx 1) s1.view.dmaCredit rfl (by decide)
    (Finset.subset_univ _)) $$ [HB H1 Hs1]
  · isplitl [HB]; · iexact HB
    isplitl [H1]; · iexact H1
    iexact Hs1
  iintro Hfl
  iapply (Transfers.wp_waitLocalO countersEmb 𝒱₀ (thrV d L) none (default : HIx 1) (rfl : s1.view.dmaCredit = _)) $$ [Hfl Hw]
  · isplitl [Hfl]; · iexact Hfl
    isplitl [Hw]; · iexact Hw
    iapply (Transfers.MayWaits.elim (SemLoc.dma cc0_scoped1.sem)) $$ Hmw
  iintro ⟨⟨H1, HB⟩, Hs1, Hw⟩
  -- the work
  let T' : Tab F := { T with buf := rowsA A (grp L t), gtb := rowsB B (grp L t) }
  ihave HT := (show iprop((s0.view.loc (thrV d L) ↦{fullShare} (s0.view.write (Elt F) f0 ((aK L t).view.read (Elt F) A) Finset.univ))
      ∗ (s1.view.loc (thrV d L) ↦{fullShare} (s1.view.write (Elt F) f1 ((bK L t).view.read (Elt F) B) Finset.univ)) ∗ tabsRest d L T)
      ⊢ (tabsS d L T' : sProp 𝕄) from by
    rw [tabs_split]
    iintro ⟨H0, H1, HT⟩
    isplitl [H0]
    · iexists _
      isplitr
      swap; · iexact H0
      ipureintro; exact rows_fetchA L t s0 f0 A
    isplitl [H1]
    · iexists _
      isplitr
      swap; · iexact H1
      ipureintro; exact rows_fetchB L t s1 f1 B
    iexact HT) $$ [H0 H1 HT]
  · isplitl [H0]; · iexact H0
    isplitl [H1]; · iexact H1
    iexact HT
  iapply (Entails.of_eq (wpT_bind d L _ _ Q).symm)
  iapply (Tri.work T' _)
  isplitl [HT]; · iexact HT
  iintro HT
  ihave HT := (Entails.of_eq (tabs_out d L (workG T'))) $$ HT
  icases HT with ⟨HT, %f7, %h7, H7⟩
  -- the result out
  iapply (Transfers.wp_dmaLocal countersEmb 𝒱₀ (thrV d L) none (via := ReadAs.same) (default : HIx 1) (oK L t).view.dmaCredit rfl
    (show 0 < View.amount (oK L t).view (SemLoc.dma cc0_scoped2.sem) from View.amount_pos _ _ (show 0 < S6x5x16.numel by decide)) (Finset.Subset.refl _)) $$ [HO H7 Hs2]
  · isplitl [H7]
    · iapply (Entails.of_eq (show (s7.view.loc (thrV d L) ↦{fullShare} f7 : sProp 𝕄) = s7.view.loc (thrV d L) ↦[s7.view.set]{fullShare} f7
        by rw [show s7.view.set = Finset.univ from View.set_whole _])); iexact H7
    isplitl [HO]; · iexact HO
    iexact Hs2
  iintro Hfl
  iapply (Transfers.wp_waitLocalO countersEmb 𝒱₀ (thrV d L) none (default : HIx 1) (rfl : (oK L t).view.dmaCredit = _)) $$ [Hfl Hw]
  · isplitl [Hfl]; · iexact Hfl
    isplitl [Hw]; · iexact Hw
    iapply (Transfers.MayWaits.elim (SemLoc.dma cc0_scoped2.sem)) $$ Hmw
  iintro ⟨⟨HO, H7⟩, Hs2, Hw⟩
  iapply (wpT_ret d L ⟨⟩ Q)
  iapply HQ
  isplitl [HT H7]
  · iexists (workG T')
    iapply (Entails.of_eq (tabs_out d L (workG T')).symm)
    isplitl [HT]; · iexact HT
    iexists f7
    isplitr
    · ipureintro; exact h7
    iapply (Entails.of_eq (show (s7.view.loc (thrV d L) ↦[s7.view.set]{fullShare} f7 : sProp 𝕄) = s7.view.loc (thrV d L) ↦{fullShare} f7
        by rw [show s7.view.set = Finset.univ from View.set_whole _])); iexact H7
  isplitl [HA]; · iexact HA
  isplitl [HB]; · iexact HB
  isplitl [HO]
  · iexists _
    isplitr
    swap; · iexact HO
    ipureintro
    exact ⟨T', rfl, rfl, fun k j x => out_flush L t s7 f7 o _ h7 k j x⟩
  isplitl [Hs0 Hs1 Hs2]
  · isplitl [Hs0]; · iexact Hs0
    isplitl [Hs1]; · iexact Hs1
    iexact Hs2
  iexists _
  isplitr
  swap; · iexact Hw
  ipureintro
  intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW1 p hp

end Run

end Cert.KernelIdeal.Tile
end
-- ==== Proof.Call.lean ====
/- The SparseCore call: the tile's run over its two groups, what the call's threads hand each other, and the
   obligations the launch asks of them. -/
module

public import proofs.«01_k».proof.Proof.Group
public import Idealize.ShloMosaic.Lib.SparseCore.Quiescent

@[expose] public section

noncomputable section

namespace Cert.KernelIdeal.Tile

open Cert.KernelIdeal Cert.KernelIdeal.Rolled

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Facts₀ Facts

variable {F : FTy → Type} [FloatOps F] [Named F] [Facts]

local notation "𝕄" => MT nD τ sig (HIx 1) (Elt F) ℕ UU ℕ

/-! ## The tile's own buffers and semaphores -/

section Own
variable (d : Dev nD) (L : grid0.Coords)

abbrev cell0 : GSem nD τ sig := (thrV d L, .dma cc0_scoped0.sem)
abbrev cell1 : GSem nD τ sig := (thrV d L, .dma cc0_scoped1.sem)
abbrev cell2 : GSem nD τ sig := (thrV d L, .dma cc0_scoped2.sem)

theorem ownSems0_V :
    (ownSems0 (thrV d L) : sProp 𝕄)
      = iprop(semVal (cell0 d L) 0 ∗ semVal (cell1 d L) 0 ∗ semVal (cell2 d L) 0
          ∗ bigSep ((((ownCells (thrV d L)).erase (cell0 d L)).erase (cell1 d L)).erase (cell2 d L)) fun g => semVal g 0) := by
  unfold SparseCore.Cfg.ownSems0
  rw [SparseCore.bigSep_erase' ((mem_ownCells (g := cell0 d L)).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d L)).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d L)).mpr ⟨rfl, by show (SemLoc.dma cc0_scoped2.sem : SemLoc sig).isScoped .scVector = true; decide⟩⟩⟩)]

/-- The eight scratch buffers. -/
abbrev scr : Finset (Ref sig .scVector) :=
  {cc0_scratch0, cc0_scratch1, cc0_scratch2, cc0_scratch3, cc0_scratch4, cc0_scratch5, cc0_scratch6, cc0_scratch7}

abbrev some_ (b : Ref sig .scVector) : sProp 𝕄 := iprop(∃ f, (thrV d L).loc b ↦{fullShare} f)

abbrev bufsRest : sProp 𝕄 :=
  bigSep (ownRefs (τ := τ) (.scVector (cV L) (jV L)) \ scr.image (Proc.scVector (cV L) (jV L)).devRef)
    fun b => iprop(∃ f, ((d, b) : Loc nD τ sig) ↦{fullShare} f)

theorem bigSep_scr (Φ : Ref sig .scVector → sProp 𝕄) :
    bigSep scr Φ = iprop(Φ cc0_scratch0 ∗ Φ cc0_scratch1 ∗ Φ cc0_scratch2 ∗ Φ cc0_scratch3
      ∗ Φ cc0_scratch4 ∗ Φ cc0_scratch5 ∗ Φ cc0_scratch6 ∗ Φ cc0_scratch7) := by
  unfold scr
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

theorem owner_scr : ∀ b ∈ scr, ((Proc.scVector (cV L) (jV L)).devRef b).owner = Owner.proc (Proc.scVector (cV L) (jV L)) := by
  simp only [scr, Finset.mem_insert, Finset.mem_singleton, forall_eq_or_imp, forall_eq]
  exact ⟨rfl, rfl, rfl, rfl, rfl, rfl, rfl, rfl⟩

theorem ownBufs_V :
    (ownBufs (thrV d L) : sProp 𝕄)
      = iprop((some_ d L cc0_scratch0 ∗ some_ d L cc0_scratch1 ∗ some_ d L cc0_scratch2 ∗ some_ d L cc0_scratch3
          ∗ some_ d L cc0_scratch4 ∗ some_ d L cc0_scratch5 ∗ some_ d L cc0_scratch6 ∗ some_ d L cc0_scratch7) ∗ bufsRest d L) := by
  unfold SparseCore.Cfg.ownBufs
  refine (bigSep_sdiff_split (t := scr.image (Proc.scVector (cV L) (jV L)).devRef) (fun b hb => by
    obtain ⟨b', hb', rfl⟩ := Finset.mem_image.mp hb
    exact SparseCore.Cfg.mem_ownRefs_of_owner (p := Proc.scVector (cV L) (jV L)) (owner_scr L b' hb'))).trans ?_
  rw [bigSep_image_of_injOn (Function.Injective.injOn (Proc.devRef_injective _))]
  refine (congrArg (fun X => BI.sep X _) (bigSep_scr _)).trans ?_
  rfl

/-- A scratch buffer's rows, unspoken for, are the buffer at some contents, both ways. -/
theorem own_some {s : Shape} {ι : Type} (m : Memref sig .scVector .vmem s .f32) (R : ι → Rect s)
    (hc : ∀ i, (R i).shape.ShapeCasts S16) (g : ι → Row F) :
    own d L m R hc g ⊢ (iprop(∃ f, m.view.loc (thrV d L) ↦{fullShare} f) : sProp 𝕄) := by
  unfold own
  iintro ⟨%f, -, H⟩
  iexists f; iexact H

theorem tabs_of_some :
    iprop(some_ d L cc0_scratch0 ∗ some_ d L cc0_scratch1 ∗ some_ d L cc0_scratch2 ∗ some_ d L cc0_scratch3
      ∗ some_ d L cc0_scratch4 ∗ some_ d L cc0_scratch5 ∗ some_ d L cc0_scratch6 ∗ some_ d L cc0_scratch7)
      ⊢ (iprop(∃ T, tabsS d L T) : sProp 𝕄) := by
  iintro ⟨⟨%f0, H0⟩, ⟨%f1, H1⟩, ⟨%f2, H2⟩, ⟨%f3, H3⟩, ⟨%f4, H4⟩, ⟨%f5, H5⟩, ⟨%f6, H6⟩, ⟨%f7, H7⟩⟩
  iexists (⟨rowOf s0 R9 (fun _ => shapeCasts_S1x1x16_S16) f0, rowOf s1 R2 (fun _ => shapeCasts_S1x16_S16) f1,
    rowOf s2 R4 (fun _ => shapeCasts_S1x1x16_S16) f2, rowOf s3 R20 (fun _ => shapeCasts_S1x16_S16) f3,
    rowOf s4 R20 (fun _ => shapeCasts_S1x16_S16) f4, rowOf s5 R20 (fun _ => shapeCasts_S1x16_S16) f5,
    rowOf s6 R20 (fun _ => shapeCasts_S1x16_S16) f6, rowOf s7 R6 (fun _ => shapeCasts_S1x1x16_S16) f7⟩ : Tab F)
  unfold tabsS tabs
  isplitl [H0]; · iapply (own_of (d := d) (L := L) s0 R9 (fun _ => shapeCasts_S1x1x16_S16) f0); iexact H0
  isplitl [H1]; · iapply (own_of (d := d) (L := L) s1 R2 (fun _ => shapeCasts_S1x16_S16) f1); iexact H1
  isplitl [H2]; · iapply (own_of (d := d) (L := L) s2 R4 (fun _ => shapeCasts_S1x1x16_S16) f2); iexact H2
  isplitl [H3]; · iapply (own_of (d := d) (L := L) s3 R20 (fun _ => shapeCasts_S1x16_S16) f3); iexact H3
  isplitl [H4]; · iapply (own_of (d := d) (L := L) s4 R20 (fun _ => shapeCasts_S1x16_S16) f4); iexact H4
  isplitl [H5]; · iapply (own_of (d := d) (L := L) s5 R20 (fun _ => shapeCasts_S1x16_S16) f5); iexact H5
  isplitl [H6]; · iapply (own_of (d := d) (L := L) s6 R20 (fun _ => shapeCasts_S1x16_S16) f6); iexact H6
  iapply (own_of (d := d) (L := L) s7 R6 (fun _ => shapeCasts_S1x1x16_S16) f7); iexact H7

theorem some_of_tabs :
    (iprop(∃ T, tabsS d L T) : sProp 𝕄)
      ⊢ iprop(some_ d L cc0_scratch0 ∗ some_ d L cc0_scratch1 ∗ some_ d L cc0_scratch2 ∗ some_ d L cc0_scratch3
      ∗ some_ d L cc0_scratch4 ∗ some_ d L cc0_scratch5 ∗ some_ d L cc0_scratch6 ∗ some_ d L cc0_scratch7) := by
  unfold tabsS tabs
  iintro ⟨%t, H0, H1, H2, H3, H4, H5, H6, H7⟩
  isplitl [H0]; · iapply (own_some d L s0 R9 (fun _ => shapeCasts_S1x1x16_S16) t.buf); iexact H0
  isplitl [H1]; · iapply (own_some d L s1 R2 (fun _ => shapeCasts_S1x16_S16) t.gtb); iexact H1
  isplitl [H2]; · iapply (own_some d L s2 R4 (fun _ => shapeCasts_S1x1x16_S16) t.geo); iexact H2
  isplitl [H3]; · iapply (own_some d L s3 R20 (fun _ => shapeCasts_S1x16_S16) t.sup); iexact H3
  isplitl [H4]; · iapply (own_some d L s4 R20 (fun _ => shapeCasts_S1x16_S16) t.unp); iexact H4
  isplitl [H5]; · iapply (own_some d L s5 R20 (fun _ => shapeCasts_S1x16_S16) t.hb); iexact H5
  isplitl [H6]; · iapply (own_some d L s6 R20 (fun _ => shapeCasts_S1x16_S16) t.dist); iexact H6
  iapply (own_some d L s7 R6 (fun _ => shapeCasts_S1x1x16_S16) t.out); iexact H7

end Own

/-! ## A group's parts of the arrays -/

section Parts
variable (A : Dev nD → FVec F S64x9x20x16 .f32) (B : Dev nD → FVec F S64x2x16 .f32) (o : Dev nD → FVec F S64x6x5x16 .f32)
variable (d : Dev nD)

abbrev aLoc (d : Dev nD) : Loc nD τ sig := (SparseCore.T d : Thread nD τ).loc main_v5
abbrev bLoc (d : Dev nD) : Loc nD τ sig := (SparseCore.T d : Thread nD τ).loc main_v10
abbrev oLoc (d : Dev nD) : Loc nD τ sig := (SparseCore.T d : Thread nD τ).loc main_v11

def aSet (g : Fin 64) : Finset S64x9x20x16.Idx := Finset.univ.filter fun j => (j 0).val = g.val
def bSet (g : Fin 64) : Finset S64x2x16.Idx := Finset.univ.filter fun j => (j 0).val = g.val
def oSet (g : Fin 64) : Finset S64x6x5x16.Idx := Finset.univ.filter fun j => (j 0).val = g.val

def todoG (g : Fin 64) : sProp 𝕄 :=
  iprop((aLoc d ↦[aSet g]{fullShare} A d) ∗ (bLoc d ↦[bSet g]{fullShare} B d) ∗ oLoc d ↦[oSet g]{fullShare} o d)
def doneG (g : Fin 64) : sProp 𝕄 :=
  iprop((aLoc d ↦[aSet g]{fullShare} A d) ∗ (bLoc d ↦[bSet g]{fullShare} B d)
    ∗ ∃ f : FVec F S64x6x5x16 .f32, ⌜OutOK (A d) (B d) g f⌝ ∗ oLoc d ↦[oSet g]{fullShare} f)

instance (g : Fin 64) : BI.Storable (upEmb : UEmb _ 𝕄) (todoG A B o d g) := by unfold todoG; infer_instance
instance (g : Fin 64) : BI.Storable (upEmb : UEmb _ 𝕄) (doneG A B d g) := by unfold doneG; infer_instance

variable (L : grid0.Coords) (t : Fin k0_t1_loop.trips)

theorem set_aK : (aK L t).view.set = aSet (grp L t) := by
  ext j
  unfold View.set aSet
  rw [Finset.mem_map, Finset.mem_filter]
  constructor
  · rintro ⟨x, -, rfl⟩
    rw [eq_ix3 x]
    exact ⟨Finset.mem_univ _, congrArg Fin.val (congrFun (embA L t _ _ _) 0)⟩
  · rintro ⟨-, h⟩
    replace h := Fin.ext h
    exact ⟨ix3 (j 1) (j 2) (j 3), Finset.mem_univ _, (embA L t (j 1) (j 2) (j 3)).trans
      ((congrArg (fun g : Fin 64 => ix4 g (j 1) (j 2) (j 3)) h.symm).trans (eq_ix4 j).symm)⟩
theorem set_bK : (bK L t).view.set = bSet (grp L t) := by
  ext j
  unfold View.set bSet
  rw [Finset.mem_map, Finset.mem_filter]
  constructor
  · rintro ⟨x, -, rfl⟩
    rw [eq_ix2 x]
    exact ⟨Finset.mem_univ _, congrArg Fin.val (congrFun (embB L t _ _) 0)⟩
  · rintro ⟨-, h⟩
    replace h := Fin.ext h
    exact ⟨ix2 (j 1) (j 2), Finset.mem_univ _, (embB L t (j 1) (j 2)).trans
      ((congrArg (fun g : Fin 64 => ix3 g (j 1) (j 2)) h.symm).trans (eq_ix3 j).symm)⟩
theorem set_oK : (oK L t).view.set = oSet (grp L t) := by
  ext j
  unfold View.set oSet
  rw [Finset.mem_map, Finset.mem_filter]
  constructor
  · rintro ⟨x, -, rfl⟩
    rw [eq_ix3 x]
    exact ⟨Finset.mem_univ _, congrArg Fin.val (congrFun (embO L t _ _ _) 0)⟩
  · rintro ⟨-, h⟩
    replace h := Fin.ext h
    exact ⟨ix3 (j 1) (j 2) (j 3), Finset.mem_univ _, (embO L t (j 1) (j 2) (j 3)).trans
      ((congrArg (fun g : Fin 64 => ix4 g (j 1) (j 2) (j 3)) h.symm).trans (eq_ix4 j).symm)⟩

theorem todoG_eq : todoG A B o d (grp L t) = iprop(aPts d L t (A d) ∗ bPts d L t (B d) ∗ oPts d L t (o d)) := by
  unfold todoG aPts bPts oPts
  rw [set_aK, set_bK, set_oK]
theorem doneG_eq : doneG A B d (grp L t)
    = iprop(aPts d L t (A d) ∗ bPts d L t (B d) ∗ ∃ f, ⌜OutOK (A d) (B d) (grp L t) f⌝ ∗ oPts d L t f) := by
  unfold doneG aPts bPts oPts
  rw [set_aK, set_bK, set_oK]

/-! ## The tile's run -/

abbrev t0 : Fin k0_t1_loop.trips := ⟨0, by decide⟩
abbrev t1 : Fin k0_t1_loop.trips := ⟨1, by decide⟩

/-- What the tile holds of the arrays after `n` trips. -/
def prog : ℕ → sProp 𝕄
  | 0 => iprop(todoG A B o d (grp L t0) ∗ todoG A B o d (grp L t1))
  | 1 => iprop(doneG A B d (grp L t0) ∗ todoG A B o d (grp L t1))
  | _ => iprop(doneG A B d (grp L t0) ∗ doneG A B d (grp L t1))

theorem prog_0 : prog A B o d L 0 = iprop(todoG A B o d (grp L t0) ∗ todoG A B o d (grp L t1)) := rfl
theorem prog_1 : prog A B o d L 1 = iprop(doneG A B d (grp L t0) ∗ todoG A B o d (grp L t1)) := rfl
theorem prog_2 : prog A B o d L 2 = iprop(doneG A B d (grp L t0) ∗ doneG A B d (grp L t1)) := rfl

abbrev inv (O : CellTallies nD τ sig (HIx 1)) (W : Waits sig (HIx 1)) (n : ℕ) : sProp 𝕄 :=
  iprop(levAts (K (F := F)).L (K (F := F)).lev ∗ (∃ T, tabsS d L T) ∗ sems0 d L ∗ debt d L O W ∗ prog A B o d L n)

theorem step_0 (O : CellTallies nD τ sig (HIx 1)) (W : Waits sig (HIx 1)) (hO : ∀ g, O g none = 0) :
    inv A B o d L O W 0 ⊢ wpT d L (group s0 s1 s2 s3 s4 s5 s6 s7 aV bV oV (Memref.isWhole_whole _) (Memref.isWhole_whole _) (Memref.isWhole_whole _)
        cc0_scoped0 cc0_scoped1 cc0_scoped2 t0)
      fun _ => inv A B o d L O W 1 := by
  unfold inv
  rw [prog_0, prog_1, todoG_eq, todoG_eq, doneG_eq]
  refine BIBase.Entails.trans ?_ (group_run d L _ (A d) (B d) (o d) O W hO _)
  iintro ⟨#Hlv, HT, Hs, HO, ⟨HA, HB, HC⟩, Hr⟩
  isplitr; · iexact Hlv
  isplitl [HT]; · iexact HT
  isplitl [HA]; · iexact HA
  isplitl [HB]; · iexact HB
  isplitl [HC]; · iexact HC
  isplitl [Hs]; · iexact Hs
  isplitl [HO]; · iexact HO
  iintro ⟨HT, HA, HB, HC, Hs, HO⟩
  isplitr; · iexact Hlv
  isplitl [HT]; · iexact HT
  isplitl [Hs]; · iexact Hs
  isplitl [HO]; · iexact HO
  isplitr [Hr]
  · isplitl [HA]; · iexact HA
    isplitl [HB]; · iexact HB
    iexact HC
  iexact Hr

theorem step_1 (O : CellTallies nD τ sig (HIx 1)) (W : Waits sig (HIx 1)) (hO : ∀ g, O g none = 0) :
    inv A B o d L O W 1 ⊢ wpT d L (group s0 s1 s2 s3 s4 s5 s6 s7 aV bV oV (Memref.isWhole_whole _) (Memref.isWhole_whole _) (Memref.isWhole_whole _)
        cc0_scoped0 cc0_scoped1 cc0_scoped2 t1)
      fun _ => inv A B o d L O W 2 := by
  unfold inv
  rw [prog_1, prog_2, todoG_eq, doneG_eq, doneG_eq]
  refine BIBase.Entails.trans ?_ (group_run d L _ (A d) (B d) (o d) O W hO _)
  iintro ⟨#Hlv, HT, Hs, HO, Hr, ⟨HA, HB, HC⟩⟩
  isplitr; · iexact Hlv
  isplitl [HT]; · iexact HT
  isplitl [HA]; · iexact HA
  isplitl [HB]; · iexact HB
  isplitl [HC]; · iexact HC
  isplitl [Hs]; · iexact Hs
  isplitl [HO]; · iexact HO
  iintro ⟨HT, HA, HB, HC, Hs, HO⟩
  isplitr; · iexact Hlv
  isplitl [HT]; · iexact HT
  isplitl [Hs]; · iexact Hs
  isplitl [HO]; · iexact HO
  isplitl [Hr]; · iexact Hr
  isplitl [HA]; · iexact HA
  isplitl [HB]; · iexact HB
  iexact HC

set_option maxRecDepth 16384 in
theorem tile_body (O : CellTallies nD τ sig (HIx 1)) (W : Waits sig (HIx 1)) (hO : ∀ g, O g none = 0) :
    iprop(levAts (K (F := F)).L (K (F := F)).lev ∗ emp
        ∗ (todoG A B o d (grp L t0) ∗ todoG A B o d (grp L t1))
        ∗ scopedBufs (thrV d L) ∗ scopedSems0 (thrV d L) ∗ owes (thrV d L) O W)
      ⊢ wp frame (wpE (defs₀ (F := F)) 𝒱₀ (V d (cV L) (jV L)) none) Set.univ
          (cc0__sc_nms_body L aV (Memref.isWhole_whole _) bV (Memref.isWhole_whole _) oV (Memref.isWhole_whole _)
            s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _)
            cc0_scoped0 cc0_scoped1 cc0_scoped2)
          fun _ => iprop((doneG A B d (grp L t0) ∗ doneG A B d (grp L t1))
            ∗ scopedBufs (thrV d L) ∗ scopedSems0 (thrV d L)
            ∗ ∃ W', ⌜∀ p ∈ W', p ∈ W ∨ p.2 = none⌝ ∗ owes (thrV d L) O W') := by
  rw [body_eq]
  rw [(K (F := F)).scopedBufs_V facts d (cV L) (jV L), SparseCore.Cfg.scopedSems0_V (Val := Elt F) d (cV L) (jV L), ownSems0_V, ownBufs_V]
  show _ ⊢ wpT d L (Prog.bind _ _) _
  iintro ⟨#Hlv, -, Hp, ⟨Hbufs, Hbr⟩, ⟨Hs0, Hs1, Hs2, Hsr⟩, HO⟩
  iapply (Entails.of_eq (wpT_bind d L _ _ _).symm)
  have h := fun Q => Scf.wp_for frame (wpE (defs₀ (F := F)) 𝒱₀ (V d (cV L) (jV L)) none) Set.univ k0_t1_loop.lb k0_t1_loop.ub k0_t1_loop.st
    k0_t1_ok ⟨⟩ (fun t _ => group s0 s1 s2 s3 s4 s5 s6 s7 aV bV oV (Memref.isWhole_whole _) (Memref.isWhole_whole _) (Memref.isWhole_whole _)
          cc0_scoped0 cc0_scoped1 cc0_scoped2 t)
    (fun n (_ : PUnit) => inv A B o d L O W n)
    (fun k _ => by
      have hk : k = t0 ∨ k = t1 := by
        have e : k0_t1_loop.trips = 2 := by decide
        rcases k with ⟨n, hn⟩
        match n, hn with
        | 0, _ => exact .inl rfl
        | 1, _ => exact .inr rfl
        | n + 2, hn => exact absurd (e ▸ hn : n + 2 < 2) (by omega)
      rcases hk with rfl | rfl
      · exact step_0 A B o d L O W hO
      · exact step_1 A B o d L O W hO) (Q := Q)
  iapply (h _)
  isplitl [Hp Hbufs Hs0 Hs1 Hs2 HO]
  · isplitr; · iexact Hlv
    isplitl [Hbufs]; · iapply (tabs_of_some d L); iexact Hbufs
    isplitl [Hs0 Hs1 Hs2]
    · isplitl [Hs0]; · iexact Hs0
      isplitl [Hs1]; · iexact Hs1
      iexact Hs2
    isplitl [HO]
    · iexists W; isplitr; · ipureintro; exact fun p hp => .inl hp
      iexact HO
    iapply (Entails.of_eq (prog_0 A B o d L).symm); iexact Hp
  iintro %_ ⟨-, HT, ⟨Hs0, Hs1, Hs2⟩, HO, Hp⟩
  iapply (wpT_ret d L ⟨⟩ _)
  isplitl [Hp]; · iapply (Entails.of_eq (prog_2 A B o d L)); iexact Hp
  isplitl [HT Hbr]
  · isplitl [HT]; · iapply (some_of_tabs d L); iexact HT
    iexact Hbr
  isplitl [Hs0 Hs1 Hs2 Hsr]
  · isplitl [Hs0]; · iexact Hs0
    isplitl [Hs1]; · iexact Hs1
    isplitl [Hs2]; · iexact Hs2
    iexact Hsr
  iexact HO

end Parts

end Cert.KernelIdeal.Tile
end
-- ==== Proof.Handoff.lean ====
/- What the SparseCore call's threads hand each other, group by group, and the launch's obligations about it. -/
module

public import proofs.«01_k».proof.Proof.Call

@[expose] public section

noncomputable section

namespace Cert.KernelIdeal.Tile

open Cert.KernelIdeal Cert.KernelIdeal.Rolled

open Idealize.ShloMosaic Idealize.ShloMosaic.ValueIdx
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Facts₀ Facts

variable {F : FTy → Type} [FloatOps F] [Named F] [Facts]

local notation "𝕄" => MT nD τ sig (HIx 1) (Elt F) ℕ UU ℕ

variable (A : Dev nD → FVec F S64x9x20x16 .f32) (B : Dev nD → FVec F S64x2x16 .f32) (o : Dev nD → FVec F S64x6x5x16 .f32)

/-! ## The arrays by groups -/

/-- Group `t` of the tile on subcore `i` of core `c`. -/
def gOf (p : Fin 2 × Fin 16 × Fin 2) : Fin 64 := ⟨4 * p.2.1.val + 2 * p.1.val + p.2.2.val, by omega⟩

theorem gOf_bij : Function.Bijective gOf :=
  (Fintype.bijective_iff_injective_and_card _).mpr ⟨fun p q h => by
    have h := congrArg Fin.val h
    obtain ⟨⟨a, ha⟩, ⟨b, hb⟩, ⟨c, hc⟩⟩ := p
    obtain ⟨⟨a', ha'⟩, ⟨b', hb'⟩, ⟨c', hc'⟩⟩ := q
    simp only [gOf] at h
    have h1 : b = b' := by omega
    have h2 : a = a' := by omega
    have h3 : c = c' := by omega
    subst h1 h2 h3
    rfl, by simp⟩

abbrev todoT (d : Dev nD) (c : Fin 2) (i : Fin 16) : sProp 𝕄 :=
  iprop(todoG A B o d (gOf (c, i, 0)) ∗ todoG A B o d (gOf (c, i, 1)))
abbrev doneT (d : Dev nD) (c : Fin 2) (i : Fin 16) : sProp 𝕄 :=
  iprop(doneG A B d (gOf (c, i, 0)) ∗ doneG A B d (gOf (c, i, 1)))

theorem bigSep_groups (Φ : Fin 64 → sProp 𝕄) :
    (bigSep Finset.univ fun c : Fin 2 => bigSep Finset.univ fun i : Fin 16 => iprop(Φ (gOf (c, i, 0)) ∗ Φ (gOf (c, i, 1))))
      = bigSep Finset.univ Φ := by
  rw [bigSep_univ_equiv (Equiv.ofBijective gOf gOf_bij) Φ, bigSep_univ_prod]
  refine bigSep_congr fun c _ => ?_
  rw [bigSep_univ_prod]
  refine bigSep_congr fun i _ => ?_
  rw [bigSep_univ_two]
  rfl

theorem aSet_disj : ∀ i ∈ (Finset.univ : Finset (Fin 64)), ∀ j ∈ (Finset.univ : Finset (Fin 64)), i ≠ j → Disjoint (aSet i) (aSet j) :=
  fun i _ j _ h => Finset.disjoint_left.mpr fun x hx hy =>
    h (Fin.ext ((Finset.mem_filter.mp hx).2.symm.trans (Finset.mem_filter.mp hy).2))
theorem bSet_disj : ∀ i ∈ (Finset.univ : Finset (Fin 64)), ∀ j ∈ (Finset.univ : Finset (Fin 64)), i ≠ j → Disjoint (bSet i) (bSet j) :=
  fun i _ j _ h => Finset.disjoint_left.mpr fun x hx hy =>
    h (Fin.ext ((Finset.mem_filter.mp hx).2.symm.trans (Finset.mem_filter.mp hy).2))
theorem oSet_disj : ∀ i ∈ (Finset.univ : Finset (Fin 64)), ∀ j ∈ (Finset.univ : Finset (Fin 64)), i ≠ j → Disjoint (oSet i) (oSet j) :=
  fun i _ j _ h => Finset.disjoint_left.mpr fun x hx hy =>
    h (Fin.ext ((Finset.mem_filter.mp hx).2.symm.trans (Finset.mem_filter.mp hy).2))
theorem aSet_cover : (Finset.univ : Finset (Fin 64)).biUnion aSet = Finset.univ :=
  Finset.eq_univ_iff_forall.mpr fun x => Finset.mem_biUnion.mpr ⟨x 0, Finset.mem_univ _, Finset.mem_filter.mpr ⟨Finset.mem_univ _, rfl⟩⟩
theorem bSet_cover : (Finset.univ : Finset (Fin 64)).biUnion bSet = Finset.univ :=
  Finset.eq_univ_iff_forall.mpr fun x => Finset.mem_biUnion.mpr ⟨x 0, Finset.mem_univ _, Finset.mem_filter.mpr ⟨Finset.mem_univ _, rfl⟩⟩
theorem oSet_cover : (Finset.univ : Finset (Fin 64)).biUnion oSet = Finset.univ :=
  Finset.eq_univ_iff_forall.mpr fun x => Finset.mem_biUnion.mpr ⟨x 0, Finset.mem_univ _, Finset.mem_filter.mpr ⟨Finset.mem_univ _, rfl⟩⟩

theorem aPts_groups (d : Dev nD) (f : Buf (Elt F) (aLoc d)) :
    (aLoc d ↦{fullShare} f : sProp 𝕄) = bigSep Finset.univ fun i : Fin 64 => aLoc d ↦[aSet i]{fullShare} f := by
  rw [← pointsTo_biUnion Finset.univ (ℓ := aLoc d) aSet aSet_disj, aSet_cover]; try rfl
theorem bPts_groups (d : Dev nD) (f : Buf (Elt F) (bLoc d)) :
    (bLoc d ↦{fullShare} f : sProp 𝕄) = bigSep Finset.univ fun i : Fin 64 => bLoc d ↦[bSet i]{fullShare} f := by
  rw [← pointsTo_biUnion Finset.univ (ℓ := bLoc d) bSet bSet_disj, bSet_cover]; try rfl
theorem oPts_groups (d : Dev nD) (f : Buf (Elt F) (oLoc d)) :
    (oLoc d ↦{fullShare} f : sProp 𝕄) = bigSep Finset.univ fun i : Fin 64 => oLoc d ↦[oSet i]{fullShare} f := by
  rw [← pointsTo_biUnion Finset.univ (ℓ := oLoc d) oSet oSet_disj, oSet_cover]; try rfl

theorem todo_arrays (d : Dev nD) :
    (bigSep Finset.univ fun g : Fin 64 => todoG A B o d g)
      = (iprop((aLoc d ↦{fullShare} A d) ∗ (bLoc d ↦{fullShare} B d) ∗ oLoc d ↦{fullShare} o d) : sProp 𝕄) := by
  unfold todoG
  rw [bigSep_sep', bigSep_sep', ← aPts_groups, ← bPts_groups, ← oPts_groups]

/-- Group `g`'s part of the result at `f`, which is as the group's work leaves it. -/
def outG (d : Dev nD) (g : Fin 64) (f : Buf (Elt F) (oLoc d)) : sProp 𝕄 :=
  iprop(⌜OutOK (A d) (B d) g f⌝ ∗ oLoc d ↦[oSet g]{fullShare} f)

theorem out_join (d : Dev nD) (fs : Fin 64 → Buf (Elt F) (oLoc d)) :
    (bigSep Finset.univ fun g => outG A B d g (fs g))
      ⊢ (iprop(∃ f : Buf (Elt F) (oLoc d), ⌜∀ g, OutOK (A d) (B d) g f⌝ ∗ oLoc d ↦{fullShare} f) : sProp 𝕄) := by
  unfold outG
  iintro H
  ihave H := (bigSep_pure_sep Finset.univ (fun g => OutOK (A d) (B d) g (fs g)) fun g => (oLoc d ↦[oSet g]{fullShare} fs g : sProp 𝕄)) $$ H
  icases H with ⟨%hs, H⟩
  ihave H := (pointsTo_biUnion_join (ℓ := oLoc d) (q := fullShare) (Val := Elt F) Finset.univ oSet fs (fs 0) oSet_disj) $$ H
  icases H with ⟨%g, %hg, Hg⟩
  rw [oSet_cover]
  iexists g
  isplitr
  · ipureintro
    intro i
    obtain ⟨t, h1, h2, h3⟩ := hs i (Finset.mem_univ i)
    refine ⟨t, h1, h2, fun k j x => ?_⟩
    rw [← h3 k j x]
    exact hg i (Finset.mem_univ i) _ (Finset.mem_filter.mpr ⟨Finset.mem_univ _, rfl⟩)
  · iexact Hg

theorem done_out (o : Dev nD → FVec F S64x6x5x16 .f32) (d : Dev nD) :
    (bigSep Finset.univ fun g : Fin 64 => iprop(∃ f : Buf (Elt F) (oLoc d), outG A B d g f))
      ⊢ (iprop(∃ f : Buf (Elt F) (oLoc d), ⌜∀ g, OutOK (A d) (B d) g f⌝ ∗ oLoc d ↦{fullShare} f) : sProp 𝕄) := by
  have : Nonempty (Buf (Elt F) (oLoc d)) := ⟨o d⟩
  refine (bigSep_exists_pi Finset.univ (outG A B d)).trans ?_
  iintro ⟨%fs, H⟩
  iapply (out_join A B d fs)
  iexact H

theorem done_arrays (o : Dev nD → FVec F S64x6x5x16 .f32) (d : Dev nD) :
    (bigSep Finset.univ fun g : Fin 64 => doneG A B d g)
      ⊢ (iprop((aLoc d ↦{fullShare} A d) ∗ (bLoc d ↦{fullShare} B d)
          ∗ ∃ f : FVec F S64x6x5x16 .f32, ⌜∀ g, OutOK (A d) (B d) g f⌝ ∗ oLoc d ↦{fullShare} f) : sProp 𝕄) := by
  unfold doneG
  rw [bigSep_sep', bigSep_sep', ← aPts_groups, ← bPts_groups]
  exact sep_mono .rfl (sep_mono .rfl (done_out A B o d))

/-! ## The hand-over -/

def P : (K (F := F)).Pay (nD := nD) (Val := Elt F) (Name := ℕ) (U := UU) where
  st := fun q d c => match q with | 0 => bigSep Finset.univ fun i : Fin 16 => todoT A B o d (Fin.cast nCore_zero c) i
  dn := fun q d c => match q with | 0 => bigSep Finset.univ fun i : Fin 16 => doneT A B d (Fin.cast nCore_zero c) i
  go := fun q d c i => match q with | 0 => todoT A B o d (Fin.cast nCore_zero c) (Fin.cast nSub_zero i)
  td := fun q d c i => match q with | 0 => doneT A B d (Fin.cast nCore_zero c) (Fin.cast nSub_zero i)
  x := fun _ _ => iprop(emp)

instance P_storable : (P A B o).IsStorable where
  st q d c := match q with
    | 0 => (inferInstance : BI.Storable (upEmb : UEmb _ 𝕄) (bigSep Finset.univ fun i : Fin 16 => todoT A B o d (Fin.cast nCore_zero c) i))
  dn q d c := match q with
    | 0 => (inferInstance : BI.Storable (upEmb : UEmb _ 𝕄) (bigSep Finset.univ fun i : Fin 16 => doneT A B d (Fin.cast nCore_zero c) i))
  go q d c i := match q with
    | 0 => (inferInstance : BI.Storable (upEmb : UEmb _ 𝕄) (todoT A B o d (Fin.cast nCore_zero c) (Fin.cast nSub_zero i)))
  td q d c i := match q with
    | 0 => (inferInstance : BI.Storable (upEmb : UEmb _ 𝕄) (doneT A B d (Fin.cast nCore_zero c) (Fin.cast nSub_zero i)))

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P A B o) 0 := by
  intro d c
  show (bigSep Finset.univ fun i : Fin 16 => todoT A B o d (Fin.cast nCore_zero c) i) ⊢ |={Set.univ}=> iprop(
      (bigSep Finset.univ fun i : Fin ((K (F := F)).nSub 0) => todoT A B o d (Fin.cast nCore_zero c) (Fin.cast nSub_zero i))
      ∗ ((bigSep Finset.univ fun i : Fin ((K (F := F)).nSub 0) => doneT A B d (Fin.cast nCore_zero c) (Fin.cast nSub_zero i))
          -∗ (bigSep Finset.univ fun i : Fin 16 => doneT A B d (Fin.cast nCore_zero c) i)))
  rw [bigSep_tasks (F := F) (fun i => todoT A B o d (Fin.cast nCore_zero c) i),
    bigSep_tasks (F := F) (fun i => doneT A B d (Fin.cast nCore_zero c) i)]
  iintro H; imodintro
  isplitl [H]; · iexact H
  iintro H; iexact H

theorem st0_eq (d : Dev nD) : (bigSep Finset.univ fun c : Fin ((K (F := F)).nCore 0) => (P A B o).st 0 d c)
    = iprop((aLoc d ↦{fullShare} A d) ∗ (bLoc d ↦{fullShare} B d) ∗ oLoc d ↦{fullShare} o d) := by
  rw [← todo_arrays, ← bigSep_groups]
  exact bigSep_cores (F := F) fun c => bigSep Finset.univ fun i : Fin 16 => todoT A B o d c i
theorem dn0_eq (d : Dev nD) : (bigSep Finset.univ fun c : Fin ((K (F := F)).nCore 0) => (P A B o).dn 0 d c)
    ⊢ iprop((aLoc d ↦{fullShare} A d) ∗ (bLoc d ↦{fullShare} B d)
          ∗ ∃ f : FVec F S64x6x5x16 .f32, ⌜∀ g, OutOK (A d) (B d) g f⌝ ∗ oLoc d ↦{fullShare} f) := by
  refine BIBase.Entails.trans (Entails.of_eq ?_) (done_arrays A B o d)
  rw [← bigSep_groups (fun g => doneG A B d g)]
  exact bigSep_cores (F := F) fun c => bigSep Finset.univ fun i : Fin 16 => doneT A B d c i

/-! ## The tile's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_nms_body (coordsV c s) aV (Memref.isWhole_whole _) bV (Memref.isWhole_whole _)
          oV (Memref.isWhole_whole _)
            s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _)
            cc0_scoped0 cc0_scoped1 cc0_scoped2) ⟨⟩ c s := rfl

theorem obl_post {thr : Thread nD τ} {X Y Z : sProp 𝕄} {O : CellTallies nD τ sig (HIx 1)} {W : Waits sig (HIx 1)} {q : Fin 1} :
    iprop(X ∗ Y ∗ Z ∗ ∃ W', ⌜∀ p ∈ W', p ∈ W ∨ p.2 = none⌝ ∗ owes thr O W')
      ⊢ iprop(X ∗ Y ∗ Z ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl : (K (F := F)).TileObl (D (F := F)) 𝒱 (P A B o) v₀ 0 := by
  intro d c i O W hO _ _
  simp only [show (P A B o).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have h := (tile_body A B o d (coordsV ⟨_, hci.1⟩ ⟨_, hci.2⟩) O W hO).trans (wp_mono frame _ _ fun _ => obl_post (q := 0))
  generalize cc0__sc_nms_body (F := F) (coordsV ⟨((K (F := F)).core 0 c).val, hci.1⟩ ⟨((K (F := F)).sub 0 i).val, hci.2⟩) aV (Memref.isWhole_whole _) bV (Memref.isWhole_whole _)
          oV (Memref.isWhole_whole _)
            s0 (Memref.isWhole_whole _) s1 (Memref.isWhole_whole _) s2 (Memref.isWhole_whole _) s3 (Memref.isWhole_whole _)
            s4 (Memref.isWhole_whole _) s5 (Memref.isWhole_whole _) s6 (Memref.isWhole_whole _) s7 (Memref.isWhole_whole _)
            cc0_scoped0 cc0_scoped1 cc0_scoped2 = p at h ⊢
  exact h

end Cert.KernelIdeal.Tile
end
-- ==== Proof.Dense.lean ====
/- The dense kernel (the TensorCore call): its printed body as pure functions of the blocks it loads, between the loads
   and the stores. -/
module

public import proofs.«01_k».proof.Proof.Group

@[expose] public section

set_option synthInstance.maxSize 4096

noncomputable section

namespace Cert.KernelIdeal.Dense

open Cert.KernelIdeal
open Idealize.ShloMosaic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts₀ Facts

variable {F : FTy → Type} [FloatOps F] [Named F] [Facts]

/-! ## The values -/

/-- A row of one number per agent, a table of one number per time and agent. -/
abbrev R1 (F : FTy → Type) := FVec F S1x1024 .f32
abbrev M30 (F : FTy → Type) := FVec F S30x1024 .f32

/-- What the kernel loads: for each of the six candidates its five rows (logit, end point, two shape parameters), the
    two coordinates of the true track, and the four rows of the pose. -/
structure In (F : FTy → Type) where
  row : Fin 6 → Fin 5 → R1 F
  gx : M30 F
  gy : M30 F
  pose : Fin 4 → R1 F

/-- The times, as a column, and their squares. -/
def times : FVec F S30x1 .f32 :=
  mulf (broadcast S30x1 (Scalar.ofBits .f32 0x3D0D3DCB#32)) (sitofp .f32 (iota .tc S30x1 32 [0] iota_S30x1_d0_w32))
def times2 : FVec F S30x1 .f32 := mulf times times

def two : R1 F := broadcast S1x1024 (Scalar.ofBits .f32 0x40000000#32)
def one : R1 F := broadcast S1x1024 (Scalar.ofBits .f32 0x3F800000#32)
def zero : R1 F := broadcast S1x1024 (Scalar.ofBits .f32 0x00000000#32)

def lin (p c v q : R1 F) : R1 F :=
  divf (addf (mulf (mulf two p) v) (mulf (mulf two c) v)) (subf (addf two v) q)
def quad (p c l : R1 F) : R1 F := subf (subf p c) l
def wide (r : R1 F) : M30 F := broadcastTo S30x1024 r broadcasts_S1x1024_S30x1024
def tall (r : FVec F S30x1 .f32) : M30 F := broadcastTo S30x1024 r broadcasts_S30x1_S30x1024
/-- The track `a t² + l t + c`. -/
def curve (a l c : R1 F) : M30 F := addf (addf (mulf (wide a) (tall times2)) (mulf (wide l) (tall times))) (wide c)
def track (p c v q : R1 F) : M30 F := curve (quad p c (lin p c v q)) (lin p c v q) c

def last (m : M30 F) : R1 F := extractStridedSlice S1x1024 ![29, 0] m slices_S30x1024_o29_0_S1x1024

namespace In
variable (I : In F)

def x (k : Fin 6) : M30 F := track (I.row k 1) (I.pose 0) (I.pose 2) (I.row k 3)
def y (k : Fin 6) : M30 F := track (I.row k 2) (I.pose 1) (I.pose 3) (I.row k 4)
/-- The squared distance of candidate `k`'s last point from the true one. -/
def d2 (k : Fin 6) : R1 F :=
  addf (mulf (subf (last (I.x k)) (last I.gx)) (subf (last (I.x k)) (last I.gx)))
    (mulf (subf (last (I.y k)) (last I.gy)) (subf (last (I.y k)) (last I.gy)))
def mn : R1 F :=
  minimumf (minimumf (minimumf (minimumf (minimumf (I.d2 0) (I.d2 1)) (I.d2 2)) (I.d2 3)) (I.d2 4)) (I.d2 5)
/-- Candidate `k` attains the minimum: 1 or 0. -/
def hit (k : Fin 6) : R1 F := sitofp .f32 (extui 32 (cmpf .oeq (I.d2 k) I.mn) natLt_1_32)
/-- One of the candidates before the `n`-th attained it; and the one-hot of the first that does. -/
def seen : Nat → R1 F
  | 0 => zero
  | n + 1 => maximumf (seen n) (mulf (I.hit (Fin.ofNat 6 n)) (subf one (seen n)))
def hot (k : Fin 6) : R1 F := mulf (I.hit k) (subf one (I.seen k.val))

end In

/-- Lanes past the thousandth agent weigh nothing. -/
def lanes : R1 F :=
  sitofp .f32 (extui 32 (cmpi .slt (iota .tc S1x1024 32 [1] iota_S1x1024_d1_w32) (broadcast S1x1024 1000#32)) natLt_1_32)

def clsStep (acc l h : R1 F) : R1 F :=
  addf (subf (addf acc (maximumf l zero)) (mulf l h)) (log1p (exp (subf zero (absf l))))

/-- The smoothed distance. -/
def smooth (e : M30 F) : M30 F :=
  select (cmpf .olt (absf e) (broadcast S30x1024 (Scalar.ofBits .f32 0x3F800000#32)))
    (mulf (mulf (broadcast S30x1024 (Scalar.ofBits .f32 0x3F000000#32)) e) e)
    (subf (absf e) (broadcast S30x1024 (Scalar.ofBits .f32 0x3F000000#32)))

namespace In
variable (I : In F)

def clsRow : R1 F :=
  clsStep (clsStep (clsStep (clsStep (clsStep (clsStep zero (I.row 0 0) (I.hot 0)) (I.row 1 0) (I.hot 1)) (I.row 2 0) (I.hot 2))
    (I.row 3 0) (I.hot 3)) (I.row 4 0) (I.hot 4)) (I.row 5 0) (I.hot 5)

def cls : F .f32 :=
  extractAt ![0, 0, 0] (shapeCast S1x1x1 (multiReduction .add [1, 2] S1
    (shapeCast S1x1x1024 (mulf I.clsRow lanes) shapeCasts_S1x1024_S1x1x1024) 0x00000000#32 reduces_S1x1x1024_S1 (.inl rfl) rfl)
    shapeCasts_S1_S1x1x1) inpos_S1x1x1_p0_0_0

def best (z : Fin 6 → M30 F) : M30 F :=
  addf (addf (addf (addf (addf (mulf (wide (I.hot 0)) (z 0)) (mulf (wide (I.hot 1)) (z 1))) (mulf (wide (I.hot 2)) (z 2)))
    (mulf (wide (I.hot 3)) (z 3))) (mulf (wide (I.hot 4)) (z 4))) (mulf (wide (I.hot 5)) (z 5))

def reg : F .f32 :=
  extractAt ![0, 0, 0] (shapeCast S1x1x1 (multiReduction .add [1, 2] S1
    (shapeCast S1x30x1024 (mulf (addf (smooth (subf (I.best I.x) I.gx)) (smooth (subf (I.best I.y) I.gy))) (wide lanes))
      shapeCasts_S30x1024_S1x30x1024) 0x00000000#32 reduces_S1x30x1024_S1 (.inl rfl) rfl) shapeCasts_S1_S1x1x1) inpos_S1x1x1_p0_0_0

end In

def front (m : M30 F) : FVec F S1x30x128 .f32 :=
  shapeCast S1x30x128 (extractStridedSlice S30x128 ![0, 0] m slices_S30x1024_o0_0_S30x128) shapeCasts_S30x128_S1x30x128

/-! ## The program -/

abbrev DP (F : FTy → Type) [FloatOps F] [Named F] [Facts] (α : Type) := Prog (TpuEff nD τ sig (Elt F) Λ₀ .tc) α

theorem inb0 (r : Fin 30) : ∀ a, (![r.val, 0] : Fin 2 → Nat) a + S1x1024.size a ≤ S30x1024.size a := by
  intro a
  have := r.isLt
  fin_cases a <;> simp [Shape.size] <;> omega
theorem inb1 (r : Fin 2) : ∀ a, (![r.val, 0, 0] : Fin 3 → Nat) a + S1x30x1024.size a ≤ S2x30x1024.size a := by
  intro a
  have := r.isLt
  fin_cases a <;> simp [Shape.size] <;> omega
theorem inb2 (r : Fin 4) : ∀ a, (![r.val, 0] : Fin 2 → Nat) a + S1x1024.size a ≤ S4x1024.size a := by
  intro a
  have := r.isLt
  fin_cases a <;> simp [Shape.size] <;> omega
theorem inb5 (r : Fin 12) : ∀ a, (![r.val, 0, 0] : Fin 3 → Nat) a + S1x30x128.size a ≤ S12x30x128.size a := by
  intro a
  have := r.isLt
  fin_cases a <;> simp [Shape.size] <;> omega

abbrev Q0 (r : Fin 30) : Rect S30x1024 := Rect.unit (s := S30x1024) ![r.val, 0] S1x1024.size (inb0 r)
abbrev Q1 (r : Fin 2) : Rect S2x30x1024 := Rect.unit (s := S2x30x1024) ![r.val, 0, 0] S1x30x1024.size (inb1 r)
abbrev Q2 (r : Fin 4) : Rect S4x1024 := Rect.unit (s := S4x1024) ![r.val, 0] S1x1024.size (inb2 r)
abbrev Q8 : Rect S8x128 := Rect.unit (s := S8x128) ![0, 0] S8x128.size inb_S8x128_S8x128_0_0
abbrev Q5 (r : Fin 12) : Rect S12x30x128 := Rect.unit (s := S12x30x128) ![r.val, 0, 0] S1x30x128.size (inb5 r)

section prog
variable (m0 : Memref sig .tc .vmem S30x1024 .f32) (m1 : Memref sig .tc .vmem S2x30x1024 .f32)
  (m2 : Memref sig .tc .vmem S4x1024 .f32) (m3 m4 : Memref sig .tc .vmem S8x128 .f32)
  (m5 : Memref sig .tc .vmem S12x30x128 .f32)

def ld0 (r : Fin 30) (k : R1 F → DP F PUnit) : DP F PUnit :=
  .op (.load m0 (Q0 r).toLoadRect (View.loadsAt_vmem h_S1x1024)) fun v => k (shapeCast S1x1024 v shapeCasts_S1x1024_S1x1024)
def ld1 (r : Fin 2) (k : M30 F → DP F PUnit) : DP F PUnit :=
  .op (.load m1 (Q1 r).toLoadRect (View.loadsAt_vmem h_S1x30x1024)) fun v =>
    k (shapeCast S30x1024 v shapeCasts_S1x30x1024_S30x1024)
def ld2 (r : Fin 4) (k : R1 F → DP F PUnit) : DP F PUnit :=
  .op (.load m2 (Q2 r).toLoadRect (View.loadsAt_vmem h_S1x1024)) fun v => k (shapeCast S1x1024 v shapeCasts_S1x1024_S1x1024)
def st8 (m : Memref sig .tc .vmem S8x128 .f32) (w : FVec F S8x128 .f32) (k : DP F PUnit) : DP F PUnit :=
  .op (.load m Q8.toLoadRect (View.loadsAt_vmem h_S8x128)) fun _ =>
  .op (.store m Q8 w Finset.univ (View.stores_vmem_bits_univ h_S8x128 rfl) (.inl rfl)) fun _ => k
def st5 (r : Fin 12) (w : FVec F S1x30x128 .f32) (k : DP F PUnit) : DP F PUnit :=
  .op (.load m5 (Q5 r).toLoadRect (View.loadsAt_vmem h_S1x30x128)) fun _ =>
  .op (.store m5 (Q5 r) w Finset.univ (View.stores_vmem_bits_univ h_S1x30x128 rfl) (.inl rfl)) fun _ => k

/-- The kernel's program: the loads, then the stores. -/
def prog : DP F PUnit :=
  ld1 m1 0 fun gx =>
  ld1 m1 1 fun gy =>
  ld0 m0 0 fun r00 =>
  ld0 m0 5 fun r10 =>
  ld0 m0 10 fun r20 =>
  ld0 m0 15 fun r30 =>
  ld0 m0 20 fun r40 =>
  ld0 m0 25 fun r50 =>
  ld0 m0 1 fun r01 =>
  ld0 m0 6 fun r11 =>
  ld0 m0 11 fun r21 =>
  ld0 m0 16 fun r31 =>
  ld0 m0 21 fun r41 =>
  ld0 m0 26 fun r51 =>
  ld0 m0 2 fun r02 =>
  ld0 m0 7 fun r12 =>
  ld0 m0 12 fun r22 =>
  ld0 m0 17 fun r32 =>
  ld0 m0 22 fun r42 =>
  ld0 m0 27 fun r52 =>
  ld0 m0 3 fun r03 =>
  ld0 m0 8 fun r13 =>
  ld0 m0 13 fun r23 =>
  ld0 m0 18 fun r33 =>
  ld0 m0 23 fun r43 =>
  ld0 m0 28 fun r53 =>
  ld0 m0 4 fun r04 =>
  ld0 m0 9 fun r14 =>
  ld0 m0 14 fun r24 =>
  ld0 m0 19 fun r34 =>
  ld0 m0 24 fun r44 =>
  ld0 m0 29 fun r54 =>
  ld2 m2 0 fun c0 =>
  ld2 m2 1 fun c1 =>
  ld2 m2 2 fun c2 =>
  ld2 m2 3 fun c3 =>
  let I : In F := ⟨![![r00, r01, r02, r03, r04], ![r10, r11, r12, r13, r14], ![r20, r21, r22, r23, r24], ![r30, r31, r32, r33, r34], ![r40, r41, r42, r43, r44], ![r50, r51, r52, r53, r54]],
    gx, gy, ![c0, c1, c2, c3]⟩
  st8 m3 (broadcast S8x128 I.cls) <|
  st8 m4 (broadcast S8x128 I.reg) <|
  st5 m5 0 (front (I.x 0)) <|
  st5 m5 1 (front (I.y 0)) <|
  st5 m5 2 (front (I.x 1)) <|
  st5 m5 3 (front (I.y 1)) <|
  st5 m5 4 (front (I.x 2)) <|
  st5 m5 5 (front (I.y 2)) <|
  st5 m5 6 (front (I.x 3)) <|
  st5 m5 7 (front (I.y 3)) <|
  st5 m5 8 (front (I.x 4)) <|
  st5 m5 9 (front (I.y 4)) <|
  st5 m5 10 (front (I.x 5)) <|
  st5 m5 11 (front (I.y 5)) <|
  .ret ⟨⟩

set_option maxRecDepth 16384 in
/-- The printed body is that program. -/
theorem body_eq (h0 : m0.IsWhole) (h1 : m1.IsWhole) (h2 : m2.IsWhole) (h3 : m3.IsWhole) (h4 : m4.IsWhole) (h5 : m5.IsWhole) :
    cc1__dense_tc_kernel (F := F) m0 h0 m1 h1 m2 h2 m3 h3 m4 h4 m5 h5 = prog m0 m1 m2 m3 m4 m5 := by
  chain_rfl

end prog

end Cert.KernelIdeal.Dense
end
-- ==== Proof.DenseRun.lean ====
/- The dense kernel's run: from its six staging buffers held whole, the three results' left at the values computed from
   the three operands'. -/
module

public import proofs.«01_k».proof.Proof.Dense

@[expose] public section

noncomputable section

namespace Cert.KernelIdeal.Dense

open Cert.KernelIdeal Cert.KernelIdeal.Tile
open Idealize.ShloMosaic Idealize.ShloMosaic.ValueIdx
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Facts₀ Facts

variable {F : FTy → Type} [FloatOps F] [Named F] [Facts]

local notation "𝕄" => MT nD τ sig (HIx 1) (Elt F) ℕ UU ℕ

/-- A memory's contents as the tensor core of `c` names it, and the memory held whole. -/
abbrev Bf (c : Dev nD) {sp : Space} {s : Shape} {e : EltTy} (m : Memref sig .tc sp s e) : Type := Buf (Elt F) (m.view.loc (c : Thread nD τ))
abbrev pts (c : Dev nD) {sp : Space} {s : Shape} {e : EltTy} (m : Memref sig .tc sp s e) (f : Bf (F := F) c m) : sProp 𝕄 :=
  m.view.loc (c : Thread nD τ) ↦{fullShare} f

abbrev wpD (c : Dev nD) {α : Type} (p : DP F α) (Q : α → sProp 𝕄) : sProp 𝕄 :=
  wp frame (wpE (defs₀ (F := F)) 𝒱₀ (c : Thread nD τ) none) Set.univ p Q

theorem wpD_ret (c : Dev nD) {α : Type} (a : α) (Q : α → sProp 𝕄) : Q a ⊢ wpD c (.ret a) Q := by
  unfold wpD
  rw [wp_ret]
  exact fupd_intro

section steps
variable (c : Dev nD) (m0 : Memref sig .tc .vmem S30x1024 .f32) (m1 : Memref sig .tc .vmem S2x30x1024 .f32)
  (m2 : Memref sig .tc .vmem S4x1024 .f32) (m3 m4 : Memref sig .tc .vmem S8x128 .f32)
  (m5 : Memref sig .tc .vmem S12x30x128 .f32)

def got0 (f : Bf (F := F) c m0) (r : Fin 30) : R1 F :=
  shapeCast S1x1024 (m0.view.readAt (Elt F) (Q0 r).toLoadRect f) shapeCasts_S1x1024_S1x1024
def got1 (f : Bf (F := F) c m1) (r : Fin 2) : M30 F :=
  shapeCast S30x1024 (m1.view.readAt (Elt F) (Q1 r).toLoadRect f) shapeCasts_S1x30x1024_S30x1024
def got2 (f : Bf (F := F) c m2) (r : Fin 4) : R1 F :=
  shapeCast S1x1024 (m2.view.readAt (Elt F) (Q2 r).toLoadRect f) shapeCasts_S1x1024_S1x1024
def put8 (m : Memref sig .tc .vmem S8x128 .f32) (w : FVec F S8x128 .f32) (f : Bf (F := F) c m) : Bf (F := F) c m :=
  (m.access Q8).write (Elt F) f w Finset.univ
def put5 (r : Fin 12) (w : FVec F S1x30x128 .f32) (f : Bf (F := F) c m5) : Bf (F := F) c m5 :=
  (m5.access (Q5 r)).write (Elt F) f w Finset.univ

theorem wp_ld0 (f : Bf (F := F) c m0) (r : Fin 30) (k : R1 F → DP F PUnit) (Q : PUnit → sProp 𝕄) :
    pts c m0 f ⊢ iprop((pts c m0 f -∗ wpD c (k (got0 c m0 f r)) Q) -∗ wpD c (ld0 m0 r k) Q) := by
  unfold ld0 got0
  exact wp_load (defs := defs₀ (F := F)) 𝒱₀ (c : Thread nD τ) none Set.univ (m := m0) (r := (Q0 r).toLoadRect)
    (k := fun v => k (shapeCast S1x1024 v shapeCasts_S1x1024_S1x1024)) (S := Finset.univ) (q := fullShare) (f := f)
    (Finset.subset_univ _)
theorem wp_ld1 (f : Bf (F := F) c m1) (r : Fin 2) (k : M30 F → DP F PUnit) (Q : PUnit → sProp 𝕄) :
    pts c m1 f ⊢ iprop((pts c m1 f -∗ wpD c (k (got1 c m1 f r)) Q) -∗ wpD c (ld1 m1 r k) Q) := by
  unfold ld1 got1
  exact wp_load (defs := defs₀ (F := F)) 𝒱₀ (c : Thread nD τ) none Set.univ (m := m1) (r := (Q1 r).toLoadRect)
    (k := fun v => k (shapeCast S30x1024 v shapeCasts_S1x30x1024_S30x1024)) (S := Finset.univ) (q := fullShare) (f := f)
    (Finset.subset_univ _)
theorem wp_ld2 (f : Bf (F := F) c m2) (r : Fin 4) (k : R1 F → DP F PUnit) (Q : PUnit → sProp 𝕄) :
    pts c m2 f ⊢ iprop((pts c m2 f -∗ wpD c (k (got2 c m2 f r)) Q) -∗ wpD c (ld2 m2 r k) Q) := by
  unfold ld2 got2
  exact wp_load (defs := defs₀ (F := F)) 𝒱₀ (c : Thread nD τ) none Set.univ (m := m2) (r := (Q2 r).toLoadRect)
    (k := fun v => k (shapeCast S1x1024 v shapeCasts_S1x1024_S1x1024)) (S := Finset.univ) (q := fullShare) (f := f)
    (Finset.subset_univ _)
theorem wp_st8 (m : Memref sig .tc .vmem S8x128 .f32) (f : Bf (F := F) c m) (w : FVec F S8x128 .f32) (k : DP F PUnit)
    (Q : PUnit → sProp 𝕄) :
    pts c m f ⊢ iprop((pts c m (put8 c m w f) -∗ wpD c k Q) -∗ wpD c (st8 m w k) Q) := by
  unfold st8 put8
  iintro H Hk
  iapply (wp_load (defs := defs₀ (F := F)) 𝒱₀ (c : Thread nD τ) none Set.univ (m := m) (r := Q8.toLoadRect)
    (S := Finset.univ) (q := fullShare) (f := f) (Finset.subset_univ _)) $$ H
  iintro H
  iapply (wp_store (defs := defs₀ (F := F)) 𝒱₀ (c : Thread nD τ) none Set.univ (m := m) (r := Q8) (w := w)
    (S := Finset.univ) (f := f) (Finset.subset_univ _)) $$ H
  iexact Hk
theorem wp_st5 (r : Fin 12) (f : Bf (F := F) c m5) (w : FVec F S1x30x128 .f32) (k : DP F PUnit)
    (Q : PUnit → sProp 𝕄) :
    pts c m5 f ⊢ iprop((pts c m5 (put5 c m5 r w f) -∗ wpD c k Q) -∗ wpD c (st5 m5 r w k) Q) := by
  unfold st5 put5
  iintro H Hk
  iapply (wp_load (defs := defs₀ (F := F)) 𝒱₀ (c : Thread nD τ) none Set.univ (m := m5) (r := (Q5 r).toLoadRect)
    (S := Finset.univ) (q := fullShare) (f := f) (Finset.subset_univ _)) $$ H
  iintro H
  iapply (wp_store (defs := defs₀ (F := F)) 𝒱₀ (c : Thread nD τ) none Set.univ (m := m5) (r := Q5 r) (w := w)
    (S := Finset.univ) (f := f) (Finset.subset_univ _)) $$ H
  iexact Hk

/-- What the kernel loads of the three operands' blocks. -/
def inOf (f0 : Bf (F := F) c m0) (f1 : Bf (F := F) c m1) (f2 : Bf (F := F) c m2) : In F :=
  ⟨![![got0 c m0 f0 0, got0 c m0 f0 1, got0 c m0 f0 2, got0 c m0 f0 3, got0 c m0 f0 4],
    ![got0 c m0 f0 5, got0 c m0 f0 6, got0 c m0 f0 7, got0 c m0 f0 8, got0 c m0 f0 9],
    ![got0 c m0 f0 10, got0 c m0 f0 11, got0 c m0 f0 12, got0 c m0 f0 13, got0 c m0 f0 14],
    ![got0 c m0 f0 15, got0 c m0 f0 16, got0 c m0 f0 17, got0 c m0 f0 18, got0 c m0 f0 19],
    ![got0 c m0 f0 20, got0 c m0 f0 21, got0 c m0 f0 22, got0 c m0 f0 23, got0 c m0 f0 24],
    ![got0 c m0 f0 25, got0 c m0 f0 26, got0 c m0 f0 27, got0 c m0 f0 28, got0 c m0 f0 29]],
    got1 c m1 f1 0, got1 c m1 f1 1, ![got2 c m2 f2 0, got2 c m2 f2 1, got2 c m2 f2 2, got2 c m2 f2 3]⟩

/-- The twelve planes of the tracks, stored one after the other. -/
def tracks (I : In F) (f : Bf (F := F) c m5) : Bf (F := F) c m5 :=
  put5 c m5 11 (front (I.y 5))
  (put5 c m5 10 (front (I.x 5))
  (put5 c m5 9 (front (I.y 4))
  (put5 c m5 8 (front (I.x 4))
  (put5 c m5 7 (front (I.y 3))
  (put5 c m5 6 (front (I.x 3))
  (put5 c m5 5 (front (I.y 2))
  (put5 c m5 4 (front (I.x 2))
  (put5 c m5 3 (front (I.y 1))
  (put5 c m5 2 (front (I.x 1))
  (put5 c m5 1 (front (I.y 0))
  (put5 c m5 0 (front (I.x 0)) f)))))))))))

/-- The run. -/
theorem run (h0 : m0.IsWhole) (h1 : m1.IsWhole) (h2 : m2.IsWhole) (h3 : m3.IsWhole) (h4 : m4.IsWhole) (h5 : m5.IsWhole)
    (f0 : Bf (F := F) c m0) (f1 : Bf (F := F) c m1) (f2 : Bf (F := F) c m2) (f3 : Bf (F := F) c m3) (f4 : Bf (F := F) c m4)
    (f5 : Bf (F := F) c m5) (Q : PUnit → sProp 𝕄) :
    iprop(pts c m0 f0 ∗ pts c m1 f1 ∗ pts c m2 f2 ∗ pts c m3 f3 ∗ pts c m4 f4 ∗ pts c m5 f5
      ∗ ((pts c m0 f0 ∗ pts c m1 f1 ∗ pts c m2 f2
          ∗ pts c m3 (put8 c m3 (broadcast S8x128 (inOf c m0 m1 m2 f0 f1 f2).cls) f3)
          ∗ pts c m4 (put8 c m4 (broadcast S8x128 (inOf c m0 m1 m2 f0 f1 f2).reg) f4)
          ∗ pts c m5 (tracks c m5 (inOf c m0 m1 m2 f0 f1 f2) f5)) -∗ Q ⟨⟩))
    ⊢ wpD c (cc1__dense_tc_kernel (F := F) m0 h0 m1 h1 m2 h2 m3 h3 m4 h4 m5 h5) Q := by
  rw [body_eq]
  unfold prog
  iintro ⟨H0, H1, H2, H3, H4, H5, Hk⟩
  iapply (wp_ld1 c m1 f1 0 _ Q) $$ H1
  iintro H1
  iapply (wp_ld1 c m1 f1 1 _ Q) $$ H1
  iintro H1
  iapply (wp_ld0 c m0 f0 0 _ Q) $$ H0
  iintro H0
  iapply (wp_ld0 c m0 f0 5 _ Q) $$ H0
  iintro H0
  iapply (wp_ld0 c m0 f0 10 _ Q) $$ H0
  iintro H0
  iapply (wp_ld0 c m0 f0 15 _ Q) $$ H0
  iintro H0
  iapply (wp_ld0 c m0 f0 20 _ Q) $$ H0
  iintro H0
  iapply (wp_ld0 c m0 f0 25 _ Q) $$ H0
  iintro H0
  iapply (wp_ld0 c m0 f0 1 _ Q) $$ H0
  iintro H0
  iapply (wp_ld0 c m0 f0 6 _ Q) $$ H0
  iintro H0
  iapply (wp_ld0 c m0 f0 11 _ Q) $$ H0
  iintro H0
  iapply (wp_ld0 c m0 f0 16 _ Q) $$ H0
  iintro H0
  iapply (wp_ld0 c m0 f0 21 _ Q) $$ H0
  iintro H0
  iapply (wp_ld0 c m0 f0 26 _ Q) $$ H0
  iintro H0
  iapply (wp_ld0 c m0 f0 2 _ Q) $$ H0
  iintro H0
  iapply (wp_ld0 c m0 f0 7 _ Q) $$ H0
  iintro H0
  iapply (wp_ld0 c m0 f0 12 _ Q) $$ H0
  iintro H0
  iapply (wp_ld0 c m0 f0 17 _ Q) $$ H0
  iintro H0
  iapply (wp_ld0 c m0 f0 22 _ Q) $$ H0
  iintro H0
  iapply (wp_ld0 c m0 f0 27 _ Q) $$ H0
  iintro H0
  iapply (wp_ld0 c m0 f0 3 _ Q) $$ H0
  iintro H0
  iapply (wp_ld0 c m0 f0 8 _ Q) $$ H0
  iintro H0
  iapply (wp_ld0 c m0 f0 13 _ Q) $$ H0
  iintro H0
  iapply (wp_ld0 c m0 f0 18 _ Q) $$ H0
  iintro H0
  iapply (wp_ld0 c m0 f0 23 _ Q) $$ H0
  iintro H0
  iapply (wp_ld0 c m0 f0 28 _ Q) $$ H0
  iintro H0
  iapply (wp_ld0 c m0 f0 4 _ Q) $$ H0
  iintro H0
  iapply (wp_ld0 c m0 f0 9 _ Q) $$ H0
  iintro H0
  iapply (wp_ld0 c m0 f0 14 _ Q) $$ H0
  iintro H0
  iapply (wp_ld0 c m0 f0 19 _ Q) $$ H0
  iintro H0
  iapply (wp_ld0 c m0 f0 24 _ Q) $$ H0
  iintro H0
  iapply (wp_ld0 c m0 f0 29 _ Q) $$ H0
  iintro H0
  iapply (wp_ld2 c m2 f2 0 _ Q) $$ H2
  iintro H2
  iapply (wp_ld2 c m2 f2 1 _ Q) $$ H2
  iintro H2
  iapply (wp_ld2 c m2 f2 2 _ Q) $$ H2
  iintro H2
  iapply (wp_ld2 c m2 f2 3 _ Q) $$ H2
  iintro H2
  iapply (wp_st8 c m3 f3 _ _ Q) $$ H3
  iintro H3
  iapply (wp_st8 c m4 f4 _ _ Q) $$ H4
  iintro H4
  iapply (wp_st5 c m5 0 _ _ _ Q) $$ H5
  iintro H5
  iapply (wp_st5 c m5 1 _ _ _ Q) $$ H5
  iintro H5
  iapply (wp_st5 c m5 2 _ _ _ Q) $$ H5
  iintro H5
  iapply (wp_st5 c m5 3 _ _ _ Q) $$ H5
  iintro H5
  iapply (wp_st5 c m5 4 _ _ _ Q) $$ H5
  iintro H5
  iapply (wp_st5 c m5 5 _ _ _ Q) $$ H5
  iintro H5
  iapply (wp_st5 c m5 6 _ _ _ Q) $$ H5
  iintro H5
  iapply (wp_st5 c m5 7 _ _ _ Q) $$ H5
  iintro H5
  iapply (wp_st5 c m5 8 _ _ _ Q) $$ H5
  iintro H5
  iapply (wp_st5 c m5 9 _ _ _ Q) $$ H5
  iintro H5
  iapply (wp_st5 c m5 10 _ _ _ Q) $$ H5
  iintro H5
  iapply (wp_st5 c m5 11 _ _ _ Q) $$ H5
  iintro H5
  iapply (wpD_ret c ⟨⟩ Q)
  iapply Hk
  unfold tracks inOf
  isplitl [H0]; · iexact H0
  isplitl [H1]; · iexact H1
  isplitl [H2]; · iexact H2
  isplitl [H3]; · iexact H3
  isplitl [H4]; · iexact H4
  iexact H5

end steps

/-! ## What the stores leave -/

theorem emb5 (r : Fin 12) (t : Fin 30) (l : Fin 128) : (Q5 r).emb (ix3 (0 : Fin 1) t l) = ix3 r t l := by
  funext a
  match a with
  | ⟨0, _⟩ => exact Fin.ext (by simp [Rect.emb, Rect.unit])
  | ⟨1, _⟩ => exact Fin.ext (by simp [Rect.emb, Rect.unit])
  | ⟨2, _⟩ => exact Fin.ext (by simp [Rect.emb, Rect.unit])

theorem emb8 (i : S8x128.Idx) : Q8.emb i = i := by
  funext a
  match a with
  | ⟨0, _⟩ => exact Fin.ext (by simp [Rect.emb, Rect.unit])
  | ⟨1, _⟩ => exact Fin.ext (by simp [Rect.emb, Rect.unit])

theorem read_put8 (c : Dev nD) (m : Memref sig .tc .vmem S8x128 .f32) (w : FVec F S8x128 .f32) (f : Bf (F := F) c m) :
    m.view.read (Elt F) (put8 c m w f) = w := by
  funext i
  have h := congrFun (View.read_write_univ (v := m.access Q8) (Val := Elt F) f w) i
  rw [View.read_apply] at h ⊢
  conv_lhs => rw [← emb8 i]
  exact h

theorem read_put5 (c : Dev nD) (m : Memref sig .tc .vmem S12x30x128 .f32) (r : Fin 12) (w : FVec F S1x30x128 .f32)
    (f : Bf (F := F) c m) :
    m.view.read (Elt F) (put5 c m r w f)
      = fun i => if (i 0 : Fin 12) = r then w (ix3 (0 : Fin 1) (i 1 : Fin 30) (i 2 : Fin 128)) else m.view.read (Elt F) f i := by
  funext i
  obtain ⟨r', t, l, rfl⟩ : ∃ (r' : Fin 12) (t : Fin 30) (l : Fin 128), i = ix3 r' t l := ⟨i 0, i 1, i 2, eq_ix3 i⟩
  show _ = if r' = r then w (ix3 (0 : Fin 1) t l) else _
  split
  · rename_i h
    subst h
    have h := congrFun (View.read_write_univ (v := m.access (Q5 r')) (Val := Elt F) f w) (ix3 (0 : Fin 1) t l)
    rw [View.read_apply] at h ⊢
    rw [← emb5 r' t l]
    exact h
  · rename_i h
    rw [View.read_apply, View.read_apply]
    congr 1
    apply View.write_of_not_mem
    intro hm
    rw [View.setOn, Finset.mem_map] at hm
    obtain ⟨y, -, hy⟩ := hm
    obtain ⟨a, b, e, rfl⟩ : ∃ (a : Fin 1) (b : Fin 30) (e : Fin 128), y = ix3 a b e := ⟨y 0, y 1, y 2, eq_ix3 y⟩
    obtain rfl : a = 0 := Subsingleton.elim _ _
    have h2 := m.view.emb.injective hy
    rw [emb5] at h2
    exact h (congrFun h2 0).symm

/-- The twelve planes. -/
def plane (I : In F) : Fin 12 → M30 F := ![I.x 0, I.y 0, I.x 1, I.y 1, I.x 2, I.y 2, I.x 3, I.y 3, I.x 4, I.y 4, I.x 5, I.y 5]
def trackOut (I : In F) : FVec F S12x30x128 .f32 := fun i => front (plane I (i 0)) (ix3 (0 : Fin 1) (i 1 : Fin 30) (i 2 : Fin 128))

theorem read_tracks (c : Dev nD) (m : Memref sig .tc .vmem S12x30x128 .f32) (I : In F) (f : Bf (F := F) c m) :
    m.view.read (Elt F) (tracks c m I f) = trackOut I := by
  unfold tracks
  simp only [read_put5]
  funext i
  unfold trackOut
  generalize (i 0 : Fin 12) = r
  fin_cases r <;> rfl

end Cert.KernelIdeal.Dense
end
-- ==== Proof.Region.lean ====
/- The dense kernel's call as a region of the host program: its proof data, its body obligation, and the region over every
   unscoped buffer of the tensor core. -/
module

public import proofs.«01_k».proof.Proof.DenseRun
public import proofs.«01_k».proof.Proof.Gen.KernelIdeal.Launch
public import Idealize.ShloMosaic.Lib.Pipeline.RegionsLoop

@[expose] public section

noncomputable section

namespace Cert.KernelIdeal.Dense

open Cert.KernelIdeal Cert.KernelIdeal.Tile Cert.KernelIdeal.Gen
open Idealize.ShloMosaic Idealize.ShloMosaic.ValueIdx
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [Named F]

local notation "𝕄" => MT nD τ sig (HIx 1) (Elt F) ℕ UU ℕ

variable (V : (c : Dev nD) → (b : Ref sig .tc) → Buf (Elt F) ((c : Thread nD τ).loc b))

/-- The operands' blocks as the copies in stage them. -/
abbrev stg0 (c : Dev nD) : (cfg1.win 0).block.Idx → Elt F (cfg1.win 0).elt :=
  ((cfg1.win 0).blk t1_0).view.read (Elt F) (V c main_v13)
abbrev stg1 (c : Dev nD) : (cfg1.win 1).block.Idx → Elt F (cfg1.win 1).elt :=
  ((cfg1.win 1).blk t1_0).view.read (Elt F) (V c main_v15)
abbrev stg2 (c : Dev nD) : (cfg1.win 2).block.Idx → Elt F (cfg1.win 2).elt :=
  ((cfg1.win 2).blk t1_0).view.read (Elt F) (V c main_v20)

/-- What the kernel loads. -/
def loaded (c : Dev nD) : In F :=
  inOf c (win1_0.stage 0) (win1_1.stage 0) (win1_2.stage 0) (stg0 V c) (stg1 V c) (stg2 V c)

abbrev Φc (c : Dev nD) : sProp 𝕄 :=
  Pipeline.scopedRest (Ix := HIx 1) (Name := ℕ) (U := UU) (Lvl := ℕ) (Val := Elt F) spec1 c

/-- The proof data of the call entered at the contents `V`. -/
def dat (c : Dev nD) : Dat τ (Elt F) (HIx 1) ℕ UU ℕ cfg1 c where
  A w := V c (Pipeline.arrRef spec1 w)
  after w _ := match w with
    | ⟨0, _⟩ => stg0 V c
    | ⟨1, _⟩ => stg1 V c
    | ⟨2, _⟩ => stg2 V c
    | ⟨3, _⟩ => broadcast S8x128 (loaded V c).cls
    | ⟨4, _⟩ => broadcast S8x128 (loaded V c).reg
    | ⟨5, _⟩ => trackOut (loaded V c)
  Φ _ := Φc c
  q _ := fullShare
  owed _ := 0
  recorded _ := {p | (K (F := F)).lev ((c : Thread nD τ), p.1) p.2 ≤ 8}

variable (adm : (p : Fin 1) → (pcfgs (F := F) p).Adm)

def pdats : (p : Fin 1) → (c : Dev nD) → Dat τ (Elt F) (HIx 1) ℕ UU ℕ (Pipeline.pin (pcfgs (F := F)) adm p) c
  | ⟨0, _⟩ => fun c => dat V c

theorem before0 (c : Dev nD) (d : (cfg1.win 0).block.Idx → Elt F (cfg1.win 0).elt) : (dat V c).before 0 t1_0 d = stg0 V c := by
  unfold Dat.before; rw [if_pos (by decide)]; rfl
theorem before1 (c : Dev nD) (d : (cfg1.win 1).block.Idx → Elt F (cfg1.win 1).elt) : (dat V c).before 1 t1_0 d = stg1 V c := by
  unfold Dat.before; rw [if_pos (by decide)]; rfl
theorem before2 (c : Dev nD) (d : (cfg1.win 2).block.Idx → Elt F (cfg1.win 2).elt) : (dat V c).before 2 t1_0 d = stg2 V c := by
  unfold Dat.before; rw [if_pos (by decide)]; rfl

/-- What the stores leave, at the staging buffers themselves. -/
theorem left3 (c : Dev nD) (w : FVec F S8x128 .f32) (f : Bf (F := F) c (win1_3.stage 0)) :
    put8 c (win1_3.stage 0) w f = w := read_put8 c (win1_3.stage 0) w f
theorem left4 (c : Dev nD) (w : FVec F S8x128 .f32) (f : Bf (F := F) c (win1_4.stage 0)) :
    put8 c (win1_4.stage 0) w f = w := read_put8 c (win1_4.stage 0) w f
theorem left5 (c : Dev nD) (I : In F) (f : Bf (F := F) c (win1_5.stage 0)) :
    tracks c (win1_5.stage 0) I f = trackOut I := read_tracks c (win1_5.stage 0) I f

theorem body_obligation (c : Dev nD) : BodyObligation (dat V c) (defs₀ (F := F)) 𝒱₀ none Set.univ := fun t => by
  obtain rfl := fin_N1 t
  rw [bigSep_W1, bigSep_W1]
  simp only [owns_whole_eq]
  rw [show (dat V c).Φ t1_0.castSucc = Φc c from rfl, show (dat V c).Φ t1_0.succ = Φc c from rfl,
    show (dat V c).owesAt none t1_0.succ = (dat V c).owesAt none t1_0.castSucc from rfl]
  iintro ⟨HΦ, Howes, ⟨%d0, %f0, %hf0, H0⟩, ⟨%d1, %f1, %hf1, H1⟩, ⟨%d2, %f2, %hf2, H2⟩, ⟨%d3, %f3, -, H3⟩, ⟨%d4, %f4, -, H4⟩,
    ⟨%d5, %f5, -, H5⟩⟩
  rw [before0] at hf0
  rw [before1] at hf1
  rw [before2] at hf2
  subst hf0
  subst hf1
  subst hf2
  iapply (run c (win1_0.stage 0) (win1_1.stage 0) (win1_2.stage 0) (win1_3.stage 0) (win1_4.stage 0) (win1_5.stage 0)
    (hstage1_0 0) (hstage1_1 0) (hstage1_2 0) (hstage1_3 0) (hstage1_4 0) (hstage1_5 0) (stg0 V c) (stg1 V c) (stg2 V c) f3 f4 f5 _)
  isplitl [H0]; · iexact H0
  isplitl [H1]; · iexact H1
  isplitl [H2]; · iexact H2
  isplitl [H3]; · iexact H3
  isplitl [H4]; · iexact H4
  isplitl [H5]; · iexact H5
  rw [left3, left4, left5]
  iintro ⟨H0, H1, H2, H3, H4, H5⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  isplitl [H3]; · iexists _; isplitr; swap; (· iexact H3); ipureintro; dsimp only [dat, loaded]
  isplitl [H4]; · iexists _; isplitr; swap; (· iexact H4); ipureintro; dsimp only [dat, loaded]
  iexists _; isplitr; swap; (· iexact H5); ipureintro; dsimp only [dat, loaded]

/-! ## The region -/

/-- What the core owes around the call: nothing, its recorded waits at levels up to eight. -/
abbrev owesBelow (c : Dev nD) : sProp 𝕄 :=
  iprop(∃ W, ⌜(K (F := F)).WBelow (N := 1) (c : Thread nD τ) W 8⌝ ∗ owes (c : Thread nD τ) (0 : CellTallies nD τ sig (HIx 1)) W)

variable (Vp : (c : Dev nD) → (b : Ref sig .tc) → Buf (Elt F) ((c : Thread nD τ).loc b))

set_option backward.isDefEq.respectTransparency.types false in
/-- The call, entered at the contents `V` and left at `Vp`, which has the three results at their values and agrees with
    `V` elsewhere. -/
def region (h3 : ∀ c, Vp c main_v21_0 = (dat V c).arrAt 3 cfg1.N) (h4 : ∀ c, Vp c main_v21_1 = (dat V c).arrAt 4 cfg1.N)
    (h5 : ∀ c, Vp c main_v21_2 = (dat V c).arrAt 5 cfg1.N)
    (hne : ∀ c (b : Ref sig .tc), b ≠ main_v21_0 → b ≠ main_v21_1 → b ≠ main_v21_2 → Vp c b = V c b) :
    Pipeline.RegionSeg (pcfgs (F := F)) adm (pdats V adm) none defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ owesBelow c)
  post c := iprop(unscopedBufs c (Vp c) ∗ owesBelow c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V adm) (launch1).win (launch1).arr_whole c
      ((pdats V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V adm 0 c).Φ 0 = Φc c from rfl]
    iintro ⟨-, -, Hr⟩; iexact Hr
  hout c := by
    rw [Pipeline.ownSems0_none, show (pdats V adm 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch1).win (launch1).arr_whole c
      (pdats V adm) ((pdats V adm 0 c).share_full fun _ => rfl) (V c) (Vp c) ((pdats V adm 0 c).arrAt · cfg1.N)
      (fun w => by
        fin_cases w
        · exact ((pdats V adm 0 c).arrAt_in 0 rfl _).trans (hne c main_v13 (by decide) (by decide) (by decide)).symm
        · exact ((pdats V adm 0 c).arrAt_in 1 rfl _).trans (hne c main_v15 (by decide) (by decide) (by decide)).symm
        · exact ((pdats V adm 0 c).arrAt_in 2 rfl _).trans (hne c main_v20 (by decide) (by decide) (by decide)).symm
        · exact (h3 c).symm
        · exact (h4 c).symm
        · exact (h5 c).symm)
      (fun b hb => hne c b (fun h => hb (h ▸ Finset.mem_image.mpr ⟨3, Finset.mem_univ _, rfl⟩))
        (fun h => hb (h ▸ Finset.mem_image.mpr ⟨4, Finset.mem_univ _, rfl⟩))
        (fun h => hb (h ▸ Finset.mem_image.mpr ⟨5, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, rfl⟩
      · exact h
      · exact Nat.zero_le _
    iexact HO

end Cert.KernelIdeal.Dense
end
-- ==== Proof.Host.lean ====
/- The host program around the two calls as three straight lines of operations. -/
module

public import proofs.«01_k».proof.Proof.Handoff
public import proofs.«01_k».proof.Proof.Region
public import Idealize.ShloMosaic.Lib.StableHlo.RunRead
public import Idealize.ShloMosaic.Lib.Pipeline.Frame

@[expose] public section

noncomputable section

namespace Cert.KernelIdeal.Run

open Cert.KernelIdeal Cert.KernelIdeal.Tile Cert.KernelIdeal.Gen
open Idealize.ShloMosaic Idealize.ShloMosaic.ValueIdx
open Idealize.ShloMosaic.TcCoe
open Idealize.ShloMosaic.StableHlo (after seq)
open Idealize.SL Idealize.SL.Sem
open Idealize.ShloMosaic.Tactic

variable {F : FTy → Type} [FloatOps F] [Named F]

/-- The host operations before the SparseCore call. -/
def before : List (HloOp τ sig (Elt F)) :=
  [ StableHlo.reshape main_arg0 main_v0 (rfl : (.f32 : EltTy) = .f32) shapeCasts_S20000x5_S1000x20x5,
    StableHlo.reshape main_arg1 main_v1 (rfl : (.f32 : EltTy) = .f32) shapeCasts_S20000x4_S1000x20x4,
    StableHlo.binary main_v0 main_v1 main_v2 ((fun a b => concatenate S1000x20x9 2 [⟨S1000x20x5, a⟩, ⟨S1000x20x4, b⟩] concatenates_S1000x20x5_S1000x20x4_S1000x20x9_d2) : (⟨S1000x20x5, .f32⟩ : BufTy).Contents (Elt F) → (⟨S1000x20x4, .f32⟩ : BufTy).Contents (Elt F) → (⟨S1000x20x9, .f32⟩ : BufTy).Contents (Elt F)),
    StableHlo.nullary main_c (constantI S_ 32 0#32),
    StableHlo.TRef.unary (.of main_c : StableHlo.TRef sig ⟨S_, .i32⟩) (.of main_call0_v0 : StableHlo.TRef sig ⟨S_, .f32⟩) (sitofp .f32),
    StableHlo.TRef.binary (.of main_v2 : StableHlo.TRef sig ⟨S1000x20x9, .f32⟩) (.of main_call0_v0 : StableHlo.TRef sig ⟨S_, .f32⟩) (.of main_v3 : StableHlo.TRef sig ⟨S1024x20x9, .f32⟩) (fun x v => pad S1024x20x9 ![0, 0, 0] ![24, 0, 0] ![0, 0, 0] x v pads_S1000x20x9_S1024x20x9_0240_000_000 h_S_),
    StableHlo.reshape main_v3 main_v4 (rfl : (.f32 : EltTy) = .f32) shapeCasts_S1024x20x9_S64x16x20x9,
    StableHlo.unary main_v4 main_v5 ((transpose S64x9x20x16 [0, 3, 2, 1] · transposes_S64x16x20x9_S64x9x20x16_0_3_2_1) : (⟨S64x16x20x9, .f32⟩ : BufTy).Contents (Elt F) → (⟨S64x9x20x16, .f32⟩ : BufTy).Contents (Elt F)),
    StableHlo.unary main_arg4 main_v6 ((extractStridedSlice S1000x1x2 ![0, 29, 0] · slices_S1000x30x2_S1000x1x2_0_29_0) : (⟨S1000x30x2, .f32⟩ : BufTy).Contents (Elt F) → (⟨S1000x1x2, .f32⟩ : BufTy).Contents (Elt F)),
    StableHlo.reshape main_v6 main_v7 (rfl : (.f32 : EltTy) = .f32) shapeCasts_S1000x1x2_S1000x2,
    StableHlo.nullary main_c_0 (constantI S_ 32 0#32),
    StableHlo.TRef.unary (.of main_c_0 : StableHlo.TRef sig ⟨S_, .i32⟩) (.of main_call1_v0 : StableHlo.TRef sig ⟨S_, .f32⟩) (sitofp .f32),
    StableHlo.TRef.binary (.of main_v7 : StableHlo.TRef sig ⟨S1000x2, .f32⟩) (.of main_call1_v0 : StableHlo.TRef sig ⟨S_, .f32⟩) (.of main_v8 : StableHlo.TRef sig ⟨S1024x2, .f32⟩) (fun x v => pad S1024x2 ![0, 0] ![24, 0] ![0, 0] x v pads_S1000x2_S1024x2_0240_000 h_S_),
    StableHlo.reshape main_v8 main_v9 (rfl : (.f32 : EltTy) = .f32) shapeCasts_S1024x2_S64x16x2,
    StableHlo.unary main_v9 main_v10 ((transpose S64x2x16 [0, 2, 1] · transposes_S64x16x2_S64x2x16_0_2_1) : (⟨S64x16x2, .f32⟩ : BufTy).Contents (Elt F) → (⟨S64x2x16, .f32⟩ : BufTy).Contents (Elt F)) ]

/-- What they write. -/
abbrev beforeW : List (Ref sig .tc) := [main_v0, main_v1, main_v2, main_c, main_call0_v0, main_v3, main_v4, main_v5, main_v6, main_v7, main_c_0, main_call1_v0, main_v8, main_v9, main_v10]

/-- The host operations between the two calls. -/
def between : List (HloOp τ sig (Elt F)) :=
  [ StableHlo.unary main_v11 main_v12 ((transpose S6x5x64x16 [1, 2, 0, 3] · transposes_S64x6x5x16_S6x5x64x16_1_2_0_3) : (⟨S64x6x5x16, .f32⟩ : BufTy).Contents (Elt F) → (⟨S6x5x64x16, .f32⟩ : BufTy).Contents (Elt F)),
    StableHlo.reshape main_v12 main_v13 (rfl : (.f32 : EltTy) = .f32) shapeCasts_S6x5x64x16_S30x1024,
    StableHlo.nullary main_c_1 (constantI S_ 32 0#32),
    StableHlo.TRef.unary (.of main_c_1 : StableHlo.TRef sig ⟨S_, .i32⟩) (.of main_call2_v0 : StableHlo.TRef sig ⟨S_, .f32⟩) (sitofp .f32),
    StableHlo.TRef.binary (.of main_arg4 : StableHlo.TRef sig ⟨S1000x30x2, .f32⟩) (.of main_call2_v0 : StableHlo.TRef sig ⟨S_, .f32⟩) (.of main_v14 : StableHlo.TRef sig ⟨S1024x30x2, .f32⟩) (fun x v => pad S1024x30x2 ![0, 0, 0] ![24, 0, 0] ![0, 0, 0] x v pads_S1000x30x2_S1024x30x2_0240_000_000 h_S_),
    StableHlo.unary main_v14 main_v15 ((transpose S2x30x1024 [2, 1, 0] · transposes_S1024x30x2_S2x30x1024_2_1_0) : (⟨S1024x30x2, .f32⟩ : BufTy).Contents (Elt F) → (⟨S2x30x1024, .f32⟩ : BufTy).Contents (Elt F)),
    StableHlo.unary main_arg3 main_v16 ((extractStridedSlice S1000x1x2 ![0, 19, 0] · slices_S1000x20x3_S1000x1x2_0_19_0) : (⟨S1000x20x3, .f32⟩ : BufTy).Contents (Elt F) → (⟨S1000x1x2, .f32⟩ : BufTy).Contents (Elt F)),
    StableHlo.reshape main_v16 main_v17 (rfl : (.f32 : EltTy) = .f32) shapeCasts_S1000x1x2_S1000x2,
    StableHlo.binary main_arg2 main_v17 main_v18 ((fun a b => concatenate S1000x4 1 [⟨S1000x2, a⟩, ⟨S1000x2, b⟩] concatenates_S1000x2_S1000x2_S1000x4_d1) : (⟨S1000x2, .f32⟩ : BufTy).Contents (Elt F) → (⟨S1000x2, .f32⟩ : BufTy).Contents (Elt F) → (⟨S1000x4, .f32⟩ : BufTy).Contents (Elt F)),
    StableHlo.nullary main_c_2 (constantI S_ 32 0#32),
    StableHlo.TRef.unary (.of main_c_2 : StableHlo.TRef sig ⟨S_, .i32⟩) (.of main_call3_v0 : StableHlo.TRef sig ⟨S_, .f32⟩) (sitofp .f32),
    StableHlo.TRef.binary (.of main_v18 : StableHlo.TRef sig ⟨S1000x4, .f32⟩) (.of main_call3_v0 : StableHlo.TRef sig ⟨S_, .f32⟩) (.of main_v19 : StableHlo.TRef sig ⟨S1024x4, .f32⟩) (fun x v => pad S1024x4 ![0, 0] ![24, 0] ![0, 0] x v pads_S1000x4_S1024x4_0240_000 h_S_),
    StableHlo.unary main_v19 main_v20 ((transpose S4x1024 [1, 0] · transposes_S1024x4_S4x1024_1_0) : (⟨S1024x4, .f32⟩ : BufTy).Contents (Elt F) → (⟨S4x1024, .f32⟩ : BufTy).Contents (Elt F)) ]

/-- What they write. -/
abbrev betweenW : List (Ref sig .tc) := [main_v12, main_v13, main_c_1, main_call2_v0, main_v14, main_v15, main_v16, main_v17, main_v18, main_c_2, main_call3_v0, main_v19, main_v20]

/-- The host operations after the dense call. -/
def afterwards : List (HloOp τ sig (Elt F)) :=
  [ StableHlo.unary main_v21_0 main_v22 ((extractStridedSlice S1x1 ![0, 0] · slices_S8x128_S1x1_0_0) : (⟨S8x128, .f32⟩ : BufTy).Contents (Elt F) → (⟨S1x1, .f32⟩ : BufTy).Contents (Elt F)),
    StableHlo.reshape main_v22 main_v23 (rfl : (.f32 : EltTy) = .f32) shapeCasts_S1x1_S_,
    StableHlo.unary main_v21_1 main_v24 ((extractStridedSlice S1x1 ![0, 0] · slices_S8x128_S1x1_0_0) : (⟨S8x128, .f32⟩ : BufTy).Contents (Elt F) → (⟨S1x1, .f32⟩ : BufTy).Contents (Elt F)),
    StableHlo.reshape main_v24 main_v25 (rfl : (.f32 : EltTy) = .f32) shapeCasts_S1x1_S_,
    StableHlo.unary main_v21_2 main_v26 ((Host.slice S6x30x1 ![0, 0, 0] ![2, 1, 1] · slicesBy_S12x30x128_S6x30x1_0s2_0s1_0s1) : (⟨S12x30x128, .f32⟩ : BufTy).Contents (Elt F) → (⟨S6x30x1, .f32⟩ : BufTy).Contents (Elt F)),
    StableHlo.reshape main_v26 main_v27 (rfl : (.f32 : EltTy) = .f32) shapeCasts_S6x30x1_S6x30,
    StableHlo.unary main_v21_2 main_v28 ((Host.slice S6x30x1 ![1, 0, 0] ![2, 1, 1] · slicesBy_S12x30x128_S6x30x1_1s2_0s1_0s1) : (⟨S12x30x128, .f32⟩ : BufTy).Contents (Elt F) → (⟨S6x30x1, .f32⟩ : BufTy).Contents (Elt F)),
    StableHlo.reshape main_v28 main_v29 (rfl : (.f32 : EltTy) = .f32) shapeCasts_S6x30x1_S6x30,
    StableHlo.unary main_v27 main_v30 (broadcastInDim S6x30x1 ![0, 1] bcast_S6x30_S6x30x1_0_1 : (⟨S6x30, .f32⟩ : BufTy).Contents (Elt F) → (⟨S6x30x1, .f32⟩ : BufTy).Contents (Elt F)),
    StableHlo.unary main_v29 main_v31 (broadcastInDim S6x30x1 ![0, 1] bcast_S6x30_S6x30x1_0_1 : (⟨S6x30, .f32⟩ : BufTy).Contents (Elt F) → (⟨S6x30x1, .f32⟩ : BufTy).Contents (Elt F)),
    StableHlo.binary main_v30 main_v31 main_v32 ((fun a b => concatenate S6x30x2 2 [⟨S6x30x1, a⟩, ⟨S6x30x1, b⟩] concatenates_S6x30x1_S6x30x1_S6x30x2_d2) : (⟨S6x30x1, .f32⟩ : BufTy).Contents (Elt F) → (⟨S6x30x1, .f32⟩ : BufTy).Contents (Elt F) → (⟨S6x30x2, .f32⟩ : BufTy).Contents (Elt F)) ]

/-- What they write. -/
abbrev afterwardsW : List (Ref sig .tc) := [main_v22, main_v23, main_v24, main_v25, main_v26, main_v27, main_v28, main_v29, main_v30, main_v31, main_v32]

theorem before_writes : (before (F := F)).map HloOp.writes = beforeW.map fun w => {Proc.devRef (τ := τ) .tc w} := rfl
theorem between_writes : (between (F := F)).map HloOp.writes = betweenW.map fun w => {Proc.devRef (τ := τ) .tc w} := rfl
theorem afterwards_writes : (afterwards (F := F)).map HloOp.writes = afterwardsW.map fun w => {Proc.devRef (τ := τ) .tc w} := rfl

theorem before_fresh : ∀ op ∈ before (F := F), op.fresh = ∅ :=
  List.forall_iff_forall_mem.mp (show List.Forall (fun op => op.fresh = ∅) (before (F := F)) by unfold before; simp only [List.Forall]; and_intros <;> rfl)
theorem between_fresh : ∀ op ∈ between (F := F), op.fresh = ∅ :=
  List.forall_iff_forall_mem.mp (show List.Forall (fun op => op.fresh = ∅) (between (F := F)) by unfold between; simp only [List.Forall]; and_intros <;> rfl)
theorem afterwards_fresh : ∀ op ∈ afterwards (F := F), op.fresh = ∅ :=
  List.forall_iff_forall_mem.mp (show List.Forall (fun op => op.fresh = ∅) (afterwards (F := F)) by unfold afterwards; simp only [List.Forall]; and_intros <;> rfl)

theorem before_bufs : ∀ op ∈ before (F := F), op.bufs ⊆ Pipeline.ucRefs τ sig := fun op hop =>
  Pipeline.sub_ucRefs op (List.forall_iff_forall_mem.mp (show List.Forall (fun op => op.bufs ⊆ StableHlo.tcRefs τ sig) (before (F := F)) by
    unfold before; simp only [List.Forall]; and_intros <;> first | exact StableHlo.reshape_bufs_sub .. | exact StableHlo.unary_bufs_sub .. | exact StableHlo.binary_bufs_sub .. | exact StableHlo.nullary_bufs_sub ..) op hop)
theorem between_bufs : ∀ op ∈ between (F := F), op.bufs ⊆ Pipeline.ucRefs τ sig := fun op hop =>
  Pipeline.sub_ucRefs op (List.forall_iff_forall_mem.mp (show List.Forall (fun op => op.bufs ⊆ StableHlo.tcRefs τ sig) (between (F := F)) by
    unfold between; simp only [List.Forall]; and_intros <;> first | exact StableHlo.reshape_bufs_sub .. | exact StableHlo.unary_bufs_sub .. | exact StableHlo.binary_bufs_sub .. | exact StableHlo.nullary_bufs_sub ..) op hop)
theorem afterwards_bufs : ∀ op ∈ afterwards (F := F), op.bufs ⊆ Pipeline.ucRefs τ sig := fun op hop =>
  Pipeline.sub_ucRefs op (List.forall_iff_forall_mem.mp (show List.Forall (fun op => op.bufs ⊆ StableHlo.tcRefs τ sig) (afterwards (F := F)) by
    unfold afterwards; simp only [List.Forall]; and_intros <;> first | exact StableHlo.reshape_bufs_sub .. | exact StableHlo.unary_bufs_sub .. | exact StableHlo.binary_bufs_sub .. | exact StableHlo.nullary_bufs_sub ..) op hop)

/-- The program on a device. -/
theorem main_eq (d : Dev nD) : main (F := F) d
    = (seq (before (F := F)) >>= fun _ => (K (F := F)).run d 0 >>= fun _ => seq (between (F := F)) >>= fun _ =>
        SparseCore.liftProg (Prog.op (.customCall (Pipeline.entry 0) ()) fun _ => .ret (⟨⟩ : PUnit.{1})) >>= fun _ => seq (afterwards (F := F)) >>= fun _ => .ret ⟨⟩) := by
  chain_rfl

end Cert.KernelIdeal.Run
end
-- ==== Proof.Launch.lean ====
/- The whole program on the machine: @main on the tensor core with its two calls, and every thread's run to the end. -/
module

public import proofs.«01_k».proof.Proof.Host

@[expose] public section

noncomputable section

namespace Cert.KernelIdeal.Run

open Cert.KernelIdeal Cert.KernelIdeal.Tile Cert.KernelIdeal.Gen
open Idealize.ShloMosaic Idealize.ShloMosaic.ValueIdx
open Idealize.ShloMosaic.TcCoe
open Idealize.ShloMosaic.SparseCore.Cfg (HIx)
open Idealize.ShloMosaic.StableHlo (after seq held)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (ρ : Dev nD → PrngReg)

abbrev dv (b : Ref sig .tc) : DevRef τ sig := Proc.devRef .tc b

/-- The device's buffers at launch, when the SparseCore call starts, after it left `f`, and when the dense call starts. -/
def V0 (d : Dev nD) : Valuation τ sig (Elt F) := fun b => m (d, b)
def V1 (d : Dev nD) : Valuation τ sig (Elt F) := after before (V0 m d)
def V2 (f : FVec F S64x6x5x16 .f32) (d : Dev nD) : Valuation τ sig (Elt F) := Function.update (V1 m d) (dv main_v11) f
def V3 (f : FVec F S64x6x5x16 .f32) (d : Dev nD) : Valuation τ sig (Elt F) := after between (V2 m f d)

/-- The same as the dense call's region addresses them. -/
abbrev VR (f : FVec F S64x6x5x16 .f32) : (c : Dev nD) → (b : Ref sig .tc) → Buf (Elt F) ((c : Thread nD τ).loc b) :=
  fun c b => V3 m f c (dv b)

/-- After the dense call, and at the end. -/
def V4 (f : FVec F S64x6x5x16 .f32) (d : Dev nD) : Valuation τ sig (Elt F) :=
  Function.update (Function.update (Function.update (V3 m f d)
    (dv main_v21_0) ((Dense.dat (VR m f) d).arrAt 3 cfg1.N))
    (dv main_v21_1) ((Dense.dat (VR m f) d).arrAt 4 cfg1.N))
    (dv main_v21_2) ((Dense.dat (VR m f) d).arrAt 5 cfg1.N)
def V5 (f : FVec F S64x6x5x16 .f32) (d : Dev nD) : Valuation τ sig (Elt F) := after afterwards (V4 m f d)

theorem V4_0 (f : FVec F S64x6x5x16 .f32) (d : Dev nD) : V4 m f d (dv main_v21_0) = (Dense.dat (VR m f) d).arrAt 3 cfg1.N := by
  unfold V4
  rw [Function.update_of_ne (show dv main_v21_0 ≠ dv main_v21_2 by decide), Function.update_of_ne (show dv main_v21_0 ≠ dv main_v21_1 by decide),
    Function.update_self]
theorem V4_1 (f : FVec F S64x6x5x16 .f32) (d : Dev nD) : V4 m f d (dv main_v21_1) = (Dense.dat (VR m f) d).arrAt 4 cfg1.N := by
  unfold V4
  rw [Function.update_of_ne (show dv main_v21_1 ≠ dv main_v21_2 by decide), Function.update_self]
theorem V4_2 (f : FVec F S64x6x5x16 .f32) (d : Dev nD) : V4 m f d (dv main_v21_2) = (Dense.dat (VR m f) d).arrAt 5 cfg1.N := by
  unfold V4
  rw [Function.update_self]
theorem dv_ne {b b' : Ref sig .tc} (h : b ≠ b') : dv b ≠ dv b' := fun e => h (Proc.devRef_injective _ e)
theorem V4_ne (f : FVec F S64x6x5x16 .f32) (d : Dev nD) (b : Ref sig .tc) (h0 : b ≠ main_v21_0) (h1 : b ≠ main_v21_1) (h2 : b ≠ main_v21_2) :
    V4 m f d (dv b) = V3 m f d (dv b) := by
  unfold V4
  rw [Function.update_of_ne (dv_ne h2), Function.update_of_ne (dv_ne h1), Function.update_of_ne (dv_ne h0)]

/-- The arrays the SparseCore call reads, and what it finds in its result. -/
abbrev A (d : Dev nD) : FVec F S64x9x20x16 .f32 := V1 m d (dv main_v5)
abbrev B (d : Dev nD) : FVec F S64x2x16 .f32 := V1 m d (dv main_v10)
abbrev o (d : Dev nD) : FVec F S64x6x5x16 .f32 := V1 m d (dv main_v11)

/-- The SparseCore call's result `f` is what its groups compute. -/
def SelOK (d : Dev nD) (f : FVec F S64x6x5x16 .f32) : Prop := ∀ g, OutOK (A m d) (B m d) g f

abbrev adm₀ : (p : Fin 1) → (pcfgs (F := F) p).Adm := fun p => (cfgs p).toPCfg_adm

/-- The dense call's region. -/
abbrev reg (f : FVec F S64x6x5x16 .f32) : Pipeline.RegionSeg (pcfgs (F := F)) adm₀ (Dense.pdats (VR m f) adm₀) none defs₀ 𝒱₀ (K (F := F)).L (K (F := F)).lev 0 :=
  Dense.region (VR m f) adm₀ (fun c b => V4 m f c (dv b)) (fun c => V4_0 m f c) (fun c => V4_1 m f c) (fun c => V4_2 m f c)
    (fun c b h0 h1 h2 => V4_ne m f c b h0 h1 h2)

/-- The hand-over's part of the launch element, and the pipeline's. -/
abbrev EH : Emb UH 𝕄 := embL

abbrev EP : Emb (UR sig nD τ) 𝕄 := (Emb.inl : Emb (UR sig nD τ) (UR sig nD τ × Counters)).trans embR

def u₀ : UU := (initOf (K (F := F)).hsCells (K (F := F)).hsToks,
  (initOf (Pipeline.cells cfgs cellOf_inj) (Pipeline.launchToks cfgs cellOf_inj), 1))

abbrev G (d : Dev nD) : sProp 𝕄 := iprop(Pipeline.cellsGhost cfgs EP 0 d ∗ Pipeline.toksInit cfgs EP 0 d)

theorem x_emp : (bigSep Finset.univ fun thr : Thread nD τ => bigSep Finset.univ fun q : Fin 1 => (P (A m) (B m) (o m)).x q thr : sProp 𝕄) = iprop(emp) := by
  refine (bigSep_congr fun thr _ => ?_).trans (bigSep_emp_const Finset.univ)
  exact bigSep_emp_const Finset.univ

theorem hu₀ : (ownU (u₀ (F := F)) : sProp 𝕄)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (P (A m) (B m) (o m)).x q thr) := by
  unfold u₀
  iintro Hu
  ihave H := (ownU_pair _ _) $$ Hu
  icases H with ⟨HH, HR⟩
  ihave H := (own_pair_emb embR _ _) $$ HR
  icases H with ⟨HP, -⟩
  imod (Pipeline.fund_ghost cfgs (EP (F := F)) cellOf_inj) $$ HP with ⟨Hg, Ht⟩
  imodintro
  isplitl [HH]; · iexact HH
  isplitl [Hg Ht]
  · unfold G
    rw [bigSep_sep']
    isplitl [Hg]
    · iapply (Entails.of_eq (bigSep_congr fun d _ => bigSep_univ_of_subsingleton (0 : Fin 1))) $$ Hg
    · iapply (Entails.of_eq (bigSep_congr fun d _ => bigSep_univ_of_subsingleton (0 : Fin 1))) $$ Ht
  · rw [x_emp]; iempintro

theorem launch_held (d : Dev nD) : (unscopedBufs d (fun b => m ((SparseCore.T d).loc b)) : sProp 𝕄)
    = held (SparseCore.T d : Thread nD τ) (Pipeline.ucRefs τ sig) (V0 m d) :=
  Pipeline.unscopedBufs_held d (V0 m d)

/-- What @main leaves: for some result of the SparseCore call its groups compute, every buffer at the final valuation. -/
abbrev FIN (d : Dev nD) : sProp 𝕄 := iprop(∃ f, ⌜SelOK m d f⌝ ∗ held (SparseCore.T d : Thread nD τ) (Pipeline.ucRefs τ sig) (V5 m f d))

abbrev S3 : Finset (DevRef τ sig) := {dv main_v5, dv main_v10, dv main_v11}
theorem S3_sub : S3 ⊆ Pipeline.ucRefs τ sig := by decide

theorem held_S3 (d : Dev nD) (W : Valuation τ sig (Elt F)) :
    (held (SparseCore.T d : Thread nD τ) S3 W : sProp 𝕄)
      = iprop((aLoc d ↦{fullShare} W (dv main_v5)) ∗ (bLoc d ↦{fullShare} W (dv main_v10)) ∗ oLoc d ↦{fullShare} W (dv main_v11)) := by
  unfold StableHlo.held
  rw [SparseCore.bigSep_insert' (by decide), SparseCore.bigSep_insert' (by decide), bigSep_singleton]

theorem held_V1 (d : Dev nD) :
    (held (SparseCore.T d : Thread nD τ) (Pipeline.ucRefs τ sig) (V1 m d) : sProp 𝕄)
      = iprop(((aLoc d ↦{fullShare} A m d) ∗ (bLoc d ↦{fullShare} B m d) ∗ oLoc d ↦{fullShare} o m d)
          ∗ held (SparseCore.T d : Thread nD τ) (Pipeline.ucRefs τ sig \ S3) (V1 m d)) := by
  rw [StableHlo.held_sub_split _ S3_sub, held_S3]

theorem V2_self (f : FVec F S64x6x5x16 .f32) (d : Dev nD) : V2 m f d (dv main_v11) = f := Function.update_self _ _ _
theorem V2_ne (f : FVec F S64x6x5x16 .f32) (d : Dev nD) (b : DevRef τ sig) (h : b ≠ dv main_v11) : V2 m f d b = V1 m d b :=
  Function.update_of_ne h _ _
theorem held_rest (d : Dev nD) (f : FVec F S64x6x5x16 .f32) :
    (held (SparseCore.T d : Thread nD τ) (Pipeline.ucRefs τ sig \ S3) (V2 m f d) : sProp 𝕄)
      = held (SparseCore.T d : Thread nD τ) (Pipeline.ucRefs τ sig \ S3) (V1 m d) :=
  bigSep_congr fun b hb => by
    rw [V2_ne m f d b (fun e => (Finset.mem_sdiff.mp hb).2 (e ▸ by decide))]

theorem held_V2 (d : Dev nD) (f : FVec F S64x6x5x16 .f32) :
    (held (SparseCore.T d : Thread nD τ) (Pipeline.ucRefs τ sig) (V2 m f d) : sProp 𝕄)
      = iprop(((aLoc d ↦{fullShare} A m d) ∗ (bLoc d ↦{fullShare} B m d) ∗ oLoc d ↦{fullShare} f)
          ∗ held (SparseCore.T d : Thread nD τ) (Pipeline.ucRefs τ sig \ S3) (V1 m d)) := by
  rw [StableHlo.held_sub_split _ S3_sub, held_S3, V2_self, V2_ne m f d (dv main_v5) (by decide), V2_ne m f d (dv main_v10) (by decide), held_rest]

theorem tcSt_end (d : Dev nD) :
    ((K (F := F)).tcSt EH d ((0 : Fin 1).val + 1) : sProp 𝕄) ⊢ iprop(Dense.owesBelow d ∗ (Dense.owesBelow d -∗ (K (F := F)).tcSt EH d 1)) := by
  show ((K (F := F)).tcSt EH d 1 : sProp 𝕄) ⊢ _
  unfold SparseCore.Cfg.tcSt
  rw [(K (F := F)).Otc_end d (le_refl 1)]
  iintro ⟨HO, Hr⟩
  isplitl [HO]; · iexact HO
  iintro HO
  isplitl [HO]; · iexact HO
  iexact Hr

/-- The host program's threads' programs, and their weakest precondition on the tensor core. -/
abbrev PrT (F : FTy → Type) [FloatOps F] [Named F] : Type 1 := Prog (TpuEff nD τ sig (Elt F) (SparseCore.Sig (ΛP (F := F)) 1) .tc) PUnit
abbrev wpM (d : Dev nD) (p : PrT F) (Φ : PUnit.{1} → sProp 𝕄) : sProp 𝕄 :=
  wp frame (wpE ((K (F := F)).defs (D (F := F))) 𝒱 (SparseCore.T d) none) Set.univ p Φ
theorem wpM_bind (d : Dev nD) (p : PrT F) (k : PUnit.{1} → PrT F) (Φ : PUnit.{1} → sProp 𝕄) :
    wpM d (p >>= k) Φ = wpM d p fun a => wpM d (k a) Φ := wp_bind _ _ _ p k Φ
theorem wpM_ret (d : Dev nD) (a : PUnit) (Φ : PUnit.{1} → sProp 𝕄) : Φ a ⊢ wpM d (.ret a) Φ := by
  unfold wpM; rw [wp_ret]; exact fupd_intro

theorem run_before (d : Dev nD) {k : PUnit.{1} → PrT F} {Φ : PUnit.{1} → sProp 𝕄} :
    iprop(boundary (SparseCore.T d : Thread nD τ) ∗ (held (SparseCore.T d : Thread nD τ) (Pipeline.ucRefs τ sig) (V0 m d) : sProp 𝕄))
      ⊢ iprop(((boundary (SparseCore.T d : Thread nD τ) ∗ (held (SparseCore.T d : Thread nD τ) (Pipeline.ucRefs τ sig) (V1 m d) : sProp 𝕄)) -∗ wpM d (k ⟨⟩) Φ)
        -∗ wpM d (seq before >>= k) Φ) :=
  StableHlo.wp_seq (defs := (K (F := F)).defs (D (F := F))) 𝒱 none Set.univ d (Pipeline.ucRefs τ sig) k before before_bufs before_fresh (V0 m d)

theorem run_between (d : Dev nD) (f : FVec F S64x6x5x16 .f32) {k : PUnit.{1} → PrT F} {Φ : PUnit.{1} → sProp 𝕄} :
    iprop(boundary (SparseCore.T d : Thread nD τ) ∗ (held (SparseCore.T d : Thread nD τ) (Pipeline.ucRefs τ sig) (V2 m f d) : sProp 𝕄))
      ⊢ iprop(((boundary (SparseCore.T d : Thread nD τ) ∗ (held (SparseCore.T d : Thread nD τ) (Pipeline.ucRefs τ sig) (V3 m f d) : sProp 𝕄)) -∗ wpM d (k ⟨⟩) Φ)
        -∗ wpM d (seq between >>= k) Φ) :=
  StableHlo.wp_seq (defs := (K (F := F)).defs (D (F := F))) 𝒱 none Set.univ d (Pipeline.ucRefs τ sig) k between between_bufs between_fresh (V2 m f d)

theorem run_afterwards (d : Dev nD) (f : FVec F S64x6x5x16 .f32) {k : PUnit.{1} → PrT F} {Φ : PUnit.{1} → sProp 𝕄} :
    iprop(boundary (SparseCore.T d : Thread nD τ) ∗ (held (SparseCore.T d : Thread nD τ) (Pipeline.ucRefs τ sig) (V4 m f d) : sProp 𝕄))
      ⊢ iprop(((boundary (SparseCore.T d : Thread nD τ) ∗ (held (SparseCore.T d : Thread nD τ) (Pipeline.ucRefs τ sig) (V5 m f d) : sProp 𝕄)) -∗ wpM d (k ⟨⟩) Φ)
        -∗ wpM d (seq afterwards >>= k) Φ) :=
  StableHlo.wp_seq (defs := (K (F := F)).defs (D (F := F))) 𝒱 none Set.univ d (Pipeline.ucRefs τ sig) k afterwards afterwards_bufs afterwards_fresh (V4 m f d)

theorem dense_post (d : Dev nD) (f : FVec F S64x6x5x16 .f32) :
    (reg m f).post d = (iprop(held (SparseCore.T d : Thread nD τ) (Pipeline.ucRefs τ sig) (V4 m f d) ∗ Dense.owesBelow d) : sProp 𝕄) := by
  rw [← Pipeline.unscopedBufs_held d (V4 m f d)]; rfl
theorem dense_pre (d : Dev nD) (f : FVec F S64x6x5x16 .f32) :
    (reg m f).pre d = (iprop(held (SparseCore.T d : Thread nD τ) (Pipeline.ucRefs τ sig) (V3 m f d) ∗ Dense.owesBelow d) : sProp 𝕄) := by
  rw [← Pipeline.unscopedBufs_held d (V3 m f d)]; rfl

theorem run_dense [∀ e, Nonempty (Elt F e)] (d : Dev nD) (f : FVec F S64x6x5x16 .f32) {Φ : PUnit.{1} → sProp 𝕄} :
    iprop(boundary (SparseCore.T d : Thread nD τ) ∗ (held (SparseCore.T d : Thread nD τ) (Pipeline.ucRefs τ sig) (V3 m f d) : sProp 𝕄)
        ∗ Dense.owesBelow d ∗ levAts (K (F := F)).L (K (F := F)).lev ∗ Pipeline.cellsGhost cfgs EP 0 d ∗ Pipeline.toksInit cfgs EP 0 d)
      ⊢ iprop(((boundary (SparseCore.T d : Thread nD τ) ∗ (held (SparseCore.T d : Thread nD τ) (Pipeline.ucRefs τ sig) (V4 m f d) : sProp 𝕄)
          ∗ Dense.owesBelow d) -∗ Φ ⟨⟩)
        -∗ wpM d (SparseCore.liftProg (Prog.op (.customCall (Pipeline.entry 0) ()) fun _ => .ret (⟨⟩ : PUnit.{1}))) Φ) := by
  iintro ⟨Hb, Hh, HO, Hlev, Hg, Ht⟩ Hk
  have h := Pipeline.RegionSeg.wp (pcfgs (F := F)) adm₀ (Dense.pdats (VR m f) adm₀) none cellOf_inj EP defs₀ 𝒱₀ (K (F := F)).L (K (F := F)).lev (reg m f) d none (fun u hu => nomatch hu) (fun _ => .ret ⟨⟩) Φ
  rw [dense_pre, dense_post] at h
  iapply ((K (F := F)).wp_liftProg (D (F := F)) 𝒱 (SparseCore.T d) Set.univ none (Prog.op (.customCall (Pipeline.entry 0) ()) fun _ => .ret (⟨⟩ : PUnit.{1})) Φ)
  iapply h
  isplitl [Hk]
  · iintro ⟨Hb, Hh, HO⟩
    rw [wp_ret]; imodintro
    iapply Hk
    isplitl [Hb]; · iexact Hb
    isplitl [Hh] <;> iassumption
  isplitl [Hb]; · iexact Hb
  isplitl [Hh HO]; · isplitl [Hh] <;> iassumption
  isplitl [Hlev]; · iexact Hlev
  isplitl [Hg] <;> iassumption

theorem hmain [∀ e, Nonempty (Elt F e)] (κ : GSem nD τ sig → ℕ) (d : Dev nD) :
    iprop((K (F := F)).ctx EH (P (A m) (B m) (o m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, launch_held]
  iintro ⟨#Hctx, Hst, ⟨Hb, Hh, Hts, -⟩, ⟨Hg, Ht⟩⟩
  -- the operations before the SparseCore call
  iapply (run_before m d) $$ [Hb Hh]
  · isplitl [Hb] <;> iassumption
  iintro ⟨Hb, Hh⟩
  -- the call
  ihave H := (Entails.of_eq (held_V1 m d)) $$ Hh
  icases H with ⟨Harr, Hrest⟩
  rw [wpM_bind]
  iapply ((K (F := F)).wp_run (D (F := F)) 𝒱 (EH := EH) (P := P (A m) (B m) (o m)) κ d 0) $$ [Hst Harr Hb Hrest Hts Hg Ht]
  isplitr; · iexact Hctx
  isplitl [Hst]; · iexact Hst
  isplitl [Harr]
  · rw [st0_eq]; iexact Harr
  iintro ⟨Hst, Hdn⟩
  ihave H := (dn0_eq (A m) (B m) (o m) d) $$ Hdn
  icases H with ⟨Ha, Hbb, ⟨%f, %hf, Ho⟩⟩
  ihave Hh := (Entails.of_eq (held_V2 m d f).symm) $$ [Ha Hbb Ho Hrest]
  · isplitr [Hrest]
    · isplitl [Ha]; · iexact Ha
      isplitl [Hbb] <;> iassumption
    · iexact Hrest
  -- the operations between the calls
  iapply (run_between m d f) $$ [Hb Hh]
  · isplitl [Hb] <;> iassumption
  iintro ⟨Hb, Hh⟩
  -- the dense call
  rw [wpM_bind]
  ihave Hlev := (SparseCore.Cfg.ctx_levAts κ) $$ Hctx
  ihave H := (tcSt_end (F := F) d) $$ Hst
  icases H with ⟨HO, Hback⟩
  iapply (run_dense m d f) $$ [Hb Hh HO Hlev Hg Ht]
  · isplitl [Hb]; · iexact Hb
    isplitl [Hh]; · iexact Hh
    isplitl [HO]; · iexact HO
    isplitl [Hlev]; · iexact Hlev
    isplitl [Hg] <;> iassumption
  iintro ⟨Hb, Hh, HO⟩
  -- the operations after it
  iapply (run_afterwards m d f) $$ [Hb Hh]
  · isplitl [Hb] <;> iassumption
  iintro ⟨Hb, Hh⟩
  iapply (wpM_ret (F := F) d)
  isplitl [HO Hback]; · iapply Hback; iexact HO
  isplitl [Hh]
  · iexists f; isplitr; · ipureintro; exact hf
    iexact Hh
  isplitl [Hb] <;> iassumption

theorem mem_ucRefs (b : Ref sig .tc) (h : b.isScoped = false) : dv b ∈ Pipeline.ucRefs τ sig :=
  Finset.mem_filter.mpr ⟨Finset.mem_map.mpr ⟨b, Finset.mem_univ _, rfl⟩, fun h' => Bool.false_ne_true (h.symm.trans h')⟩

/-- What the claims read of a final state. -/
def fq (d : Dev nD) (s' : Phys nD τ sig (Elt F)) : Prop :=
  ∃ f, SelOK m d f ∧ ∀ b : Ref sig .tc, b.isScoped = false → s'.mem.mem ((d : Thread nD τ).loc b) = V5 m f d (dv b)

theorem hfin (d : Dev nD) (s' : Phys nD τ sig (Elt F)) : iprop(FIN m d ∗ SI s') ⊢ (⌜fq m d s'⌝ : sProp 𝕄) := by
  unfold FIN StableHlo.held
  iintro ⟨⟨%f, %hf, Hh⟩, HSI⟩
  ihave H := (pointsTo_read_all (Pipeline.ucRefs τ sig) (fun b => ((d, b) : Loc nD τ sig)) (fun b => V5 m f d b) s') $$ [Hh HSI]
  · isplitl [Hh] <;> iassumption
  icases H with ⟨%h, -⟩
  ipureintro
  exact ⟨f, hf, fun b hb => h (dv b) (mem_ucRefs b hb)⟩

def QC : PUnit × MemSt nD τ sig (Elt F) → Prop := fun r =>
  (∀ d : Dev nD, ∃ f, SelOK m d f ∧ ∀ b : Ref sig .tc, b.isScoped = false → r.2.mem ((d : Thread nD τ).loc b) = V5 m f d (dv b)) ∧ r.2.sem = fun _ => 0

/-- Every weakly fair execution ends, at the final valuation of some such result, the semaphores at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (A m) (B m) (o m)) (A := ∅) Tile.facts v₀
    (fun q hq => match q with | 0 => nomatch hq)
    (fun q _ => match q with | 0 => tileObl (A m) (B m) (o m))
    (fun q _ => match q with | 0 => SparseCore.Cfg.VecSplit.of_plain (vecSplit (A m) (B m) (o m)))
    m ρ main G (FIN m) (u₀ (F := F)) (sep_elim_left.trans (hu₀ m)) (hmain m ρ) (fq m) (hfin m) (QC m) (fun _ h hz => ⟨h, hz⟩)

/-- An argument's contents are never written. -/
theorem arg_kept (f : FVec F S64x6x5x16 .f32) (d : Dev nD) (b : Ref sig .tc)
    (h1 : b ∉ beforeW) (h2 : b ≠ main_v11) (h3 : b ∉ betweenW) (h4 : b ≠ main_v21_0) (h5 : b ≠ main_v21_1) (h6 : b ≠ main_v21_2)
    (h7 : b ∉ afterwardsW) : V5 m f d (dv b) = m ((d : Thread nD τ).loc b) := by
  unfold V5
  rw [StableHlo.after_unwritten afterwardsW afterwards_writes h7, V4_ne m f d b h4 h5 h6]
  unfold V3
  rw [StableHlo.after_unwritten betweenW between_writes h3]
  unfold V2
  rw [Function.update_of_ne (dv_ne h2)]
  unfold V1
  rw [StableHlo.after_unwritten beforeW before_writes h1]
  rfl

end Cert.KernelIdeal.Run
end
-- ==== Proof.Frames.lean ====
/- The frames: the program idealized, and the program as printed, which is the idealized one with each named constant
   read as the bits it names. -/
module

public import proofs.«01_k».proof.Defs
public import proofs.«01_k».proof.Proof.Launch
public import proofs.«01_k».proof.Proof.Gen.Kernel

@[expose] public section

noncomputable section

namespace Cert.KernelIdeal.Run

open Idealize.ShloMosaic Idealize.ShloMosaic.TcCoe Idealize.SL.Sem Idealize.ShloMosaic.Tactic

/-- The frame of the idealized program over any floats. -/
def FrameOver (F : FTy → Type) [FloatOps F] [Named F] : Prop :=
  ∀ (m : (ℓ : Loc nD τ sig) → Buf (Elt F) ℓ) (g : Dev nD → PrngReg), True →
    θ_run (Cert.KernelIdeal.defs (F := F)) (Cert.KernelIdeal.threads (F := F)) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)

theorem frame_over (F : FTy → Type) [FloatOps F] [Named F] [∀ e, Nonempty (Elt F e)] : FrameOver F := fun m g _ =>
  (θ_run _ _ _).mono (fun r h => ⟨fun c => by
    obtain ⟨f, -, hb⟩ := h.1 c
    have key (b : Ref sig .tc) (h0 : b.isScoped = false) (h1 : b ∉ beforeW) (h2 : b ≠ main_v11) (h3 : b ∉ betweenW) (h4 : b ≠ main_v21_0)
        (h5 : b ≠ main_v21_1) (h6 : b ≠ main_v21_2) (h7 : b ∉ afterwardsW) : r.2.mem ((c : Thread nD τ).loc b) = m ((c : Thread nD τ).loc b) :=
      (hb b h0).trans (arg_kept m f c b h1 h2 h3 h4 h5 h6 h7)
    exact ⟨key main_arg0 (by decide) (by decide) (by decide) (by decide) (by decide) (by decide) (by decide) (by decide),
      key main_arg1 (by decide) (by decide) (by decide) (by decide) (by decide) (by decide) (by decide) (by decide),
      key main_arg2 (by decide) (by decide) (by decide) (by decide) (by decide) (by decide) (by decide) (by decide),
      key main_arg3 (by decide) (by decide) (by decide) (by decide) (by decide) (by decide) (by decide) (by decide),
      key main_arg4 (by decide) (by decide) (by decide) (by decide) (by decide) (by decide) (by decide) (by decide),
      key main_arg5 (by decide) (by decide) (by decide) (by decide) (by decide) (by decide) (by decide) (by decide),
      key main_arg6 (by decide) (by decide) (by decide) (by decide) (by decide) (by decide) (by decide) (by decide)⟩, h.2⟩) (run_main m g)

theorem frame_pi : Cert.quiescent_KernelIdeal (hKernelIdeal := Cert.KernelIdeal.Gen.facts) := fun m g h => frame_over Ideal m g trivial

/-- A named constant read as the bits it names. -/
local instance namedBits : Named Bits where
  named _ _ {φ} bits := Scalar.ofBits φ bits

theorem bits_eq : Cert.quiescent_Kernel (hKernel := Cert.Kernel.Gen.facts) = FrameOver Bits := by
  chain_rfl

theorem frame_p : Cert.quiescent_Kernel (hKernel := Cert.Kernel.Gen.facts) := bits_eq ▸ frame_over Bits

end Cert.KernelIdeal.Run
end
-- ==== Proof.RefSort.lean ====
/- The reference's sorts along a row: their comparators compare the first key alone. -/
module

public import proofs.«01_k».proof.Proof.Gen.ReferenceIdeal
public import Idealize.ShloMosaic.Lib.Pointwise

@[expose] public section

noncomputable section

namespace Cert.ReferenceIdeal.At

open Cert.ReferenceIdeal Cert.ReferenceIdeal.Gen Idealize.ShloMosaic

theorem along_ix2 {m n : Nat} (a : Fin m) (r k : Fin n) (h : 1 < (⟨2, ![m, n]⟩ : Shape).rank) :
    Shape.Idx.along (s := ⟨2, ![m, n]⟩) (ix2 a r) ⟨1, h⟩ k = ix2 a k := by
  funext i
  match i with
  | ⟨0, _⟩ => exact Function.update_of_ne (fun e => absurd (congrArg Fin.val e) (by simp)) _ _
  | ⟨1, _⟩ => exact Function.update_self _ _ _

/-- The order of a row by its keys, going up. -/
abbrev rowOrder {m n : Nat} {α : Type} [LinearOrder α] (x : (⟨2, ![m, n]⟩ : Shape).Idx → α) (a : Fin m) : Fin n → Fin n :=
  sortedFrom fun k k' => decide (x (ix2 a k) < x (ix2 a k'))

theorem ofBool_beq (p : Bool) : (BitVec.ofBool p == 1#1) = p := by cases p <;> rfl

section
variable {m n : Nat} {α β γ δ κ : Type} [LinearOrder κ] (f : α → κ) (x : (⟨2, ![m, n]⟩ : Shape).Idx → α) (y : (⟨2, ![m, n]⟩ : Shape).Idx → β)
  (z : (⟨2, ![m, n]⟩ : Shape).Idx → γ) (w : (⟨2, ![m, n]⟩ : Shape).Idx → δ) (a : Fin m) (r : Fin n)

theorem order_at (b : Fin n → Fin n → BitVec 1)
    (hb : ∀ k k', b k k' = BitVec.ofBool (decide (f (x (Shape.Idx.along (s := ⟨2, ![m, n]⟩) (ix2 a r) ⟨1, Nat.one_lt_two⟩ k))
      < f (x (Shape.Idx.along (s := ⟨2, ![m, n]⟩) (ix2 a r) ⟨1, Nat.one_lt_two⟩ k'))))) :
    Shape.Idx.along (s := ⟨2, ![m, n]⟩) (ix2 a r) ⟨1, Nat.one_lt_two⟩ (sortedFrom (fun k k' => b k k' == 1#1) r)
      = ix2 a (rowOrder (fun i => f (x i)) a r) := by
  refine (along_ix2 a r _ _).trans (congrArg (ix2 a) ?_)
  refine congrFun (congrArg sortedFrom (funext fun k => funext fun k' => ?_)) r
  rw [hb, ofBool_beq]
  exact congrArg₂ (fun u v => decide (f (x u) < f (x v))) (along_ix2 a r k _) (along_ix2 a r k' _)

theorem sort2_at (cmp : α × β → α × β → BitVec 1) (hc : ∀ l r, cmp l r = BitVec.ofBool (decide (f l.1 < f r.1))) :
    (Host.sort2 ⟨2, ![m, n]⟩ 1 cmp x y).2 (ix2 a r) = y (ix2 a (rowOrder (fun i => f (x i)) a r)) := by
  unfold Host.sort2
  rw [dif_pos (show 1 < (⟨2, ![m, n]⟩ : Shape).rank from Nat.one_lt_two)]
  exact congrArg y (order_at f x a r _ fun k k' => hc _ _)

theorem sort3_at (cmp : α × β × γ → α × β × γ → BitVec 1) (hc : ∀ l r, cmp l r = BitVec.ofBool (decide (f l.1 < f r.1))) :
    (Host.sort3 ⟨2, ![m, n]⟩ 1 cmp x y z).2.1 (ix2 a r) = y (ix2 a (rowOrder (fun i => f (x i)) a r))
      ∧ (Host.sort3 ⟨2, ![m, n]⟩ 1 cmp x y z).2.2 (ix2 a r) = z (ix2 a (rowOrder (fun i => f (x i)) a r)) := by
  unfold Host.sort3
  rw [dif_pos (show 1 < (⟨2, ![m, n]⟩ : Shape).rank from Nat.one_lt_two)]
  exact ⟨congrArg y (order_at f x a r _ fun k k' => hc _ _), congrArg z (order_at f x a r _ fun k k' => hc _ _)⟩

theorem sort4_at (cmp : α × β × γ × δ → α × β × γ × δ → BitVec 1) (hc : ∀ l r, cmp l r = BitVec.ofBool (decide (f l.1 < f r.1))) :
    (Host.sort4 ⟨2, ![m, n]⟩ 1 cmp x y z w).2.1 (ix2 a r) = y (ix2 a (rowOrder (fun i => f (x i)) a r))
      ∧ (Host.sort4 ⟨2, ![m, n]⟩ 1 cmp x y z w).2.2.1 (ix2 a r) = z (ix2 a (rowOrder (fun i => f (x i)) a r))
      ∧ (Host.sort4 ⟨2, ![m, n]⟩ 1 cmp x y z w).2.2.2 (ix2 a r) = w (ix2 a (rowOrder (fun i => f (x i)) a r)) := by
  unfold Host.sort4
  rw [dif_pos (show 1 < (⟨2, ![m, n]⟩ : Shape).rank from Nat.one_lt_two)]
  exact ⟨congrArg y (order_at f x a r _ fun k k' => hc _ _), congrArg z (order_at f x a r _ fun k k' => hc _ _),
    congrArg w (order_at f x a r _ fun k k' => hc _ _)⟩
end

/-- A float comparator's key: zero as zero, and what is unequal to itself — nothing here — last. -/
theorem key_self (v : EReal) :
    Scalar.select (FloatOps.cmpf (F := Ideal) (φ := .f32) .une v v) (FloatOps.ofBits (F := Ideal) .f32 0x7FC00000#32)
      (Scalar.select (FloatOps.cmpf (F := Ideal) (φ := .f32) .oeq v (FloatOps.ofBits (F := Ideal) .f32 0x00000000#32))
        (FloatOps.ofBits (F := Ideal) .f32 0x00000000#32) v) = v := by
  have h1 : FloatOps.cmpf (F := Ideal) (φ := .f32) .une v v = 0#1 := by
    show BitVec.ofBool (decide (v ≠ v)) = 0#1
    simp
  rw [h1]
  show Scalar.select (BitVec.ofBool (decide (v = Ideal.ofBits .f32 0x00000000#32))) (Ideal.ofBits .f32 0x00000000#32) v = v
  by_cases h : v = Ideal.ofBits .f32 0x00000000#32
  · rw [decide_eq_true h]; exact h.symm
  · rw [decide_eq_false h]; rfl

theorem less4 (l r : Ideal .f32 × BitVec 32 × Ideal .f32 × Ideal .f32) :
    comparator_f32_i32_f32_f32_d1 (F := Ideal) l r = BitVec.ofBool (decide ((l.1 : EReal) < r.1)) := by
  show FloatOps.cmpfTotal .lt (Scalar.select _ _ (Scalar.select _ _ l.1)) (Scalar.select _ _ (Scalar.select _ _ r.1)) = _
  rw [key_self, key_self]; rfl
theorem less4f (l r : Ideal .f32 × Ideal .f32 × Ideal .f32 × Ideal .f32) :
    comparator_f32_f32_f32_f32_d1 (F := Ideal) l r = BitVec.ofBool (decide ((l.1 : EReal) < r.1)) := by
  show FloatOps.cmpfTotal .lt (Scalar.select _ _ (Scalar.select _ _ l.1)) (Scalar.select _ _ (Scalar.select _ _ r.1)) = _
  rw [key_self, key_self]; rfl
theorem less3f (l r : Ideal .f32 × Ideal .f32 × Ideal .f32) :
    comparator_f32_f32_f32_d1 (F := Ideal) l r = BitVec.ofBool (decide ((l.1 : EReal) < r.1)) := by
  show FloatOps.cmpfTotal .lt (Scalar.select _ _ (Scalar.select _ _ l.1)) (Scalar.select _ _ (Scalar.select _ _ r.1)) = _
  rw [key_self, key_self]; rfl
theorem less2 (l r : Ideal .f32 × BitVec 32) :
    comparator_f32_i32_d1 (F := Ideal) l r = BitVec.ofBool (decide ((l.1 : EReal) < r.1)) := by
  show FloatOps.cmpfTotal .lt (Scalar.select _ _ (Scalar.select _ _ l.1)) (Scalar.select _ _ (Scalar.select _ _ r.1)) = _
  rw [key_self, key_self]; rfl
theorem less2i (l r : BitVec 32 × BitVec 32) :
    comparator_i32_i32_d1 l r = BitVec.ofBool (decide (l.1.toInt < r.1.toInt)) := by
  show BitVec.ofBool (BitVec.slt l.1 r.1) = _
  rfl

end Cert.ReferenceIdeal.At
-- ==== Proof.RefGather.lean ====
/- The reference's gathers: rows read by an index, or by a pair of indices, each in range. -/
module

public import proofs.«01_k».proof.Proof.Gen.ReferenceIdeal
public import Idealize.ShloMosaic.Lib.Pointwise

@[expose] public section

noncomputable section

namespace Cert.ReferenceIdeal.At

open Cert.ReferenceIdeal Cert.ReferenceIdeal.Gen Idealize.ShloMosaic

variable {α : Type}

theorem take_truth (x : S1000x30x2.Idx → α) (idx : IVec S1000x1 32) (a : Fin 1000) (t : Fin 30) (c : Fin 2)
    (h : (idx (ix2 a (0 : Fin 1))).toInt.toNat = a.val) :
    Host.gather gather_S1000x30x2_S1000x1_S1000x30x2_12_0_n_n_0_1_1302 x idx (ix3 a t c) = x (ix3 a t c) := by
  unfold Host.gather
  congr 1
  funext b
  refine Fin.ext ?_
  show (gather_S1000x30x2_S1000x1_S1000x30x2_12_0_n_n_0_1_1302).start (ix3 a t c) idx b + (gather_S1000x30x2_S1000x1_S1000x30x2_12_0_n_n_0_1_1302).batchCoord (ix3 a t c) b + (gather_S1000x30x2_S1000x1_S1000x30x2_12_0_n_n_0_1_1302).offCoord (ix3 a t c) b = _
  match b with
  | ⟨0, _⟩ =>
    have e : (gather_S1000x30x2_S1000x1_S1000x30x2_12_0_n_n_0_1_1302).siIdx (ix3 a t c) ⟨0, by decide⟩ = ix2 a (0 : Fin 1) := by
      funext b; refine Fin.ext ?_
      match b with
      | ⟨0, _⟩ => rfl
      | ⟨1, _⟩ => rfl
    have e' : (gather_S1000x30x2_S1000x1_S1000x30x2_12_0_n_n_0_1_1302).start (ix3 a t c) idx 0 = min (idx ((gather_S1000x30x2_S1000x1_S1000x30x2_12_0_n_n_0_1_1302).siIdx (ix3 a t c) ⟨0, by decide⟩)).toInt.toNat 999 := rfl
    rw [e, h] at e'
    show (gather_S1000x30x2_S1000x1_S1000x30x2_12_0_n_n_0_1_1302).start (ix3 a t c) idx 0 + 0 + 0 = a.val
    rw [e']; omega
  | ⟨1, _⟩ => exact (Nat.zero_add _).trans rfl
  | ⟨2, _⟩ => exact (Nat.zero_add _).trans rfl

theorem take_has (x : S1000x30.Idx → α) (idx : IVec S1000x1 32) (a : Fin 1000) (t : Fin 30)
    (h : (idx (ix2 a (0 : Fin 1))).toInt.toNat = a.val) :
    Host.gather gather_S1000x30_S1000x1_S1000x30_1_0_n_n_0_1_130 x idx (ix2 a t) = x (ix2 a t) := by
  unfold Host.gather
  congr 1
  funext b
  refine Fin.ext ?_
  show (gather_S1000x30_S1000x1_S1000x30_1_0_n_n_0_1_130).start (ix2 a t) idx b + (gather_S1000x30_S1000x1_S1000x30_1_0_n_n_0_1_130).batchCoord (ix2 a t) b + (gather_S1000x30_S1000x1_S1000x30_1_0_n_n_0_1_130).offCoord (ix2 a t) b = _
  match b with
  | ⟨0, _⟩ =>
    have e : (gather_S1000x30_S1000x1_S1000x30_1_0_n_n_0_1_130).siIdx (ix2 a t) ⟨0, by decide⟩ = ix2 a (0 : Fin 1) := by
      funext b; refine Fin.ext ?_
      match b with
      | ⟨0, _⟩ => rfl
      | ⟨1, _⟩ => rfl
    have e' : (gather_S1000x30_S1000x1_S1000x30_1_0_n_n_0_1_130).start (ix2 a t) idx 0 = min (idx ((gather_S1000x30_S1000x1_S1000x30_1_0_n_n_0_1_130).siIdx (ix2 a t) ⟨0, by decide⟩)).toInt.toNat 999 := rfl
    rw [e, h] at e'
    show (gather_S1000x30_S1000x1_S1000x30_1_0_n_n_0_1_130).start (ix2 a t) idx 0 + 0 + 0 = a.val
    rw [e']; omega
  | ⟨1, _⟩ => exact (Nat.zero_add _).trans rfl

theorem take_centre (x : S1000x2.Idx → α) (idx : IVec S1000x1 32) (a : Fin 1000) (c : Fin 2)
    (h : (idx (ix2 a (0 : Fin 1))).toInt.toNat = a.val) :
    Host.gather gather_S1000x2_S1000x1_S1000x2_1_0_n_n_0_1_12 x idx (ix2 a c) = x (ix2 a c) := by
  unfold Host.gather
  congr 1
  funext b
  refine Fin.ext ?_
  show (gather_S1000x2_S1000x1_S1000x2_1_0_n_n_0_1_12).start (ix2 a c) idx b + (gather_S1000x2_S1000x1_S1000x2_1_0_n_n_0_1_12).batchCoord (ix2 a c) b + (gather_S1000x2_S1000x1_S1000x2_1_0_n_n_0_1_12).offCoord (ix2 a c) b = _
  match b with
  | ⟨0, _⟩ =>
    have e : (gather_S1000x2_S1000x1_S1000x2_1_0_n_n_0_1_12).siIdx (ix2 a c) ⟨0, by decide⟩ = ix2 a (0 : Fin 1) := by
      funext b; refine Fin.ext ?_
      match b with
      | ⟨0, _⟩ => rfl
      | ⟨1, _⟩ => rfl
    have e' : (gather_S1000x2_S1000x1_S1000x2_1_0_n_n_0_1_12).start (ix2 a c) idx 0 = min (idx ((gather_S1000x2_S1000x1_S1000x2_1_0_n_n_0_1_12).siIdx (ix2 a c) ⟨0, by decide⟩)).toInt.toNat 999 := rfl
    rw [e, h] at e'
    show (gather_S1000x2_S1000x1_S1000x2_1_0_n_n_0_1_12).start (ix2 a c) idx 0 + 0 + 0 = a.val
    rw [e']; omega
  | ⟨1, _⟩ => exact (Nat.zero_add _).trans rfl

theorem take_feat (x : S1000x20x3.Idx → α) (idx : IVec S1000x1 32) (a : Fin 1000) (t : Fin 20) (c : Fin 3)
    (h : (idx (ix2 a (0 : Fin 1))).toInt.toNat = a.val) :
    Host.gather gather_S1000x20x3_S1000x1_S1000x20x3_12_0_n_n_0_1_1203 x idx (ix3 a t c) = x (ix3 a t c) := by
  unfold Host.gather
  congr 1
  funext b
  refine Fin.ext ?_
  show (gather_S1000x20x3_S1000x1_S1000x20x3_12_0_n_n_0_1_1203).start (ix3 a t c) idx b + (gather_S1000x20x3_S1000x1_S1000x20x3_12_0_n_n_0_1_1203).batchCoord (ix3 a t c) b + (gather_S1000x20x3_S1000x1_S1000x20x3_12_0_n_n_0_1_1203).offCoord (ix3 a t c) b = _
  match b with
  | ⟨0, _⟩ =>
    have e : (gather_S1000x20x3_S1000x1_S1000x20x3_12_0_n_n_0_1_1203).siIdx (ix3 a t c) ⟨0, by decide⟩ = ix2 a (0 : Fin 1) := by
      funext b; refine Fin.ext ?_
      match b with
      | ⟨0, _⟩ => rfl
      | ⟨1, _⟩ => rfl
    have e' : (gather_S1000x20x3_S1000x1_S1000x20x3_12_0_n_n_0_1_1203).start (ix3 a t c) idx 0 = min (idx ((gather_S1000x20x3_S1000x1_S1000x20x3_12_0_n_n_0_1_1203).siIdx (ix3 a t c) ⟨0, by decide⟩)).toInt.toNat 999 := rfl
    rw [e, h] at e'
    show (gather_S1000x20x3_S1000x1_S1000x20x3_12_0_n_n_0_1_1203).start (ix3 a t c) idx 0 + 0 + 0 = a.val
    rw [e']; omega
  | ⟨1, _⟩ => exact (Nat.zero_add _).trans rfl
  | ⟨2, _⟩ => exact (Nat.zero_add _).trans rfl

theorem take_last (x : S1000x6x30x2.Idx → α) (idx : IVec S1000x2 32) (a : Fin 1000) (i : Fin 6) (c : Fin 2) (k : Fin 30)
    (h : (idx (ix2 a (0 : Fin 2))).toInt.toNat = a.val) (h' : (idx (ix2 a (1 : Fin 2))).toInt.toNat = k.val) :
    Host.gather gather_S1000x6x30x2_S1000x2_S1000x6x2_12_02_n_n_02_1_1612 x idx (ix3 a i c) = x (ix4 a i k c) := by
  unfold Host.gather
  congr 1
  funext b
  refine Fin.ext ?_
  show (gather_S1000x6x30x2_S1000x2_S1000x6x2_12_02_n_n_02_1_1612).start (ix3 a i c) idx b + (gather_S1000x6x30x2_S1000x2_S1000x6x2_12_02_n_n_02_1_1612).batchCoord (ix3 a i c) b + (gather_S1000x6x30x2_S1000x2_S1000x6x2_12_02_n_n_02_1_1612).offCoord (ix3 a i c) b = _
  have hk := k.isLt
  match b with
  | ⟨0, _⟩ =>
    have e : (gather_S1000x6x30x2_S1000x2_S1000x6x2_12_02_n_n_02_1_1612).siIdx (ix3 a i c) ⟨0, by decide⟩ = ix2 a (0 : Fin 2) := by
      funext b; refine Fin.ext ?_
      match b with
      | ⟨0, _⟩ => rfl
      | ⟨1, _⟩ => rfl
    have e' : (gather_S1000x6x30x2_S1000x2_S1000x6x2_12_02_n_n_02_1_1612).start (ix3 a i c) idx 0 = min (idx ((gather_S1000x6x30x2_S1000x2_S1000x6x2_12_02_n_n_02_1_1612).siIdx (ix3 a i c) ⟨0, by decide⟩)).toInt.toNat 999 := rfl
    rw [e, h] at e'
    show (gather_S1000x6x30x2_S1000x2_S1000x6x2_12_02_n_n_02_1_1612).start (ix3 a i c) idx 0 + 0 + 0 = a.val
    rw [e']; omega
  | ⟨2, _⟩ =>
    have e : (gather_S1000x6x30x2_S1000x2_S1000x6x2_12_02_n_n_02_1_1612).siIdx (ix3 a i c) ⟨1, by decide⟩ = ix2 a (1 : Fin 2) := by
      funext b; refine Fin.ext ?_
      match b with
      | ⟨0, _⟩ => rfl
      | ⟨1, _⟩ => rfl
    have e' : (gather_S1000x6x30x2_S1000x2_S1000x6x2_12_02_n_n_02_1_1612).start (ix3 a i c) idx 2 = min (idx ((gather_S1000x6x30x2_S1000x2_S1000x6x2_12_02_n_n_02_1_1612).siIdx (ix3 a i c) ⟨1, by decide⟩)).toInt.toNat 29 := rfl
    rw [e, h'] at e'
    show (gather_S1000x6x30x2_S1000x2_S1000x6x2_12_02_n_n_02_1_1612).start (ix3 a i c) idx 2 + 0 + 0 = k.val
    rw [e']; omega
  | ⟨1, _⟩ => exact (Nat.zero_add _).trans rfl
  | ⟨3, _⟩ => exact (Nat.zero_add _).trans rfl

theorem take_end (x : S1000x30x2.Idx → α) (idx : IVec S1000x2 32) (a : Fin 1000) (c : Fin 2) (k : Fin 30)
    (h : (idx (ix2 a (0 : Fin 2))).toInt.toNat = a.val) (h' : (idx (ix2 a (1 : Fin 2))).toInt.toNat = k.val) :
    Host.gather gather_S1000x30x2_S1000x2_S1000x2_1_01_n_n_01_1_112 x idx (ix2 a c) = x (ix3 a k c) := by
  unfold Host.gather
  congr 1
  funext b
  refine Fin.ext ?_
  show (gather_S1000x30x2_S1000x2_S1000x2_1_01_n_n_01_1_112).start (ix2 a c) idx b + (gather_S1000x30x2_S1000x2_S1000x2_1_01_n_n_01_1_112).batchCoord (ix2 a c) b + (gather_S1000x30x2_S1000x2_S1000x2_1_01_n_n_01_1_112).offCoord (ix2 a c) b = _
  have hk := k.isLt
  match b with
  | ⟨0, _⟩ =>
    have e : (gather_S1000x30x2_S1000x2_S1000x2_1_01_n_n_01_1_112).siIdx (ix2 a c) ⟨0, by decide⟩ = ix2 a (0 : Fin 2) := by
      funext b; refine Fin.ext ?_
      match b with
      | ⟨0, _⟩ => rfl
      | ⟨1, _⟩ => rfl
    have e' : (gather_S1000x30x2_S1000x2_S1000x2_1_01_n_n_01_1_112).start (ix2 a c) idx 0 = min (idx ((gather_S1000x30x2_S1000x2_S1000x2_1_01_n_n_01_1_112).siIdx (ix2 a c) ⟨0, by decide⟩)).toInt.toNat 999 := rfl
    rw [e, h] at e'
    show (gather_S1000x30x2_S1000x2_S1000x2_1_01_n_n_01_1_112).start (ix2 a c) idx 0 + 0 + 0 = a.val
    rw [e']; omega
  | ⟨1, _⟩ =>
    have e : (gather_S1000x30x2_S1000x2_S1000x2_1_01_n_n_01_1_112).siIdx (ix2 a c) ⟨1, by decide⟩ = ix2 a (1 : Fin 2) := by
      funext b; refine Fin.ext ?_
      match b with
      | ⟨0, _⟩ => rfl
      | ⟨1, _⟩ => rfl
    have e' : (gather_S1000x30x2_S1000x2_S1000x2_1_01_n_n_01_1_112).start (ix2 a c) idx 1 = min (idx ((gather_S1000x30x2_S1000x2_S1000x2_1_01_n_n_01_1_112).siIdx (ix2 a c) ⟨1, by decide⟩)).toInt.toNat 29 := rfl
    rw [e, h'] at e'
    show (gather_S1000x30x2_S1000x2_S1000x2_1_01_n_n_01_1_112).start (ix2 a c) idx 1 + 0 + 0 = k.val
    rw [e']; omega
  | ⟨2, _⟩ => exact (Nat.zero_add _).trans rfl

theorem take_best (x : S1000x6x30x2.Idx → α) (idx : IVec S1000x2 32) (a : Fin 1000) (t : Fin 30) (c : Fin 2) (k : Fin 6)
    (h : (idx (ix2 a (0 : Fin 2))).toInt.toNat = a.val) (h' : (idx (ix2 a (1 : Fin 2))).toInt.toNat = k.val) :
    Host.gather gather_S1000x6x30x2_S1000x2_S1000x30x2_12_01_n_n_01_1_11302 x idx (ix3 a t c) = x (ix4 a k t c) := by
  unfold Host.gather
  congr 1
  funext b
  refine Fin.ext ?_
  show (gather_S1000x6x30x2_S1000x2_S1000x30x2_12_01_n_n_01_1_11302).start (ix3 a t c) idx b + (gather_S1000x6x30x2_S1000x2_S1000x30x2_12_01_n_n_01_1_11302).batchCoord (ix3 a t c) b + (gather_S1000x6x30x2_S1000x2_S1000x30x2_12_01_n_n_01_1_11302).offCoord (ix3 a t c) b = _
  have hk := k.isLt
  match b with
  | ⟨0, _⟩ =>
    have e : (gather_S1000x6x30x2_S1000x2_S1000x30x2_12_01_n_n_01_1_11302).siIdx (ix3 a t c) ⟨0, by decide⟩ = ix2 a (0 : Fin 2) := by
      funext b; refine Fin.ext ?_
      match b with
      | ⟨0, _⟩ => rfl
      | ⟨1, _⟩ => rfl
    have e' : (gather_S1000x6x30x2_S1000x2_S1000x30x2_12_01_n_n_01_1_11302).start (ix3 a t c) idx 0 = min (idx ((gather_S1000x6x30x2_S1000x2_S1000x30x2_12_01_n_n_01_1_11302).siIdx (ix3 a t c) ⟨0, by decide⟩)).toInt.toNat 999 := rfl
    rw [e, h] at e'
    show (gather_S1000x6x30x2_S1000x2_S1000x30x2_12_01_n_n_01_1_11302).start (ix3 a t c) idx 0 + 0 + 0 = a.val
    rw [e']; omega
  | ⟨1, _⟩ =>
    have e : (gather_S1000x6x30x2_S1000x2_S1000x30x2_12_01_n_n_01_1_11302).siIdx (ix3 a t c) ⟨1, by decide⟩ = ix2 a (1 : Fin 2) := by
      funext b; refine Fin.ext ?_
      match b with
      | ⟨0, _⟩ => rfl
      | ⟨1, _⟩ => rfl
    have e' : (gather_S1000x6x30x2_S1000x2_S1000x30x2_12_01_n_n_01_1_11302).start (ix3 a t c) idx 1 = min (idx ((gather_S1000x6x30x2_S1000x2_S1000x30x2_12_01_n_n_01_1_11302).siIdx (ix3 a t c) ⟨1, by decide⟩)).toInt.toNat 5 := rfl
    rw [e, h'] at e'
    show (gather_S1000x6x30x2_S1000x2_S1000x30x2_12_01_n_n_01_1_11302).start (ix3 a t c) idx 1 + 0 + 0 = k.val
    rw [e']; omega
  | ⟨2, _⟩ => exact (Nat.zero_add _).trans rfl
  | ⟨3, _⟩ => exact (Nat.zero_add _).trans rfl

end Cert.ReferenceIdeal.At
-- ==== Proof.Order.lean ====
/- The order a stable sort leaves, by an increasing key: rising in the key, and of two equal keys the earlier position first. -/
module

public import Idealize.ShloMosaic.Lib.SortPrefix

@[expose] public section

namespace Cert.Order

open Idealize.ShloMosaic

variable {n : Nat} {α : Type} [LinearOrder α]

/-- The positions `σ 0, σ 1, …` rise in the key, equal keys in the order of their positions; every position is among them. -/
structure Stable (key : Fin n → α) (σ : Fin n → Fin n) : Prop where
  inj : Function.Injective σ
  ord : ∀ i j, i < j → key (σ i) < key (σ j) ∨ key (σ i) = key (σ j) ∧ σ i < σ j

theorem Stable.surj {key : Fin n → α} {σ : Fin n → Fin n} (h : Stable key σ) : Function.Surjective σ :=
  Finite.surjective_of_injective h.inj

theorem Stable.le {key : Fin n → α} {σ : Fin n → Fin n} (h : Stable key σ) {i j : Fin n} (hij : i ≤ j) :
    key (σ i) ≤ key (σ j) := by
  rcases hij.eq_or_lt with rfl | hij
  · exact le_rfl
  · rcases h.ord i j hij with h | ⟨h, -⟩
    · exact h.le
    · exact h.le

/-- Sorting by the key alone puts, of two equal keys, the earlier position first. -/
theorem stableSort_key (key : Fin n → α) (l : List (Fin n)) (hl : l.Pairwise (· < ·)) :
    stableSort (fun k k' => decide (key k < key k')) l
      = stableSort (fun k k' => decide (key k < key k') || (decide (key k = key k') && decide (k < k'))) l := by
  induction l with
  | nil => rfl
  | cons a l ih =>
    rw [List.pairwise_cons] at hl
    show insertBefore _ a (stableSort _ l) = insertBefore _ a (stableSort _ l)
    rw [ih hl.2]
    refine insertBefore_congr _ _ _ _ fun b hb => ?_
    have hb' : b ∈ l := (perm_stableSort _ l).mem_iff.mp hb
    have := hl.1 b hb'
    simp [not_lt.mpr this.le]

theorem pairwise_finRange : (List.finRange n).Pairwise (· < ·) := by
  rw [List.pairwise_iff_getElem]
  intro i j hi hj hij
  simpa using hij

theorem sortedFrom_key (key : Fin n → α) :
    sortedFrom (fun k k' => decide (key k < key k'))
      = sortedFrom (fun k k' => decide (key k < key k') || (decide (key k = key k') && decide (k < k'))) := by
  funext k
  unfold sortedFrom
  rw [List.get_of_eq (show sortPositions n _ = sortPositions n _ from stableSort_key key _ pairwise_finRange)]
  rfl

theorem strict (key : Fin n → α) : StrictTotalBefore
    (fun k k' => decide (key k < key k') || (decide (key k = key k') && decide (k < k'))) :=
  StrictTotalBefore.of_key_then_position (fun a b => decide (a < b)) key (by simp)
    (by simp only [decide_eq_true_eq]; exact fun a b c => lt_trans)
    (by simp only [decide_eq_true_eq]; exact fun a b => lt_trichotomy a b)

theorem stable_sortedFrom (key : Fin n → α) : Stable key (sortedFrom fun k k' => decide (key k < key k')) where
  inj := sortedFrom_injective _
  ord i j hij := by
    rw [sortedFrom_key]
    have h := sortedFrom_noInversion _ _ (fun a b h => (strict key).asymm a b h) (fun _ _ h => h) (strict key).negTrans i j hij
    have hne : sortedFrom (fun k k' => decide (key k < key k') || (decide (key k = key k') && decide (k < k'))) i
        ≠ sortedFrom (fun k k' => decide (key k < key k') || (decide (key k = key k') && decide (k < k'))) j :=
      fun e => hij.ne (sortedFrom_injective _ e)
    rcases (strict key).total _ _ hne with h' | h'
    · simpa only [Bool.or_eq_true, Bool.and_eq_true, decide_eq_true_eq] using h'
    · rw [h] at h'; exact absurd h' (by decide)

/-- Two stable orders by one key are equal. -/
theorem Stable.unique {key : Fin n → α} {σ τ : Fin n → Fin n} (h : Stable key σ) (h' : Stable key τ) : σ = τ := by
  have aux : ∀ {σ : Fin n → Fin n}, Stable key σ → ∀ i, sortedFrom (fun k k' => decide (key k < key k')
      || (decide (key k = key k') && decide (k < k'))) i = σ i := fun {σ} h i => by
    have := (strict key).sortedFrom_eq_of_prefix le_rfl σ h.inj (fun i j hij => by
      have := h.ord i j hij
      refine (strict key).asymm _ _ ?_
      simpa only [Bool.or_eq_true, Bool.and_eq_true, decide_eq_true_eq] using this)
      (fun i p hp => by obtain ⟨j, hj⟩ := h.surj p; exact absurd hj (hp j)) i
    simpa using this
  funext i
  rw [← aux h, ← aux h']

/-- Sorting an order's positions back gives the position of each. -/
theorem sortedFrom_inverse (σ : Fin n → Fin n) (hσ : Function.Injective σ) (i : Fin n) :
    σ (sortedFrom (fun k k' => decide (σ k < σ k')) i) = i := by
  have h := stable_sortedFrom σ
  set π := sortedFrom fun k k' => decide (σ k < σ k')
  have hm : StrictMono fun i => σ (π i) := fun i j hij => by
    rcases h.ord i j hij with h' | ⟨h', -⟩
    · exact h'
    · exact absurd (h.inj (hσ h')) hij.ne
  have := StrictMono.range_inj hm (strictMono_id (α := Fin n))
  have e : (fun i => σ (π i)) = id := this.mp (by
    rw [Set.range_id]; exact Set.range_eq_univ.mpr (Finite.surjective_of_injective hm.injective))
  exact congrFun e i

/-- The least key comes first. -/
theorem Stable.first {key : Fin (n + 1) → α} {σ : Fin (n + 1) → Fin (n + 1)} (h : Stable key σ) :
    (∀ j, key (σ 0) ≤ key j) ∧ ∀ j < σ 0, key (σ 0) < key j := by
  refine ⟨fun j => ?_, fun j hj => ?_⟩
  · obtain ⟨i, rfl⟩ := h.surj j
    exact h.le (Fin.zero_le i)
  · obtain ⟨i, rfl⟩ := h.surj j
    have : 0 < i := by
      rcases (Fin.zero_le i).eq_or_lt with e | e
      · rw [← e] at hj; exact absurd hj (lt_irrefl _)
      · exact e
    rcases h.ord 0 i this with h | ⟨-, h⟩
    · exact h
    · exact absurd hj (not_lt.mpr h.le)

end Cert.Order

end
-- ==== Proof.Consts.lean ====
/- The float constants the two programs spell, as the extended reals their patterns denote. -/
module

public import Idealize.ShloMosaic.PureOps.Ideal
public import Idealize.ShloMosaic.PureOps.Ideal.Laws

@[expose] public section

noncomputable section

namespace Cert.Consts

open Idealize.ShloMosaic

theorem half : Ideal.ofBits .f32 0x3F000000#32 = ((1 / 2 : ℝ) : EReal) := by
  simp [Ideal.ofBits, Ideal.ieee, -EReal.coe_mul]; try norm_num

theorem six : Ideal.ofBits .f32 0x40C00000#32 = ((6 : ℝ) : EReal) := by
  simp [Ideal.ofBits, Ideal.ieee, -EReal.coe_mul]; try norm_num

theorem quarter : Ideal.ofBits .f32 0x3E800000#32 = ((1 / 4 : ℝ) : EReal) := by
  simp [Ideal.ofBits, Ideal.ieee, -EReal.coe_mul]; try norm_num

theorem one : Ideal.ofBits .f32 0x3F800000#32 = 1 := by
  simp [Ideal.ofBits, Ideal.ieee, -EReal.coe_mul]; try norm_num

theorem zero : Ideal.ofBits .f32 0x00000000#32 = 0 := by
  simp [Ideal.ofBits, Ideal.ieee, -EReal.coe_mul]

/-- The least divisor: some real between nought and a quarter. -/
theorem tiny : ∃ r : ℝ, 0 < r ∧ r < 1 / 4 ∧ Ideal.ofBits .f32 0x3089705F#32 = (r : EReal) := by
  refine ⟨_, ?_, ?_, by simp [Ideal.ofBits, Ideal.ieee, -EReal.coe_mul]; rfl⟩ <;> norm_num

theorem top : Ideal.ofBits .f32 0x7F800000#32 = ⊤ := by
  simp [Ideal.ofBits, Ideal.ieee]

theorem bot : Ideal.ofBits .f32 0xFF800000#32 = ⊥ := by
  simp [Ideal.ofBits, Ideal.ieee]

end Cert.Consts

end
-- ==== Proof.Lane.lean ====
/- One lane of a group's work at the extended reals: which candidate each round of the suppression takes, what is left
   suppressed, and which candidates the six picks are. -/
module

public import proofs.«01_k».proof.Proof.Tile
public import proofs.«01_k».proof.Proof.Order
public import proofs.«01_k».proof.Proof.Consts

@[expose] public section

noncomputable section

namespace Cert.KernelIdeal.Lane

open Cert.KernelIdeal Cert.KernelIdeal.Rolled Cert.KernelIdeal.Tile
open Idealize.ShloMosaic
open Cert.Order

/-! ## The lane operations -/

abbrev R := Row Ideal

variable (x : S16.Idx)

theorem c0_at : (c0 : R) x = 0 := Consts.zero
theorem c1_at : (c1 : R) x = 1 := Consts.one
theorem half_at : (half : R) x = ((1 / 2 : ℝ) : EReal) := Consts.half
theorem six_at : (six : R) x = ((6 : ℝ) : EReal) := Consts.six
theorem lowest_at : (lowest : R) x = ⊥ := rfl
theorem highest_at : (highest : R) x = ⊤ := rfl
theorem sixth_at : (sixth : R) x = ((1 / 6 : ℝ) : EReal) := rfl
theorem addf_at (a b : R) : addf a b x = a x + b x := rfl
theorem subf_at (a b : R) : subf a b x = a x - b x := rfl
theorem mulf_at (a b : R) : mulf a b x = a x * b x := rfl
theorem max_at (a b : R) : maximumf a b x = max (a x) (b x) := rfl
theorem min_at (a b : R) : minimumf a b x = min (a x) (b x) := rfl
theorem abs_at (a : R) : absf a x = max (a x) (-(a x)) := rfl

theorem ofBool_one {b : Bool} : (BitVec.ofBool b = 1#1) ↔ b = true := by cases b <;> decide

theorem sel_of {α : Type} {b : Bool} (a c : α) : Scalar.select (BitVec.ofBool b) a c = if b = true then a else c := by
  cases b <;> rfl

/-- Nought or one. -/
def bit (p : Prop) [Decidable p] : EReal := if p then 1 else 0

open Classical in
theorem flag_ogt (a b : R) : (flag (cmpf .ogt a b) : R) x = bit (b x < a x) := by
  show Scalar.select (BitVec.ofBool (decide (b x < a x))) ((c1 : R) x) ((c0 : R) x) = _
  rw [sel_of, c0_at, c1_at]; unfold bit; simp only [decide_eq_true_eq]
open Classical in
theorem flag_olt (a b : R) : (flag (cmpf .olt a b) : R) x = bit (a x < b x) := by
  show Scalar.select (BitVec.ofBool (decide (a x < b x))) ((c1 : R) x) ((c0 : R) x) = _
  rw [sel_of, c0_at, c1_at]; unfold bit; simp only [decide_eq_true_eq]
open Classical in
theorem flag_oeq (a b : R) : (flag (cmpf .oeq a b) : R) x = bit (a x = b x) := by
  show Scalar.select (BitVec.ofBool (decide (a x = b x))) ((c1 : R) x) ((c0 : R) x) = _
  rw [sel_of, c0_at, c1_at]; unfold bit; simp only [decide_eq_true_eq]
open Classical in
theorem keyLo_at (u s : R) : keyLo u s x = if ((1 / 2 : ℝ) : EReal) < u x then s x else ⊥ := by
  show Scalar.select (BitVec.ofBool (decide ((half : R) x < u x))) (s x) ((lowest : R) x) = _
  rw [sel_of, half_at, lowest_at]; simp only [decide_eq_true_eq]
open Classical in
theorem keyHi_at (u s : R) : keyHi u s x = if ((1 / 2 : ℝ) : EReal) < u x then s x else ⊤ := by
  show Scalar.select (BitVec.ofBool (decide ((half : R) x < u x))) (s x) ((highest : R) x) = _
  rw [sel_of, half_at, highest_at]; simp only [decide_eq_true_eq]

/-- How far two squares of side one half overlap along one axis. -/
def lapE (a c : EReal) : EReal := max (((1 / 2 : ℝ) : EReal) - max (a - c) (-(a - c))) 0

theorem lap_at (a c : R) : lap a c x = lapE (a x) (c x) := by
  show max ((half : R) x - max (a x - c x) (-(a x - c x))) ((c0 : R) x) = _
  rw [half_at, c0_at]; rfl

open Classical in
theorem hit_at (k m f : R) : hit k m f x = bit (k x = m x) * (1 - f x) := by
  show (flag (cmpf .oeq k m) : R) x * ((c1 : R) x - f x) = _
  rw [flag_oeq, c1_at]

theorem one_sub_zero : (1 : EReal) - 0 = 1 := by simp
theorem one_sub_one : (1 : EReal) - 1 = 0 := by
  rw [← EReal.coe_one, ← EReal.coe_sub, sub_self, EReal.coe_zero]
theorem half_lt_one : ((1 / 2 : ℝ) : EReal) < 1 := by
  rw [← EReal.coe_one, EReal.coe_lt_coe_iff]; norm_num
theorem not_half_lt_zero : ¬ ((1 / 2 : ℝ) : EReal) < 0 := by
  rw [← EReal.coe_zero, EReal.coe_lt_coe_iff]; norm_num

theorem half_lt_bit (p : Prop) [Decidable p] : ((1 / 2 : ℝ) : EReal) < bit p ↔ p := by
  unfold bit; split
  · exact iff_of_true half_lt_one ‹_›
  · exact iff_of_false not_half_lt_zero ‹_›
theorem bit_true {p : Prop} [Decidable p] (h : p) : bit p = 1 := if_pos h
theorem bit_false {p : Prop} [Decidable p] (h : ¬p) : bit p = 0 := if_neg h
theorem one_sub_bit (p : Prop) [Decidable p] : 1 - bit p = bit (¬p) := by
  by_cases h : p
  · rw [bit_true h, bit_false (not_not.mpr h), one_sub_one]
  · rw [bit_false h, bit_true h, one_sub_zero]
theorem bit_mul (p q : Prop) [Decidable p] [Decidable q] : bit p * bit q = bit (p ∧ q) := by
  by_cases h : p <;> by_cases h' : q <;> simp [bit, h, h']
theorem bit_max (p q : Prop) [Decidable p] [Decidable q] : max (bit p) (bit q) = bit (p ∨ q) := by
  by_cases h : p <;> by_cases h' : q <;> simp [bit, h, h']
theorem bit_congr {p q : Prop} [Decidable p] [Decidable q] (h : p ↔ q) : bit p = bit q := by
  by_cases h' : p
  · rw [bit_true h', bit_true (h.mp h')]
  · rw [bit_false h', bit_false (fun e => h' (h.mpr e))]

/-! ## Passes over the candidates -/

theorem rows_pairwise : rows.Pairwise (· < ·) := by decide
theorem mem_rows (r : Fin 20) : r ∈ rows := by revert r; decide

theorem over_max (l : List (Fin 20)) (m : R) (t : Tab Ideal) (M : EReal)
    (hM : ∀ r ∈ l, keyLo (t.unp r) (t.buf (0, r)) x ≤ M) (hm : m x ≤ M)
    (he : m x = M ∨ ∃ r ∈ l, keyLo (t.unp r) (t.buf (0, r)) x = M) : (over maxG l m t).1 x = M := by
  induction l generalizing m with
  | nil => rcases he with he | ⟨r, hr, -⟩; exacts [he, absurd hr List.not_mem_nil]
  | cons a l ih =>
    refine ih _ (fun r hr => hM r (List.mem_cons_of_mem _ hr)) (max_le hm (hM a List.mem_cons_self)) ?_
    rcases he with he | ⟨r, hr, e⟩
    · exact Or.inl ((max_at x _ _).trans (by rw [he]; exact max_eq_left (hM a List.mem_cons_self)))
    · rcases List.mem_cons.mp hr with rfl | hr
      · exact Or.inl ((max_at x _ _).trans (by rw [e]; exact max_eq_right hm))
      · exact Or.inr ⟨r, hr, e⟩

theorem over_min (l : List (Fin 20)) (m : R) (t : Tab Ideal) (M : EReal)
    (hM : ∀ r ∈ l, M ≤ keyHi (t.sup r) (t.dist r) x) (hm : M ≤ m x)
    (he : m x = M ∨ ∃ r ∈ l, keyHi (t.sup r) (t.dist r) x = M) : (over minG l m t).1 x = M := by
  induction l generalizing m with
  | nil => rcases he with he | ⟨r, hr, -⟩; exacts [he, absurd hr List.not_mem_nil]
  | cons a l ih =>
    refine ih _ (fun r hr => hM r (List.mem_cons_of_mem _ hr)) (le_min hm (hM a List.mem_cons_self)) ?_
    rcases he with he | ⟨r, hr, e⟩
    · exact Or.inl ((min_at x _ _).trans (by rw [he]; exact min_eq_left (hM a List.mem_cons_self)))
    · rcases List.mem_cons.mp hr with rfl | hr
      · exact Or.inl ((min_at x _ _).trans (by rw [e]; exact min_eq_right hm))
      · exact Or.inr ⟨r, hr, e⟩

theorem over_pick_tab (m : R) (l : List (Fin 20)) (p : Pick Ideal) (t : Tab Ideal) :
    ∃ hb, (over (pickG m) l p t).2 = { t with hb := hb } := by
  induction l generalizing p t with
  | nil => exact ⟨t.hb, rfl⟩
  | cons a l ih =>
    obtain ⟨hb, h⟩ := ih (pickG m a p t).1 (pickG m a p t).2
    exact ⟨hb, h⟩

/-- Once found, the pass changes nothing and marks nothing. -/
theorem over_pick_found (m : R) (l : List (Fin 20)) (hl : l.Pairwise (· < ·)) (p : Pick Ideal) (t : Tab Ideal)
    (hf : p.found x = 1) :
    (over (pickG m) l p t).1.found x = 1 ∧ (over (pickG m) l p t).1.kept x = p.kept x
      ∧ (over (pickG m) l p t).1.cx x = p.cx x ∧ (over (pickG m) l p t).1.cy x = p.cy x
      ∧ (∀ r ∈ l, (over (pickG m) l p t).2.hb r x = 0)
      ∧ ∀ r, r ∉ l → (over (pickG m) l p t).2.hb r = t.hb r := by
  induction l generalizing p t with
  | nil => exact ⟨hf, rfl, rfl, rfl, fun r hr => absurd hr List.not_mem_nil, fun r _ => rfl⟩
  | cons a l ih =>
    rw [List.pairwise_cons] at hl
    have h0 : hit (keyLo (t.unp a) (t.buf (0, a))) m p.found x = 0 := by rw [hit_at, hf, one_sub_one, mul_zero]
    obtain ⟨h1, h2, h3, h4, h5, h6⟩ := ih hl.2 (pickG m a p t).1 (pickG m a p t).2
      (by show p.found x + hit (keyLo (t.unp a) (t.buf (0, a))) m p.found x = 1; rw [h0, hf, add_zero])
    refine ⟨h1, h2.trans ?_, h3.trans ?_, h4.trans ?_, fun r hr => ?_, fun r hr => ?_⟩
    · show p.kept x + hit _ _ _ x * _ = _; rw [h0, zero_mul, add_zero]
    · show p.cx x + hit _ _ _ x * _ = _; rw [h0, zero_mul, add_zero]
    · show p.cy x + hit _ _ _ x * _ = _; rw [h0, zero_mul, add_zero]
    · rcases List.mem_cons.mp hr with rfl | hr
      · refine (congrFun (h6 r fun h => lt_irrefl _ (hl.1 r h)) x).trans ?_
        show Function.update t.hb r _ r x = 0
        rw [Function.update_self]; exact h0
      · exact h5 r hr
    · rw [List.mem_cons, not_or] at hr
      refine (h6 r hr.2).trans ?_
      show Function.update t.hb a _ r = _
      rw [Function.update_of_ne hr.1]

/-- The pass finds the first candidate with the key `m`, and marks it alone. -/
theorem over_pick (m : R) (q : Fin 20) (l : List (Fin 20)) (hl : l.Pairwise (· < ·)) (p : Pick Ideal) (t : Tab Ideal)
    (hq : q ∈ l) (hk : keyLo (t.unp q) (t.buf (0, q)) x = m x)
    (hn : ∀ r < q, keyLo (t.unp r) (t.buf (0, r)) x ≠ m x)
    (hf : p.found x = 0) (hk0 : p.kept x = 0) (hx0 : p.cx x = 0) (hy0 : p.cy x = 0) :
    (over (pickG m) l p t).1.kept x = 1 - t.sup q x
      ∧ (over (pickG m) l p t).1.cx x = t.geo (0, q) x ∧ (over (pickG m) l p t).1.cy x = t.geo (1, q) x
      ∧ (∀ r ∈ l, (over (pickG m) l p t).2.hb r x = bit (r = q))
      ∧ ∀ r, r ∉ l → (over (pickG m) l p t).2.hb r = t.hb r := by
  induction l generalizing p t with
  | nil => exact absurd hq List.not_mem_nil
  | cons a l ih =>
    rw [List.pairwise_cons] at hl
    by_cases haq : a = q
    · subst haq
      have h1 : hit (keyLo (t.unp a) (t.buf (0, a))) m p.found x = 1 := by
        rw [hit_at, hf, one_sub_zero, mul_one, bit_true hk]
      obtain ⟨-, h2, h3, h4, h5, h6⟩ := over_pick_found x m l hl.2 (pickG m a p t).1 (pickG m a p t).2
        (by show p.found x + hit (keyLo (t.unp a) (t.buf (0, a))) m p.found x = 1; rw [h1, hf, zero_add])
      refine ⟨h2.trans ?_, h3.trans ?_, h4.trans ?_, fun r hr => ?_, fun r hr => ?_⟩
      · show p.kept x + hit _ _ _ x * ((c1 : R) x - _) = _; rw [h1, one_mul, hk0, zero_add, c1_at]
      · show p.cx x + hit _ _ _ x * _ = _; rw [h1, one_mul, hx0, zero_add]
      · show p.cy x + hit _ _ _ x * _ = _; rw [h1, one_mul, hy0, zero_add]
      · rcases List.mem_cons.mp hr with rfl | hr
        · refine (congrFun (h6 r fun h => lt_irrefl _ (hl.1 r h)) x).trans ?_
          show Function.update t.hb r _ r x = _
          rw [Function.update_self, bit_true rfl]; exact h1
        · exact (h5 r hr).trans (bit_false (hl.1 r hr).ne').symm
      · rw [List.mem_cons, not_or] at hr
        refine (h6 r hr.2).trans ?_
        show Function.update t.hb a _ r = _
        rw [Function.update_of_ne hr.1]
    · have hq' : q ∈ l := (List.mem_cons.mp hq).resolve_left (Ne.symm haq)
      have h0 : hit (keyLo (t.unp a) (t.buf (0, a))) m p.found x = 0 := by
        rw [hit_at, bit_false (hn a (hl.1 q hq')), zero_mul]
      obtain ⟨h2, h3, h4, h5, h6⟩ := ih hl.2 (pickG m a p t).1 (pickG m a p t).2 hq' hk hn
        (by show p.found x + hit _ _ _ x = _; rw [h0, hf, zero_add])
        (by show p.kept x + hit _ _ _ x * _ = _; rw [h0, zero_mul, add_zero, hk0])
        (by show p.cx x + hit _ _ _ x * _ = _; rw [h0, zero_mul, add_zero, hx0])
        (by show p.cy x + hit _ _ _ x * _ = _; rw [h0, zero_mul, add_zero, hy0])
      refine ⟨h2, h3, h4, fun r hr => ?_, fun r hr => ?_⟩
      · rcases List.mem_cons.mp hr with rfl | hr
        · refine (congrFun (h6 r fun h => lt_irrefl _ (hl.1 r h)) x).trans ?_
          show Function.update t.hb r _ r x = _
          rw [Function.update_self, bit_false haq]; exact h0
        · exact h5 r hr
      · rw [List.mem_cons, not_or] at hr
        refine (h6 r hr.2).trans ?_
        show Function.update t.hb a _ r = _
        rw [Function.update_of_ne hr.1]

theorem over_sup (p : Pick Ideal) (l : List (Fin 20)) (hl : l.Pairwise (· < ·)) (t : Tab Ideal) :
    ∃ unp sup, (over (supG p) l ⟨⟩ t).2 = { t with unp := unp, sup := sup }
      ∧ (∀ r ∈ l, unp r = (supG p r (⟨⟩ : PUnit.{1}) t : PUnit.{1} × Tab Ideal).2.unp r ∧ sup r = (supG p r (⟨⟩ : PUnit.{1}) t : PUnit.{1} × Tab Ideal).2.sup r)
      ∧ ∀ r, r ∉ l → unp r = t.unp r ∧ sup r = t.sup r := by
  induction l generalizing t with
  | nil => exact ⟨t.unp, t.sup, rfl, fun r hr => absurd hr List.not_mem_nil, fun r _ => ⟨rfl, rfl⟩⟩
  | cons a l ih =>
    rw [List.pairwise_cons] at hl
    obtain ⟨unp, sup, h1, h2, h3⟩ := ih hl.2 (supG p a (⟨⟩ : PUnit.{1}) t : PUnit.{1} × Tab Ideal).2
    refine ⟨unp, sup, h1, fun r hr => ?_, fun r hr => ?_⟩
    · rcases List.mem_cons.mp hr with rfl | hr
      · exact h3 r fun h => lt_irrefl _ (hl.1 r h)
      · have hne : r ≠ a := (hl.1 r hr).ne'
        obtain ⟨e1, e2⟩ := h2 r hr
        rw [e1, e2]
        simp only [supG, Function.update_self, Function.update_of_ne hne]
        exact ⟨trivial, trivial⟩
    · rw [List.mem_cons, not_or] at hr
      obtain ⟨e1, e2⟩ := h3 r hr.2
      rw [e1, e2]
      simp only [supG, Function.update_of_ne hr.1]
      exact ⟨trivial, trivial⟩

theorem over_sel (all : R) (l : List (Fin 20)) (hl : l.Pairwise (· < ·)) (t : Tab Ideal) :
    ∃ sup dist, (over (selG all) l ⟨⟩ t).2 = { t with sup := sup, dist := dist }
      ∧ (∀ r ∈ l, sup r = (selG all r (⟨⟩ : PUnit.{1}) t : PUnit.{1} × Tab Ideal).2.sup r ∧ dist r = (selG all r (⟨⟩ : PUnit.{1}) t : PUnit.{1} × Tab Ideal).2.dist r)
      ∧ ∀ r, r ∉ l → sup r = t.sup r ∧ dist r = t.dist r := by
  induction l generalizing t with
  | nil => exact ⟨t.sup, t.dist, rfl, fun r hr => absurd hr List.not_mem_nil, fun r _ => ⟨rfl, rfl⟩⟩
  | cons a l ih =>
    rw [List.pairwise_cons] at hl
    obtain ⟨sup, dist, h1, h2, h3⟩ := ih hl.2 (selG all a (⟨⟩ : PUnit.{1}) t : PUnit.{1} × Tab Ideal).2
    refine ⟨sup, dist, h1, fun r hr => ?_, fun r hr => ?_⟩
    · rcases List.mem_cons.mp hr with rfl | hr
      · exact h3 r fun h => lt_irrefl _ (hl.1 r h)
      · have hne : r ≠ a := (hl.1 r hr).ne'
        obtain ⟨e1, e2⟩ := h2 r hr
        rw [e1, e2]
        simp only [selG, Function.update_self, Function.update_of_ne hne]
        exact ⟨trivial, trivial⟩
    · rw [List.mem_cons, not_or] at hr
      obtain ⟨e1, e2⟩ := h3 r hr.2
      rw [e1, e2]
      simp only [selG, Function.update_of_ne hr.1]
      exact ⟨trivial, trivial⟩

theorem over_init (l : List (Fin 20)) (hl : l.Pairwise (· < ·)) (t : Tab Ideal) :
    ∃ geo sup unp, (over initG l ⟨⟩ t).2 = { t with geo := geo, sup := sup, unp := unp }
      ∧ (∀ r ∈ l, (∀ c, geo (c, r) = (initG r (⟨⟩ : PUnit.{1}) t : PUnit.{1} × Tab Ideal).2.geo (c, r)) ∧ sup r = c0 ∧ unp r = c1)
      ∧ ∀ r, r ∉ l → (∀ c, geo (c, r) = t.geo (c, r)) ∧ sup r = t.sup r ∧ unp r = t.unp r := by
  induction l generalizing t with
  | nil => exact ⟨t.geo, t.sup, t.unp, rfl, fun r hr => absurd hr List.not_mem_nil, fun r _ => ⟨fun _ => rfl, rfl, rfl⟩⟩
  | cons a l ih =>
    rw [List.pairwise_cons] at hl
    obtain ⟨geo, sup, unp, h1, h2, h3⟩ := ih hl.2 (initG a (⟨⟩ : PUnit.{1}) t : PUnit.{1} × Tab Ideal).2
    have hg : ∀ c r, r ≠ a → (initG a PUnit.unit.{1} t : PUnit.{1} × Tab Ideal).2.geo (c, r) = t.geo (c, r) := fun c r hne => by
      have hp : ∀ c' : Fin 4, ((c, r) : Fin 4 × Fin 20) ≠ (c', a) := fun c' h => hne (Prod.ext_iff.mp h).2
      simp only [initG, Function.update_of_ne (hp _)]
    refine ⟨geo, sup, unp, h1, fun r hr => ?_, fun r hr => ?_⟩
    · rcases List.mem_cons.mp hr with rfl | hr
      · obtain ⟨e1, e2, e3⟩ := h3 r fun h => lt_irrefl _ (hl.1 r h)
        refine ⟨e1, ?_, ?_⟩
        · rw [e2]; simp only [initG, Function.update_self]
        · rw [e3]; simp only [initG, Function.update_self]
      · have hne : r ≠ a := (hl.1 r hr).ne'
        obtain ⟨e1, e2, e3⟩ := h2 r hr
        refine ⟨fun c => (e1 c).trans ?_, e2, e3⟩
        fin_cases c <;> simp [initG, Function.update_apply, hne]
    · rw [List.mem_cons, not_or] at hr
      obtain ⟨e1, e2, e3⟩ := h3 r hr.2
      refine ⟨fun c => (e1 c).trans (hg c r hr.1), ?_, ?_⟩
      · rw [e2]; simp only [initG, Function.update_of_ne hr.1]
      · rw [e3]; simp only [initG, Function.update_of_ne hr.1]

theorem over_count (l : List (Fin 20)) (n : R) (t : Tab Ideal) :
    (over countG l n t).1 x = l.foldl (fun a r => a + (1 - t.sup r x)) (n x) := by
  induction l generalizing n with
  | nil => rfl
  | cons a l ih =>
    refine (ih _).trans ?_
    show List.foldl _ (n x + ((c1 : R) x - t.sup a x)) l = _
    rw [c1_at]; rfl

end Cert.KernelIdeal.Lane

end
-- ==== Proof.Chosen.lean ====
/- A group's work in one lane: the suppression goes down the candidates by score, and the picks go up them by distance. -/
module

public import proofs.«01_k».proof.Proof.Lane

@[expose] public section

noncomputable section

namespace Cert.KernelIdeal.Lane

open Cert.KernelIdeal Cert.KernelIdeal.Rolled Cert.KernelIdeal.Tile
open Idealize.ShloMosaic
open Cert.Order
open Classical

/-- After `n` rounds, who is suppressed, when `o i j` says that the `i`-th in order suppresses the `j`-th. -/
def Sup (o : Fin 20 → Fin 20 → Prop) : Nat → Fin 20 → Prop
  | 0, _ => False
  | n + 1, j => Sup o n j ∨ ∃ h : n < 20, ¬ Sup o n ⟨n, h⟩ ∧ o ⟨n, h⟩ j

/-- The squares around two candidates overlap by more than a sixth. -/
def ov (gx gy : Fin 20 → EReal) (p r : Fin 20) : Prop :=
  ((1 / 6 : ℝ) : EReal) < lapE (gx r) (gx p) * lapE (gy r) (gy p)

/-- The earlier in the order suppresses the later where they overlap. -/
def before (gx gy : Fin 20 → EReal) (σ : Fin 20 → Fin 20) (i j : Fin 20) : Prop := ov gx gy (σ i) (σ j) ∧ i < j

variable (x : S16.Idx)

/-- What the suppression has done after `n` rounds, in the order `σ`. -/
structure Inv (t0 : Tab Ideal) (σ : Fin 20 → Fin 20) (n : Nat) (t : Tab Ideal) : Prop where
  buf : t.buf = t0.buf
  gtb : t.gtb = t0.gtb
  geo : t.geo = t0.geo
  out : t.out = t0.out
  unp : ∀ j, t.unp (σ j) x = bit (n ≤ j.val)
  sup : ∀ j, t.sup (σ j) x = bit (Sup (before (fun r => t0.geo (0, r) x) (fun r => t0.geo (1, r) x) σ) n j)

theorem Inv.marked {t0 t : Tab Ideal} {σ : Fin 20 → Fin 20} (hσ : Function.Injective σ) {n : Nat} (hn : n < 20)
    (h : Inv x t0 σ n t) (p : Pick Ideal) (hb : Fin 20 → R) (hkept : p.kept x = 1 - t.sup (σ ⟨n, hn⟩) x)
    (hcx : p.cx x = t.geo (0, σ ⟨n, hn⟩) x) (hcy : p.cy x = t.geo (1, σ ⟨n, hn⟩) x)
    (hhb : ∀ r, hb r x = bit (r = σ ⟨n, hn⟩)) : Inv x t0 σ (n + 1) (over (supG p) rows ⟨⟩ { t with hb := hb }).2 := by
  obtain ⟨unp, sup, hr, hrows, -⟩ := over_sup p rows rows_pairwise { t with hb := hb }
  have hu : ∀ j, mulf (t.unp (σ j)) (subf c1 (hb (σ j))) x = bit (n + 1 ≤ j.val) := fun j => by
    rw [mulf_at, subf_at, c1_at, h.unp, hhb, one_sub_bit, bit_mul]
    refine bit_congr ⟨fun ⟨h1, h2⟩ => ?_, fun h1 => ⟨by omega, fun e => ?_⟩⟩
    · rcases h1.eq_or_lt with e | e
      · exact absurd (congrArg σ (Fin.ext e.symm)) h2
      · exact e
    · have := congrArg Fin.val (hσ e); simp only at this; omega
  rw [hr]
  clear hr
  refine ⟨h.buf, h.gtb, h.geo, h.out, fun j => ?_, fun j => ?_⟩
  · show unp (σ j) x = _
    rw [(hrows (σ j) (mem_rows _)).1]
    simp only [supG, Function.update_self]
    exact hu j
  · show sup (σ j) x = _
    rw [(hrows (σ j) (mem_rows _)).2]
    simp only [supG, Function.update_self]
    have e1 : (flag (cmpf .ogt p.kept half) : R) x
        = bit (¬ Sup (before (fun r => t0.geo (0, r) x) (fun r => t0.geo (1, r) x) σ) n ⟨n, hn⟩) := by
      rw [flag_ogt]
      refine bit_congr ?_
      rw [hkept, half_at, h.sup, one_sub_bit]
      exact half_lt_bit _
    have e2 : (flag (cmpf .ogt (mulf (lap (t.geo (0, σ j)) p.cx) (lap (t.geo (1, σ j)) p.cy)) sixth) : R) x
        = bit (ov (fun r => t0.geo (0, r) x) (fun r => t0.geo (1, r) x) (σ ⟨n, hn⟩) (σ j)) := by
      rw [flag_ogt]
      refine bit_congr ?_
      rw [mulf_at, lap_at, lap_at, hcx, hcy, h.geo, sixth_at]
      exact Iff.rfl
    rw [max_at, h.sup, mulf_at, mulf_at, hu, e1, e2, bit_mul, bit_mul, bit_max]
    exact bit_congr (or_congr Iff.rfl ⟨fun ⟨⟨h1, h2⟩, h3⟩ => ⟨hn, h1, h2, h3⟩, fun ⟨_, h1, h2, h3⟩ => ⟨⟨h1, h2⟩, h3⟩⟩)

theorem Inv.step {t0 t : Tab Ideal} {σ : Fin 20 → Fin 20} (hσ : Stable (fun r => -(t0.buf (0, r) x)) σ)
    (hs : ∀ r, t0.buf (0, r) x ≠ ⊥) {n : Nat} (hn : n < 20) (h : Inv x t0 σ n t) : Inv x t0 σ (n + 1) (nmsG t) := by
  have hkey : ∀ j, keyLo (t.unp (σ j)) (t.buf (0, σ j)) x = if n ≤ j.val then t0.buf (0, σ j) x else ⊥ := fun j => by
    rw [keyLo_at, h.unp, h.buf]
    exact if_congr (half_lt_bit _) rfl rfl
  have hkn : keyLo (t.unp (σ ⟨n, hn⟩)) (t.buf (0, σ ⟨n, hn⟩)) x = t0.buf (0, σ ⟨n, hn⟩) x := by
    rw [hkey, if_pos le_rfl]
  have hm : (over maxG rows lowest t).1 x = t0.buf (0, σ ⟨n, hn⟩) x := by
    refine over_max x rows lowest t _ (fun r _ => ?_) ?_ (Or.inr ⟨σ ⟨n, hn⟩, mem_rows _, hkn⟩)
    · obtain ⟨j, rfl⟩ := hσ.surj r
      rw [hkey]
      split
      · exact EReal.neg_le_neg_iff.mp (hσ.le (i := ⟨n, hn⟩) (j := j) ‹_›)
      · exact bot_le
    · exact bot_le
  obtain ⟨hb, htab⟩ := over_pick_tab (over maxG rows lowest t).1 rows ⟨c0, c0, c0, c0⟩ t
  obtain ⟨hkept, hcx, hcy, hhb, -⟩ := over_pick x (over maxG rows lowest t).1 (σ ⟨n, hn⟩) rows rows_pairwise ⟨c0, c0, c0, c0⟩ t
    (mem_rows _) (hkn.trans hm.symm) (fun r hr => by
      obtain ⟨j, rfl⟩ := hσ.surj r
      rw [hm, hkey]
      split
      · intro e
        have hj : (⟨n, hn⟩ : Fin 20) < j := by
          rcases (show (⟨n, hn⟩ : Fin 20) ≤ j from ‹_›).eq_or_lt with e | e
          · rw [← e] at hr; exact absurd hr (lt_irrefl _)
          · exact e
        rcases hσ.ord _ _ hj with h' | ⟨-, h'⟩
        · rw [e] at h'; exact absurd h' (lt_irrefl _)
        · exact absurd hr (not_lt.mpr h'.le)
      · exact fun e => hs _ e.symm)
    (c0_at x) (c0_at x) (c0_at x) (c0_at x)
  have hnms : nmsG t = (over (supG (over (pickG (over maxG rows lowest t).1) rows ⟨c0, c0, c0, c0⟩ t).1) rows ⟨⟩
      (over (pickG (over maxG rows lowest t).1) rows ⟨c0, c0, c0, c0⟩ t).2).2 := rfl
  rw [hnms]
  rw [htab] at hhb ⊢
  exact h.marked x hσ.inj hn _ hb hkept hcx hcy fun r => hhb r (mem_rows r)

theorem Inv.rounds {t0 t : Tab Ideal} {σ : Fin 20 → Fin 20} (hσ : Stable (fun r => -(t0.buf (0, r) x)) σ)
    (hs : ∀ r, t0.buf (0, r) x ≠ ⊥) (h : Inv x t0 σ 0 t) : ∀ n ≤ 20, Inv x t0 σ n (nmsG^[n] t)
  | 0, _ => h
  | n + 1, hn => by
    rw [Function.iterate_succ', Function.comp_apply]
    exact (Inv.rounds hσ hs h n (by omega)).step x hσ hs (by omega)

/-! ## The count -/

theorem foldl_count (p : Fin 20 → Prop) (l : List (Fin 20)) (a : ℕ) :
    l.foldl (fun (a : EReal) r => a + bit (p r)) ((a : ℝ) : EReal) = (((a + (l.filter (fun r => decide (p r))).length : ℕ) : ℝ) : EReal) := by
  induction l generalizing a with
  | nil => rfl
  | cons r l ih =>
    by_cases h : p r
    · rw [List.foldl_cons, bit_true h, ← EReal.coe_one, ← EReal.coe_add, ← Nat.cast_one, ← Nat.cast_add, ih,
        List.filter_cons, if_pos (decide_eq_true h), List.length_cons, add_assoc, add_comm 1]
    · rw [List.foldl_cons, bit_false h, add_zero, ih, List.filter_cons, if_neg (by rw [decide_eq_true_eq]; exact h)]

theorem card_rows (p : Fin 20 → Prop) :
    (rows.filter (fun r => decide (p r))).length = (Finset.univ.filter p).card := by
  rw [show rows = List.finRange 20 from by decide]
  rw [Finset.card_def, Finset.filter_val]
  rfl

/-! ## The picks -/

theorem over_top_found (m : R) (l : List (Fin 20)) (hl : l.Pairwise (· < ·)) (p : Top Ideal) (t : Tab Ideal)
    (hf : p.found x = 1) :
    (over (topG m) l p t).1.al x = p.al x ∧ (over (topG m) l p t).1.ax x = p.ax x
      ∧ (over (topG m) l p t).1.ay x = p.ay x ∧ (over (topG m) l p t).1.a2 x = p.a2 x
      ∧ (over (topG m) l p t).1.a3 x = p.a3 x
      ∧ (∀ r ∈ l, (over (topG m) l p t).2.sup r x = t.sup r x)
      ∧ ∀ r, r ∉ l → (over (topG m) l p t).2.sup r = t.sup r := by
  induction l generalizing p t with
  | nil => exact ⟨rfl, rfl, rfl, rfl, rfl, fun r hr => absurd hr List.not_mem_nil, fun r _ => rfl⟩
  | cons a l ih =>
    rw [List.pairwise_cons] at hl
    have h0 : hit (keyHi (t.sup a) (t.dist a)) m p.found x = 0 := by rw [hit_at, hf, one_sub_one, mul_zero]
    obtain ⟨h1, h2, h3, h4, h4', h5, h6⟩ := ih hl.2 (topG m a p t).1 (topG m a p t).2
      (by show p.found x + hit _ _ _ x = 1; rw [h0, hf, add_zero])
    refine ⟨h1.trans ?_, h2.trans ?_, h3.trans ?_, h4.trans ?_, h4'.trans ?_, fun r hr => ?_, fun r hr => ?_⟩
    · show p.al x + hit _ _ _ x * _ = _; rw [h0, zero_mul, add_zero]
    · show p.ax x + hit _ _ _ x * _ = _; rw [h0, zero_mul, add_zero]
    · show p.ay x + hit _ _ _ x * _ = _; rw [h0, zero_mul, add_zero]
    · show p.a2 x + hit _ _ _ x * _ = _; rw [h0, zero_mul, add_zero]
    · show p.a3 x + hit _ _ _ x * _ = _; rw [h0, zero_mul, add_zero]
    · rcases List.mem_cons.mp hr with rfl | hr
      · refine (congrFun (h6 r fun h => lt_irrefl _ (hl.1 r h)) x).trans ?_
        show Function.update t.sup r _ r x = _
        rw [Function.update_self]
        show t.sup r x * ((c1 : R) x - hit _ _ _ x) = _
        rw [h0, c1_at, one_sub_zero, mul_one]
      · refine (h5 r hr).trans ?_
        show Function.update t.sup a _ r x = _
        rw [Function.update_of_ne (hl.1 r hr).ne']
    · rw [List.mem_cons, not_or] at hr
      refine (h6 r hr.2).trans ?_
      show Function.update t.sup a _ r = _
      rw [Function.update_of_ne hr.1]

/-- The pass reads the first candidate with the key `m`, and takes it out. -/
theorem over_top (m : R) (q : Fin 20) (l : List (Fin 20)) (hl : l.Pairwise (· < ·)) (p : Top Ideal) (t : Tab Ideal)
    (hq : q ∈ l) (hk : keyHi (t.sup q) (t.dist q) x = m x)
    (hn : ∀ r < q, keyHi (t.sup r) (t.dist r) x ≠ m x)
    (hf : p.found x = 0) (ha : p.al x = 0) (hx : p.ax x = 0) (hy : p.ay x = 0) (h2 : p.a2 x = 0) (h3 : p.a3 x = 0) :
    (over (topG m) l p t).1.al x = t.buf (0, q) x ∧ (over (topG m) l p t).1.ax x = t.geo (0, q) x
      ∧ (over (topG m) l p t).1.ay x = t.geo (1, q) x ∧ (over (topG m) l p t).1.a2 x = t.geo (2, q) x
      ∧ (over (topG m) l p t).1.a3 x = t.geo (3, q) x
      ∧ (∀ r ∈ l, (over (topG m) l p t).2.sup r x = if r = q then 0 else t.sup r x)
      ∧ ∀ r, r ∉ l → (over (topG m) l p t).2.sup r = t.sup r := by
  induction l generalizing p t with
  | nil => exact absurd hq List.not_mem_nil
  | cons a l ih =>
    rw [List.pairwise_cons] at hl
    by_cases haq : a = q
    · subst haq
      have h1 : hit (keyHi (t.sup a) (t.dist a)) m p.found x = 1 := by
        rw [hit_at, hf, one_sub_zero, mul_one, bit_true hk]
      obtain ⟨e1, e2, e3, e4, e4', h5, h6⟩ := over_top_found x m l hl.2 (topG m a p t).1 (topG m a p t).2
        (by show p.found x + hit _ _ _ x = 1; rw [h1, hf, zero_add])
      refine ⟨e1.trans ?_, e2.trans ?_, e3.trans ?_, e4.trans ?_, e4'.trans ?_, fun r hr => ?_, fun r hr => ?_⟩
      · show p.al x + hit _ _ _ x * _ = _; rw [h1, one_mul, ha, zero_add]
      · show p.ax x + hit _ _ _ x * _ = _; rw [h1, one_mul, hx, zero_add]
      · show p.ay x + hit _ _ _ x * _ = _; rw [h1, one_mul, hy, zero_add]
      · show p.a2 x + hit _ _ _ x * _ = _; rw [h1, one_mul, h2, zero_add]
      · show p.a3 x + hit _ _ _ x * _ = _; rw [h1, one_mul, h3, zero_add]
      · rcases List.mem_cons.mp hr with rfl | hr
        · refine (congrFun (h6 r fun h => lt_irrefl _ (hl.1 r h)) x).trans ?_
          show Function.update t.sup r _ r x = _
          rw [Function.update_self, if_pos rfl]
          show t.sup r x * ((c1 : R) x - hit _ _ _ x) = _
          rw [h1, c1_at, one_sub_one, mul_zero]
        · refine (h5 r hr).trans ?_
          show Function.update t.sup a _ r x = _
          rw [Function.update_of_ne (hl.1 r hr).ne', if_neg (hl.1 r hr).ne']
      · rw [List.mem_cons, not_or] at hr
        refine (h6 r hr.2).trans ?_
        show Function.update t.sup a _ r = _
        rw [Function.update_of_ne hr.1]
    · have hq' : q ∈ l := (List.mem_cons.mp hq).resolve_left (Ne.symm haq)
      have hne : ∀ r ∈ l, r ≠ a := fun r hr => (hl.1 r hr).ne'
      have h0 : hit (keyHi (t.sup a) (t.dist a)) m p.found x = 0 := by
        rw [hit_at, bit_false (hn a (hl.1 q hq')), zero_mul]
      have hs0 : ∀ r, (topG m a p t).2.sup r x = t.sup r x := fun r => by
        show Function.update t.sup a _ r x = _
        by_cases e : r = a
        · subst e
          rw [Function.update_self]
          show t.sup r x * ((c1 : R) x - hit _ _ _ x) = _
          rw [h0, c1_at, one_sub_zero, mul_one]
        · rw [Function.update_of_ne e]
      have hkey : ∀ r, keyHi ((topG m a p t).2.sup r) ((topG m a p t).2.dist r) x = keyHi (t.sup r) (t.dist r) x := fun r => by
        rw [keyHi_at, keyHi_at, hs0]; rfl
      obtain ⟨e1, e2, e3, e4, e4', h5, h6⟩ := ih hl.2 (topG m a p t).1 (topG m a p t).2 hq' ((hkey q).trans hk)
        (fun r hr => by rw [hkey]; exact hn r hr)
        (by show p.found x + hit _ _ _ x = _; rw [h0, hf, zero_add])
        (by show p.al x + hit _ _ _ x * _ = _; rw [h0, zero_mul, add_zero, ha])
        (by show p.ax x + hit _ _ _ x * _ = _; rw [h0, zero_mul, add_zero, hx])
        (by show p.ay x + hit _ _ _ x * _ = _; rw [h0, zero_mul, add_zero, hy])
        (by show p.a2 x + hit _ _ _ x * _ = _; rw [h0, zero_mul, add_zero, h2])
        (by show p.a3 x + hit _ _ _ x * _ = _; rw [h0, zero_mul, add_zero, h3])
      refine ⟨e1, e2, e3, e4, e4', fun r hr => ?_, fun r hr => ?_⟩
      · rcases List.mem_cons.mp hr with rfl | hr
        · refine (congrFun (h6 r fun h => lt_irrefl _ (hl.1 r h)) x).trans ?_
          rw [if_neg haq, hs0]
        · refine (h5 r hr).trans ?_
          rw [hs0]
      · rw [List.mem_cons, not_or] at hr
        refine (h6 r hr.2).trans ?_
        show Function.update t.sup a _ r = _
        rw [Function.update_of_ne hr.1]

theorem over_top_tab (m : R) (l : List (Fin 20)) (p : Top Ideal) (t : Tab Ideal) :
    ∃ sup, (over (topG m) l p t).2 = { t with sup := sup } := by
  induction l generalizing p t with
  | nil => exact ⟨t.sup, rfl⟩
  | cons a l ih =>
    obtain ⟨sup, h⟩ := ih (topG m a p t).1 (topG m a p t).2
    exact ⟨sup, h⟩

/-- What a pick reads of a candidate: its score and the four of its geometry. -/
def vals (t : Tab Ideal) (q : Fin 20) : Fin 5 → EReal :=
  ![t.buf (0, q) x, t.geo (0, q) x, t.geo (1, q) x, t.geo (2, q) x, t.geo (3, q) x]

/-- The first `k` picks made, in the order `τ`. -/
structure Picked (t0 : Tab Ideal) (τ : Fin 20 → Fin 20) (sel : Fin 20 → Prop) (k : Nat) (t : Tab Ideal) : Prop where
  buf : t.buf = t0.buf
  geo : t.geo = t0.geo
  dist : t.dist = t0.dist
  sup : ∀ j, t.sup (τ j) x = bit (k ≤ j.val ∧ sel (τ j))
  out : ∀ i : Fin 6, i.val < k → ∀ c, t.out (i, c) x = vals x t0 (τ (i.castLE (by decide))) c

theorem Picked.taken {t0 t : Tab Ideal} {τ : Fin 20 → Fin 20} {sel : Fin 20 → Prop} (hτ : Function.Injective τ) (k : Fin 6)
    (hk20 : k.val < 20) (h : Picked x t0 τ sel k.val t) (p : Top Ideal) (sup : Fin 20 → R)
    (e0 : p.al x = t.buf (0, τ ⟨k.val, hk20⟩) x) (e1 : p.ax x = t.geo (0, τ ⟨k.val, hk20⟩) x)
    (e2 : p.ay x = t.geo (1, τ ⟨k.val, hk20⟩) x) (e3 : p.a2 x = t.geo (2, τ ⟨k.val, hk20⟩) x)
    (e4 : p.a3 x = t.geo (3, τ ⟨k.val, hk20⟩) x)
    (hrow : ∀ r, sup r x = if r = τ ⟨k.val, hk20⟩ then 0 else t.sup r x) :
    Picked x t0 τ sel (k.val + 1) { t with
      sup := sup
      out := Function.update (Function.update (Function.update (Function.update (Function.update t.out
        (k, 0) p.al) (k, 1) p.ax) (k, 2) p.ay) (k, 3) p.a2) (k, 4) p.a3 } := by
  refine ⟨h.buf, h.geo, h.dist, fun j => ?_, fun i hi c => ?_⟩
  · refine (hrow (τ j)).trans ?_
    rw [h.sup]
    by_cases e : τ j = τ ⟨k.val, hk20⟩
    · rw [if_pos e, bit_false]
      rintro ⟨h1, -⟩
      have := congrArg Fin.val (hτ e); simp only at this; omega
    · rw [if_neg e]
      refine bit_congr (and_congr ⟨fun h1 => ?_, fun h1 => by omega⟩ Iff.rfl)
      rcases h1.eq_or_lt with e' | e'
      · exact absurd (congrArg τ (Fin.ext e'.symm)) e
      · exact e'
  · rw [h.buf] at e0; rw [h.geo] at e1 e2 e3 e4
    by_cases e : i = k
    · subst e
      fin_cases c
      · refine Eq.trans ?_ e0; simp [Function.update_apply]
      · refine Eq.trans ?_ e1; simp [Function.update_apply]
      · refine Eq.trans ?_ e2; simp [Function.update_apply]
      · refine Eq.trans ?_ e3; simp [Function.update_apply]
      · refine Eq.trans ?_ e4; simp [Function.update_apply]
    · have hne : ∀ c c' : Fin 5, ((i, c) : Fin 6 × Fin 5) ≠ (k, c') := fun c c' h => e (Prod.ext_iff.mp h).1
      refine Eq.trans ?_ (h.out i (by have : i.val ≠ k.val := fun h => e (Fin.ext h); omega) c)
      simp only [Function.update_of_ne (hne c _)]

theorem Picked.step {t0 t : Tab Ideal} {τ : Fin 20 → Fin 20} {sel : Fin 20 → Prop}
    (hτ : Stable (fun r => if sel r then t0.dist r x else ⊤) τ)
    (hd : ∀ r, t0.dist r x ≠ ⊤) (hsel : ∀ j : Fin 20, j.val < 6 → sel (τ j)) (k : Fin 6)
    (h : Picked x t0 τ sel k.val t) : Picked x t0 τ sel (k.val + 1)
      (topStepG k (⟨⟩ : PUnit.{1}) t : PUnit.{1} × Tab Ideal).2 := by
  have hk20 : k.val < 20 := by omega
  have hkey : ∀ j : Fin 20, keyHi (t.sup (τ j)) (t.dist (τ j)) x = if k.val ≤ j.val ∧ sel (τ j) then t0.dist (τ j) x else ⊤ := fun j => by
    rw [keyHi_at, h.sup, h.dist]
    exact if_congr (half_lt_bit _) rfl rfl
  have hsk := hsel ⟨k.val, hk20⟩ k.isLt
  have hkn : keyHi (t.sup (τ ⟨k.val, hk20⟩)) (t.dist (τ ⟨k.val, hk20⟩)) x = t0.dist (τ ⟨k.val, hk20⟩) x := by
    rw [hkey, if_pos ⟨le_rfl, hsk⟩]
  have hm : (over minG rows highest t).1 x = t0.dist (τ ⟨k.val, hk20⟩) x := by
    refine over_min x rows highest t _ (fun r _ => ?_) ?_ (Or.inr ⟨τ ⟨k.val, hk20⟩, mem_rows _, hkn⟩)
    · obtain ⟨j, rfl⟩ := hτ.surj r
      rw [hkey]
      split
      · have := hτ.le (i := ⟨k.val, hk20⟩) (j := j) (by have h := ‹_ ∧ _›; exact h.1)
        rwa [if_pos hsk, if_pos (by have h := ‹_ ∧ _›; exact h.2)] at this
      · exact le_top
    · exact le_top
  obtain ⟨sup, htab⟩ := over_top_tab (over minG rows highest t).1 rows ⟨c0, c0, c0, c0, c0, c0⟩ t
  obtain ⟨e0, e1, e2, e3, e4, hrow, -⟩ := over_top x (over minG rows highest t).1 (τ ⟨k.val, hk20⟩) rows rows_pairwise
    ⟨c0, c0, c0, c0, c0, c0⟩ t (mem_rows _) (hkn.trans hm.symm) (fun r hr => by
      obtain ⟨j, rfl⟩ := hτ.surj r
      rw [hm, hkey]
      split
      · intro e
        have hs : k.val ≤ j.val ∧ sel (τ j) := ‹_›
        have hj : (⟨k.val, hk20⟩ : Fin 20) < j := by
          rcases (show (⟨k.val, hk20⟩ : Fin 20) ≤ j from hs.1).eq_or_lt with e | e
          · rw [← e] at hr; exact absurd hr (lt_irrefl _)
          · exact e
        rcases hτ.ord _ _ hj with h' | ⟨-, h'⟩
        · rw [if_pos hsk, if_pos hs.2, e] at h'; exact absurd h' (lt_irrefl _)
        · exact absurd hr (not_lt.mpr h'.le)
      · exact fun e => hd _ e.symm)
    (c0_at x) (c0_at x) (c0_at x) (c0_at x) (c0_at x) (c0_at x)
  have hstep : (topStepG k (⟨⟩ : PUnit.{1}) t : PUnit.{1} × Tab Ideal).2 = { (over (topG (over minG rows highest t).1) rows ⟨c0, c0, c0, c0, c0, c0⟩ t).2 with
      out := Function.update (Function.update (Function.update (Function.update (Function.update
        (over (topG (over minG rows highest t).1) rows ⟨c0, c0, c0, c0, c0, c0⟩ t).2.out
        (k, 0) (over (topG (over minG rows highest t).1) rows ⟨c0, c0, c0, c0, c0, c0⟩ t).1.al)
        (k, 1) (over (topG (over minG rows highest t).1) rows ⟨c0, c0, c0, c0, c0, c0⟩ t).1.ax)
        (k, 2) (over (topG (over minG rows highest t).1) rows ⟨c0, c0, c0, c0, c0, c0⟩ t).1.ay)
        (k, 3) (over (topG (over minG rows highest t).1) rows ⟨c0, c0, c0, c0, c0, c0⟩ t).1.a2)
        (k, 4) (over (topG (over minG rows highest t).1) rows ⟨c0, c0, c0, c0, c0, c0⟩ t).1.a3 } := rfl
  rw [hstep]
  rw [htab] at hrow ⊢
  exact h.taken x hτ.inj k hk20 _ sup e0 e1 e2 e3 e4 fun r => hrow r (mem_rows r)

end Cert.KernelIdeal.Lane

end
-- ==== Proof.Work.lean ====
/- A group's whole work in one lane: the six candidates it picks. -/
module

public import proofs.«01_k».proof.Proof.Chosen

@[expose] public section

noncomputable section

namespace Cert.KernelIdeal.Lane

open Cert.KernelIdeal Cert.KernelIdeal.Rolled Cert.KernelIdeal.Tile
open Idealize.ShloMosaic
open Cert.Order
open Classical

/-- The magnitude. -/
def absE (v : EReal) : EReal := max v (-v)

/-- The candidates of one agent: scores, the four of the geometry, and the track's end. -/
structure Cand where
  s : Fin 20 → EReal
  g : Fin 4 → Fin 20 → EReal
  e : Fin 2 → EReal

namespace Cand
variable (a : Cand)

/-- Who survives the suppression in the order `σ`. -/
def keep (σ : Fin 20 → Fin 20) (r : Fin 20) : Prop := ∀ j, σ j = r → ¬ Sup (before (a.g 0) (a.g 1) σ) 20 j
/-- Who may be picked: the survivors, or everyone when fewer than six survive. -/
def sel (σ : Fin 20 → Fin 20) (r : Fin 20) : Prop := a.keep σ r ∨ (Finset.univ.filter (a.keep σ)).card < 6
/-- How far a candidate ends from the track's end. -/
def dist (r : Fin 20) : EReal := absE (a.g 0 r - a.e 0) + absE (a.g 1 r - a.e 1)
/-- The key the picks go up by. -/
def key (σ : Fin 20 → Fin 20) (r : Fin 20) : EReal := if a.sel σ r then a.dist r else ⊤
/-- What is read of a candidate. -/
def vals (r : Fin 20) : Fin 5 → EReal := ![a.s r, a.g 0 r, a.g 1 r, a.g 2 r, a.g 3 r]
/-- The order of the scores, and that of the picks. -/
def byScore : Fin 20 → Fin 20 := sortedFrom fun k k' => decide (-(a.s k) < -(a.s k'))
def byDist : Fin 20 → Fin 20 := sortedFrom fun k k' => decide (a.key a.byScore k < a.key a.byScore k')
/-- The six picks. -/
def pick (i : Fin 6) (c : Fin 5) : EReal := a.vals (a.byDist (i.castLE (by decide))) c

theorem keep_at {σ : Fin 20 → Fin 20} (hσ : Function.Injective σ) (j : Fin 20) :
    a.keep σ (σ j) ↔ ¬ Sup (before (a.g 0) (a.g 1) σ) 20 j :=
  ⟨fun h => h j rfl, fun h i hi => by rw [hσ hi]; exact h⟩

/-- At least six may be picked. -/
theorem six_le_sel (σ : Fin 20 → Fin 20) : 6 ≤ (Finset.univ.filter (a.sel σ)).card := by
  by_cases h : (Finset.univ.filter (a.keep σ)).card < 6
  · rw [Finset.filter_true_of_mem (fun r _ => show a.sel σ r from Or.inr h)]
    decide
  · refine (not_lt.mp h).trans (Finset.card_le_card fun r hr => ?_)
    rw [Finset.mem_filter] at hr ⊢
    exact ⟨hr.1, Or.inl hr.2⟩

theorem sel_first {σ τ : Fin 20 → Fin 20} (hτ : Stable (a.key σ) τ) (hd : ∀ r, a.dist r ≠ ⊤) (j : Fin 20) (hj : j.val < 6) :
    a.sel σ (τ j) := by
  by_contra hn
  have hsub : Finset.univ.filter (a.sel σ) ⊆ (Finset.univ.filter (fun i : Fin 20 => i < j)).image τ := fun r hr => by
    obtain ⟨i, rfl⟩ := hτ.surj r
    have hs := (Finset.mem_filter.mp hr).2
    refine Finset.mem_image_of_mem _ (Finset.mem_filter.mpr ⟨Finset.mem_univ _, ?_⟩)
    by_contra hij
    have := hτ.le (not_lt.mp hij)
    unfold key at this
    rw [if_neg hn, if_pos hs, top_le_iff] at this
    exact hd _ this
  have h1 := (a.six_le_sel σ).trans (Finset.card_le_card hsub)
  have h2 : ((Finset.univ.filter (fun i : Fin 20 => i < j)).image τ).card ≤ j.val := by
    refine Finset.card_image_le.trans ?_
    rw [show Finset.univ.filter (fun i : Fin 20 => i < j) = Finset.Iio j from by ext; simp, Fin.card_Iio]
  omega

end Cand

variable (x : S16.Idx)

/-- The candidates in lane `x` of a group's tables. -/
def cand (t : Tab Ideal) : Cand where
  s r := t.buf (0, r) x
  g c r := t.buf (c.succ.castLE (by decide), r) x + t.buf (c.natAdd 5, r) x
  e c := t.gtb c x

theorem picks {t0 t : Tab Ideal} {τ : Fin 20 → Fin 20} {sel : Fin 20 → Prop}
    (hτ : Stable (fun r => if sel r then t0.dist r x else ⊤) τ)
    (hd : ∀ r, t0.dist r x ≠ ⊤) (hsel : ∀ j : Fin 20, j.val < 6 → sel (τ j))
    (h : Picked x t0 τ sel 0 t) :
    Picked x t0 τ sel 6 (over topStepG [0, 1, 2, 3, 4, 5] (⟨⟩ : PUnit.{1}) t).2 := by
  have h1 := h.step x hτ hd hsel 0
  have h2 := h1.step x hτ hd hsel 1
  have h3 := h2.step x hτ hd hsel 2
  have h4 := h3.step x hτ hd hsel 3
  have h5 := h4.step x hτ hd hsel 4
  have h6 := h5.step x hτ hd hsel 5
  simp only [over]
  exact h6

/-- The work up to the picks, in three parts. -/
def opened (t : Tab Ideal) : Tab Ideal := (over initG rows (⟨⟩ : PUnit.{1}) t).2
def chosen (t : Tab Ideal) : Tab Ideal :=
  (over (selG (flag (cmpf .olt (over countG rows c0 t).1 six))) rows (⟨⟩ : PUnit.{1}) t).2
theorem workG_eq (t : Tab Ideal) :
    workG t = (over topStepG [0, 1, 2, 3, 4, 5] (⟨⟩ : PUnit.{1}) (chosen (nmsG^[20] (opened t)))).2 := rfl

theorem opened_at (t : Tab Ideal) :
    (opened t).buf = t.buf ∧ (opened t).gtb = t.gtb ∧ (∀ c r, (opened t).geo (c, r) x = (cand x t).g c r)
      ∧ (∀ r, (opened t).sup r x = 0) ∧ ∀ r, (opened t).unp r x = 1 := by
  obtain ⟨geo, sup, unp, h1, h2, -⟩ := over_init rows rows_pairwise t
  unfold opened
  rw [h1]
  refine ⟨rfl, rfl, fun c r => ?_, fun r => ?_, fun r => ?_⟩
  · show geo (c, r) x = _
    rw [(h2 r (mem_rows r)).1]
    fin_cases c <;> simp [initG, Function.update_apply, cand, addf_at] <;> rfl
  · show sup r x = _
    rw [(h2 r (mem_rows r)).2.1]; exact c0_at x
  · show unp r x = _
    rw [(h2 r (mem_rows r)).2.2]; exact c1_at x

theorem nms_at (t0 : Tab Ideal) {σ : Fin 20 → Fin 20} (hσ : Stable (fun r => -(t0.buf (0, r) x)) σ)
    (hs : ∀ r, t0.buf (0, r) x ≠ ⊥) (hsup : ∀ r, t0.sup r x = 0) (hunp : ∀ r, t0.unp r x = 1) :
    Inv x t0 σ 20 (nmsG^[20] t0) := by
  refine Inv.rounds x hσ hs ⟨rfl, rfl, rfl, rfl, fun j => ?_, fun j => ?_⟩ 20 le_rfl
  · rw [hunp, bit_true (Nat.zero_le _)]
  · rw [hsup, bit_false]; exact id

theorem count_at (t : Tab Ideal) {p : Fin 20 → Prop} (hp : ∀ r, t.sup r x = bit (¬ p r)) :
    (flag (cmpf .olt (over countG rows c0 t).1 six) : R) x = bit ((Finset.univ.filter p).card < 6) := by
  have h : (over countG rows c0 t).1 x = (((Finset.univ.filter p).card : ℝ) : EReal) := by
    rw [over_count, c0_at]
    have := foldl_count p rows 0
    rw [Nat.cast_zero, EReal.coe_zero, zero_add, card_rows] at this
    refine Eq.trans ?_ this
    congr 1
    funext b r
    rw [hp, one_sub_bit]
    congr 1
    exact bit_congr not_not
  rw [flag_olt, h, six_at]
  refine bit_congr ?_
  rw [EReal.coe_lt_coe_iff]
  exact_mod_cast Iff.rfl

theorem chosen_at (t : Tab Ideal) : (chosen t).buf = t.buf ∧ (chosen t).geo = t.geo
    ∧ (∀ r, (chosen t).sup r x = max (1 - t.sup r x) ((flag (cmpf .olt (over countG rows c0 t).1 six) : R) x))
    ∧ ∀ r, (chosen t).dist r x = absE (t.geo (0, r) x - t.gtb 0 x) + absE (t.geo (1, r) x - t.gtb 1 x) := by
  obtain ⟨sup, dist, h1, h2, -⟩ := over_sel (flag (cmpf .olt (over countG rows c0 t).1 six)) rows rows_pairwise t
  unfold chosen
  rw [h1]
  refine ⟨rfl, rfl, fun r => ?_, fun r => ?_⟩
  · show sup r x = _
    rw [(h2 r (mem_rows r)).1]
    simp only [selG, Function.update_self, max_at, subf_at, c1_at]
  · show dist r x = _
    rw [(h2 r (mem_rows r)).2]
    simp only [selG, Function.update_self, addf_at, subf_at, abs_at, absE]

/-- From the tables opened, `t0`, and after the suppression, `t1`, to the picks. -/
theorem picked_at (a : Cand) (t0 t1 t2 : Tab Ideal) {σ τ : Fin 20 → Fin 20} (hσ : Function.Injective σ)
    (hτ : Stable (a.key σ) τ) (hd : ∀ r, a.dist r ≠ ⊤)
    (hbuf : ∀ r, t0.buf (0, r) x = a.s r) (hgtb : ∀ c, t0.gtb c x = a.e c) (hgeo : ∀ c r, t0.geo (c, r) x = a.g c r)
    (h : Inv x t0 σ 20 t1) (e1 : t2.buf = t1.buf) (e2 : t2.geo = t1.geo)
    (e3 : ∀ r, t2.sup r x = max (1 - t1.sup r x) ((flag (cmpf .olt (over countG rows c0 t1).1 six) : R) x))
    (e4 : ∀ r, t2.dist r x = absE (t1.geo (0, r) x - t1.gtb 0 x) + absE (t1.geo (1, r) x - t1.gtb 1 x))
    (i : Fin 6) (c : Fin 5) :
    (over topStepG [0, 1, 2, 3, 4, 5] (⟨⟩ : PUnit.{1}) t2).2.out (i, c) x = a.vals (τ (i.castLE (by decide))) c := by
  have hb : before (fun r => t0.geo (0, r) x) (fun r => t0.geo (1, r) x) σ = before (a.g 0) (a.g 1) σ := by
    rw [show (fun r => t0.geo (0, r) x) = a.g 0 from funext fun r => hgeo 0 r,
      show (fun r => t0.geo (1, r) x) = a.g 1 from funext fun r => hgeo 1 r]
  have hsup : ∀ r, t1.sup r x = bit (¬ a.keep σ r) := fun r => by
    obtain ⟨j, rfl⟩ := (Finite.surjective_of_injective hσ) r
    rw [h.sup, hb]
    exact bit_congr ((not_congr (a.keep_at hσ j)).trans not_not).symm
  have hdist : ∀ r, t2.dist r x = a.dist r := fun r => by
    rw [e4, h.geo, h.gtb, hgeo, hgeo, hgtb, hgtb]; rfl
  have hpick : Picked x t2 τ (a.sel σ) 0 t2 := by
    refine ⟨rfl, rfl, rfl, fun j => ?_, fun i hi => absurd hi (Nat.not_lt_zero _)⟩
    rw [e3, hsup, one_sub_bit, count_at x t1 hsup, bit_max]
    exact bit_congr ⟨fun h => ⟨Nat.zero_le _, h.imp not_not.mp id⟩, fun h => h.2.imp not_not.mpr id⟩
  have h6 := picks x (by simp only [hdist]; exact hτ) (fun r => by rw [hdist]; exact hd r) (a.sel_first hτ hd) hpick
  rw [h6.out i i.isLt c]
  unfold vals Cand.vals
  rw [e1, e2, h.buf, h.geo, hbuf, hgeo, hgeo, hgeo, hgeo]

/-- THE SIX PICKS of lane `x`: each in turn the nearest of those that may be picked. -/
theorem work_at (t : Tab Ideal) (hs : ∀ r, (cand x t).s r ≠ ⊥) (hd : ∀ r, (cand x t).dist r ≠ ⊤) (i : Fin 6) (c : Fin 5) :
    (workG t).out (i, c) x = (cand x t).pick i c := by
  have hσ : Stable (fun r => -((cand x t).s r)) (cand x t).byScore := stable_sortedFrom _
  have hτ : Stable ((cand x t).key (cand x t).byScore) (cand x t).byDist := stable_sortedFrom _
  obtain ⟨ob, og, ogeo, osup, ounp⟩ := opened_at x t
  have hb : ∀ r, (opened t).buf (0, r) x = (cand x t).s r := fun r => by rw [ob]; rfl
  obtain ⟨c1, c2, c3, c4⟩ := chosen_at x (nmsG^[20] (opened t))
  rw [workG_eq]
  exact picked_at x (cand x t) (opened t) _ _ hσ.inj hτ hd hb (fun c => by rw [og]; rfl) ogeo
    (nms_at x _ (by simp only [hb]; exact hσ) (fun r => by rw [hb]; exact hs r) osup ounp) c1 c2 c3 c4 i c

end Cert.KernelIdeal.Lane

end
-- ==== Proof.RefSelect.lean ====
/- What the reference selects of an agent's candidates: the readings of its scores, its order, its suppression and its picks. -/
module

public import proofs.«01_k».proof.Proof.Gen.ReferenceIdeal.Run
public import proofs.«01_k».proof.Proof.RefSort
public import proofs.«01_k».proof.Proof.RefGather
public import proofs.«01_k».proof.Proof.Work
public import proofs.«01_k».proof.Proof.Consts

@[expose] public section

noncomputable section

namespace Cert.ReferenceIdeal.At

open Cert.ReferenceIdeal Cert.ReferenceIdeal.Gen Cert.ReferenceIdeal.Value Idealize.ShloMosaic Idealize.ShloMosaic.TcCoe
open Cert.KernelIdeal.Lane
open Classical

/-- The arguments of one device. -/
abbrev Args := Valuation τ sig (Elt Ideal)
abbrev roi (V : Args) : S20000x5.Idx → EReal := V (Proc.devRef .tc main_arg0)
abbrev anchor (V : Args) : S20000x4.Idx → EReal := V (Proc.devRef .tc main_arg1)
abbrev centre (V : Args) : S1000x2.Idx → EReal := V (Proc.devRef .tc main_arg2)
abbrev feat (V : Args) : S1000x20x3.Idx → EReal := V (Proc.devRef .tc main_arg3)
abbrev truth (V : Args) : S1000x30x2.Idx → EReal := V (Proc.devRef .tc main_arg4)
abbrev has (V : Args) : S1000x30.Idx → BitVec 1 := V (Proc.devRef .tc main_arg5)
abbrev ids (V : Args) : S1000.Idx → BitVec 32 := V (Proc.devRef .tc main_arg6)

/-- Neither infinity. -/
def Fin' (v : EReal) : Prop := v ≠ ⊥ ∧ v ≠ ⊤

/-- The arguments as they are drawn. -/
structure Drawn (V : Args) : Prop where
  roi : ∀ i, Fin' (roi V i)
  anchor : ∀ i, Fin' (anchor V i)
  truth : ∀ i, Fin' (truth V i)
  has : ∀ i, has V i = 1#1
  ids : ∀ i, ids V i = BitVec.ofNat 32 (i 0).val

/-- An agent's candidate's row. -/
def line (a : Fin 1000) (r : Fin 20) : Fin 20000 := ⟨a.val * 20 + r.val, by omega⟩

/-- An agent's candidates. -/
def agent (V : Args) (a : Fin 1000) : Cand where
  s r := roi V (ix2 (line a r) (0 : Fin 5))
  g c r := anchor V (ix2 (line a r) c) + roi V (ix2 (line a r) c.succ)
  e c := truth V (ix3 a (29 : Fin 30) c)

theorem fin_add {a b : EReal} (ha : Fin' a) (hb : Fin' b) : Fin' (a + b) := by
  induction a with
  | bot => exact absurd rfl ha.1
  | top => exact absurd rfl ha.2
  | coe a => induction b with
    | bot => exact absurd rfl hb.1
    | top => exact absurd rfl hb.2
    | coe b => exact ⟨EReal.coe_ne_bot (a + b), EReal.coe_ne_top (a + b)⟩

theorem fin_real {a : EReal} (h : Fin' a) : ∃ r : ℝ, a = r := by
  induction a with
  | bot => exact absurd rfl h.1
  | top => exact absurd rfl h.2
  | coe a => exact ⟨a, rfl⟩

variable (V : Args) (a : Fin 1000)

theorem score_at (r : Fin 20) : res_main_v32 (F := Ideal) V (ix2 a r) = (agent V a).s r := by
  pointwise [res_main_v32, res_main_v30]
  rfl

theorem goal_at (c : Fin 4) (r : Fin 20) : res_main_v35 (F := Ideal) V (ix3 a r c) = (agent V a).g c r := by
  pointwise [res_main_v35, res_main_v30]
  refine congrArg (anchor V (ix2 (line a r) c) + ·) (congrArg (fun k => roi V (ix2 (line a r) k)) (Fin.ext ?_))
  exact Nat.add_comm 1 c.val
theorem g0_at (r : Fin 20) : res_main_v37 (F := Ideal) V (ix2 a r) = (agent V a).g 0 r := by
  pointwise [res_main_v37]
  exact goal_at V a 0 r
theorem g1_at (r : Fin 20) : res_main_v39 (F := Ideal) V (ix2 a r) = (agent V a).g 1 r := by
  pointwise [res_main_v39]
  exact goal_at V a 1 r
theorem g2_at (r : Fin 20) : res_main_v41 (F := Ideal) V (ix2 a r) = (agent V a).g 2 r := by
  pointwise [res_main_v41]
  exact goal_at V a 2 r
theorem g3_at (r : Fin 20) : res_main_v43 (F := Ideal) V (ix2 a r) = (agent V a).g 3 r := by
  pointwise [res_main_v43]
  exact goal_at V a 3 r

theorem low_at (r : Fin 20) : res_main_v46 (F := Ideal) V (ix2 a r) = -(agent V a).s r := by
  rw [← score_at]
  pointwise [res_main_v46]
theorem place_at (r : Fin 20) : res_main_v45 (F := Ideal) V (ix2 a r) = BitVec.ofNat 32 r.val := by
  pointwise [res_main_v45]

/-- The rows' order by the scores, going down. -/
abbrev ord : Fin 20 → Fin 20 := (agent V a).byScore
theorem ord_stable : Cert.Order.Stable (fun k => -(agent V a).s k) (ord V a) := Cert.Order.stable_sortedFrom _

theorem order_eq : rowOrder (m := 1000) (n := 20) (α := EReal) (res_main_v46 (F := Ideal) V) a = ord V a := by
  refine congrArg sortedFrom (funext fun k => funext fun k' => ?_)
  rw [low_at, low_at]

theorem sorted (j : Fin 20) : res_main_v47_1 (F := Ideal) V (ix2 a j) = res_main_v45 (F := Ideal) V (ix2 a (ord V a j))
    ∧ res_main_v47_2 (F := Ideal) V (ix2 a j) = res_main_v37 (F := Ideal) V (ix2 a (ord V a j))
    ∧ res_main_v47_3 (F := Ideal) V (ix2 a j) = res_main_v39 (F := Ideal) V (ix2 a (ord V a j)) := by
  rw [← order_eq]
  exact sort4_at (m := 1000) (n := 20) (α := EReal) (β := BitVec 32) (γ := EReal) (δ := EReal) (κ := EReal) (fun v => v)
    (res_main_v46 (F := Ideal) V) (res_main_v45 (F := Ideal) V) (res_main_v37 (F := Ideal) V)
    (res_main_v39 (F := Ideal) V) a j (comparator_f32_i32_f32_f32_d1 (F := Ideal)) less4

theorem order_at' (j : Fin 20) : res_main_v47_1 (F := Ideal) V (ix2 a j) = BitVec.ofNat 32 (ord V a j).val := by
  rw [(sorted V a j).1, place_at]
theorem sx_at (j : Fin 20) : res_main_v47_2 (F := Ideal) V (ix2 a j) = (agent V a).g 0 (ord V a j) := by
  rw [(sorted V a j).2.1, g0_at]
theorem sy_at (j : Fin 20) : res_main_v47_3 (F := Ideal) V (ix2 a j) = (agent V a).g 1 (ord V a j) := by
  rw [(sorted V a j).2.2, g1_at]

variable {V} in
theorem g_fin (h : Drawn V) (c : Fin 4) (r : Fin 20) : Fin' ((agent V a).g c r) := fin_add (h.anchor _) (h.roi _)

/-- How far two ranges of length a half overlap. -/
def lapR (p u : ℝ) : ℝ := max (1 / 2 - |p - u|) 0
theorem lapR_le (p u : ℝ) : lapR p u ≤ 1 / 2 := max_le (by linarith [abs_nonneg (p - u)]) (by norm_num)
theorem lapR_nonneg (p u : ℝ) : 0 ≤ lapR p u := le_max_right _ _
theorem lapR_comm (p u : ℝ) : lapR p u = lapR u p := by unfold lapR; rw [abs_sub_comm]
theorem coe_max' (p u : ℝ) : max (p : EReal) (u : EReal) = ((max p u : ℝ) : EReal) := (EReal.coe_strictMono.monotone.map_max).symm
theorem coe_min' (p u : ℝ) : min (p : EReal) (u : EReal) = ((min p u : ℝ) : EReal) := (EReal.coe_strictMono.monotone.map_min).symm

theorem lap_coe (p u : ℝ) :
    max (min ((p : EReal) + ((1 / 4 : ℝ) : EReal)) ((u : EReal) + ((1 / 4 : ℝ) : EReal))
      - max ((p : EReal) - ((1 / 4 : ℝ) : EReal)) ((u : EReal) - ((1 / 4 : ℝ) : EReal))) 0 = ((lapR p u : ℝ) : EReal) := by
  rw [← EReal.coe_zero]
  rw [← EReal.coe_add, ← EReal.coe_add, ← EReal.coe_sub, ← EReal.coe_sub, coe_max', coe_min', ← EReal.coe_sub, coe_max']
  congr 1
  unfold lapR
  congr 1
  rcases le_total p u with h | h
  · rw [min_eq_left (by linarith), max_eq_right (by linarith), abs_of_nonpos (by linarith)]; ring
  · rw [min_eq_right (by linarith), max_eq_left (by linarith), abs_of_nonneg (by linarith)]; ring

theorem lapE_coe (p u : ℝ) : lapE (p : EReal) (u : EReal) = ((lapR p u : ℝ) : EReal) := by
  unfold lapE
  rw [← EReal.coe_zero, ← EReal.coe_sub, ← EReal.coe_neg, coe_max', ← EReal.coe_sub, coe_max']
  rfl

/-- The overlap over the union is more than a half just where the overlap is more than a sixth. -/
theorem iou_iff {p q u v : ℝ} {A B : EReal} (hA : A = ((1 / 4 : ℝ) : EReal)) (hB : B = ((1 / 4 : ℝ) : EReal)) :
    Ideal.ofBits .f32 0x3F000000#32 < Ideal.div (((lapR p u : ℝ) : EReal) * ((lapR q v : ℝ) : EReal))
        (max (A + B - ((lapR p u : ℝ) : EReal) * ((lapR q v : ℝ) : EReal)) (Ideal.ofBits .f32 0x3089705F#32))
      ↔ ((1 / 6 : ℝ) : EReal) < ((lapR p u : ℝ) : EReal) * ((lapR q v : ℝ) : EReal) := by
  obtain ⟨τ, h0, h1, hτ⟩ := Cert.Consts.tiny
  have hl : lapR p u * lapR q v ≤ 1 / 2 * (1 / 2) := mul_le_mul (lapR_le p u) (lapR_le q v) (lapR_nonneg q v) (by norm_num)
  rw [hA, hB, hτ, Cert.Consts.half, ← EReal.coe_mul, ← EReal.coe_add, ← EReal.coe_sub, coe_max', max_eq_left (by linarith)]
  generalize lapR p u * lapR q v = l at hl
  have h4 : 0 < 1 / 4 + 1 / 4 - l := by linarith
  rw [Ideal.div_coe h4.ne', ← EReal.coe_mul, EReal.coe_lt_coe_iff, EReal.coe_lt_coe_iff, mul_one_div, lt_div_iff₀ h4]
  constructor <;> intro h <;> linarith

theorem area_coe (p q : ℝ) :
    ((p : EReal) + ((1 / 4 : ℝ) : EReal) - ((p : EReal) - ((1 / 4 : ℝ) : EReal)))
      * ((q : EReal) + ((1 / 4 : ℝ) : EReal) - ((q : EReal) - ((1 / 4 : ℝ) : EReal))) = ((1 / 4 : ℝ) : EReal) := by
  rw [← EReal.coe_add, ← EReal.coe_add, ← EReal.coe_sub, ← EReal.coe_sub, ← EReal.coe_sub, ← EReal.coe_sub, ← EReal.coe_mul]
  congr 1; ring

theorem toInt_lt : ∀ p q : Fin 20, (BitVec.ofNat 32 p.val).toInt < (BitVec.ofNat 32 q.val).toInt ↔ p < q := by decide

theorem sgt_iff (i j : Fin 20) : IntOp.cmpi .sgt (BitVec.ofNat 32 j.val) (BitVec.ofNat 32 i.val) = BitVec.ofBool (decide (i < j)) := by
  revert i j; decide

theorem andi_ofBool (P Q : Prop) [Decidable P] [Decidable Q] [Decidable (P ∧ Q)] :
    IntOp.andi (BitVec.ofBool (decide P)) (BitVec.ofBool (decide Q)) = BitVec.ofBool (decide (P ∧ Q)) := by
  by_cases h1 : P <;> by_cases h2 : Q <;> simp [h1, h2, IntOp.andi]

variable {V} in
theorem hit_at (h : Drawn V) (i j : Fin 20) :
    res_main_v106 (F := Ideal) V (ix3 a i j) = BitVec.ofBool (decide (before ((agent V a).g 0) ((agent V a).g 1) (ord V a) i j)) := by
  pointwise [res_main_v106, res_main_v85, res_main_v58, res_main_v49, res_main_v51, res_main_v53, res_main_v55, sx_at, sy_at]
  obtain ⟨p, hp⟩ := fin_real (g_fin a h 0 (ord V a i))
  obtain ⟨q, hq⟩ := fin_real (g_fin a h 1 (ord V a i))
  obtain ⟨u, hu⟩ := fin_real (g_fin a h 0 (ord V a j))
  obtain ⟨v, hv⟩ := fin_real (g_fin a h 1 (ord V a j))
  have e : before ((agent V a).g 0) ((agent V a).g 1) (ord V a) i j
      ↔ ((1 / 6 : ℝ) : EReal) < ((lapR p u : ℝ) : EReal) * ((lapR q v : ℝ) : EReal) ∧ i < j := by
    unfold before ov
    rw [hp, hq, hu, hv, lapE_coe, lapE_coe, lapR_comm u p, lapR_comm v q]
  rw [sgt_iff, hp, hq, hu, hv, Cert.Consts.quarter, lap_coe, lap_coe]
  simp only [iou_iff (area_coe p q) (area_coe u v), e]
  exact andi_ofBool _ _

theorem round_at (n : Fin 20) (o : Fin 20 → Fin 20 → Prop) (S : S1000x20.Idx → BitVec 1) (H : S1000x20x20.Idx → BitVec 1)
    (hS : ∀ j, S (ix2 a j) = BitVec.ofBool (decide (Sup o n.val j))) (hH : ∀ j, H (ix3 a n j) = BitVec.ofBool (decide (o n j)))
    (j : Fin 20) :
    IntOp.ori (S (ix2 a j)) (IntOp.andi (~~~(S (ix2 a n))) (H (ix3 a n j))) = BitVec.ofBool (decide (Sup o (n.val + 1) j)) := by
  rw [hS, hS, hH]
  have e : Sup o (n.val + 1) j ↔ Sup o n.val j ∨ (¬ Sup o n.val n ∧ o n j) :=
    ⟨fun h => h.imp id fun ⟨_, h⟩ => h, fun h => h.imp id fun h => ⟨n.isLt, h⟩⟩
  by_cases h1 : Sup o n.val j <;> by_cases h2 : Sup o n.val n <;> by_cases h3 : o n j <;> simp [e, h1, h2, h3, IntOp.ori, IntOp.andi]
/-- Who suppresses whom, in the order of the scores. -/
abbrev over : Fin 20 → Fin 20 → Prop := before ((agent V a).g 0) ((agent V a).g 1) (ord V a)

theorem sup0 (j : Fin 20) : res_main_v107 (F := Ideal) V (ix2 a j) = BitVec.ofBool (decide (Sup (over V a) 0 j)) := by
  pointwise [res_main_v107]
  exact (congrArg BitVec.ofBool (decide_eq_false (fun h : Sup (over V a) 0 j => h))).symm
section
variable {V} (h : Drawn V)
include h
theorem sup1 (j : Fin 20) : res_main_v114 (F := Ideal) V (ix2 a j) = BitVec.ofBool (decide (Sup (over V a) 1 j)) := by
  pointwise [res_main_v114]
  exact round_at a 0 (over V a) _ _ (sup0 V a) (hit_at a h 0) j
theorem sup2 (j : Fin 20) : res_main_v121 (F := Ideal) V (ix2 a j) = BitVec.ofBool (decide (Sup (over V a) 2 j)) := by
  pointwise [res_main_v121]
  exact round_at a 1 (over V a) _ _ (sup1 a h) (hit_at a h 1) j
theorem sup3 (j : Fin 20) : res_main_v128 (F := Ideal) V (ix2 a j) = BitVec.ofBool (decide (Sup (over V a) 3 j)) := by
  pointwise [res_main_v128]
  exact round_at a 2 (over V a) _ _ (sup2 a h) (hit_at a h 2) j
theorem sup4 (j : Fin 20) : res_main_v135 (F := Ideal) V (ix2 a j) = BitVec.ofBool (decide (Sup (over V a) 4 j)) := by
  pointwise [res_main_v135]
  exact round_at a 3 (over V a) _ _ (sup3 a h) (hit_at a h 3) j
theorem sup5 (j : Fin 20) : res_main_v142 (F := Ideal) V (ix2 a j) = BitVec.ofBool (decide (Sup (over V a) 5 j)) := by
  pointwise [res_main_v142]
  exact round_at a 4 (over V a) _ _ (sup4 a h) (hit_at a h 4) j
theorem sup6 (j : Fin 20) : res_main_v149 (F := Ideal) V (ix2 a j) = BitVec.ofBool (decide (Sup (over V a) 6 j)) := by
  pointwise [res_main_v149]
  exact round_at a 5 (over V a) _ _ (sup5 a h) (hit_at a h 5) j
theorem sup7 (j : Fin 20) : res_main_v156 (F := Ideal) V (ix2 a j) = BitVec.ofBool (decide (Sup (over V a) 7 j)) := by
  pointwise [res_main_v156]
  exact round_at a 6 (over V a) _ _ (sup6 a h) (hit_at a h 6) j
theorem sup8 (j : Fin 20) : res_main_v163 (F := Ideal) V (ix2 a j) = BitVec.ofBool (decide (Sup (over V a) 8 j)) := by
  pointwise [res_main_v163]
  exact round_at a 7 (over V a) _ _ (sup7 a h) (hit_at a h 7) j
theorem sup9 (j : Fin 20) : res_main_v170 (F := Ideal) V (ix2 a j) = BitVec.ofBool (decide (Sup (over V a) 9 j)) := by
  pointwise [res_main_v170]
  exact round_at a 8 (over V a) _ _ (sup8 a h) (hit_at a h 8) j
theorem sup10 (j : Fin 20) : res_main_v177 (F := Ideal) V (ix2 a j) = BitVec.ofBool (decide (Sup (over V a) 10 j)) := by
  pointwise [res_main_v177]
  exact round_at a 9 (over V a) _ _ (sup9 a h) (hit_at a h 9) j
theorem sup11 (j : Fin 20) : res_main_v184 (F := Ideal) V (ix2 a j) = BitVec.ofBool (decide (Sup (over V a) 11 j)) := by
  pointwise [res_main_v184]
  exact round_at a 10 (over V a) _ _ (sup10 a h) (hit_at a h 10) j
theorem sup12 (j : Fin 20) : res_main_v191 (F := Ideal) V (ix2 a j) = BitVec.ofBool (decide (Sup (over V a) 12 j)) := by
  pointwise [res_main_v191]
  exact round_at a 11 (over V a) _ _ (sup11 a h) (hit_at a h 11) j
theorem sup13 (j : Fin 20) : res_main_v198 (F := Ideal) V (ix2 a j) = BitVec.ofBool (decide (Sup (over V a) 13 j)) := by
  pointwise [res_main_v198]
  exact round_at a 12 (over V a) _ _ (sup12 a h) (hit_at a h 12) j
theorem sup14 (j : Fin 20) : res_main_v205 (F := Ideal) V (ix2 a j) = BitVec.ofBool (decide (Sup (over V a) 14 j)) := by
  pointwise [res_main_v205]
  exact round_at a 13 (over V a) _ _ (sup13 a h) (hit_at a h 13) j
theorem sup15 (j : Fin 20) : res_main_v212 (F := Ideal) V (ix2 a j) = BitVec.ofBool (decide (Sup (over V a) 15 j)) := by
  pointwise [res_main_v212]
  exact round_at a 14 (over V a) _ _ (sup14 a h) (hit_at a h 14) j
theorem sup16 (j : Fin 20) : res_main_v219 (F := Ideal) V (ix2 a j) = BitVec.ofBool (decide (Sup (over V a) 16 j)) := by
  pointwise [res_main_v219]
  exact round_at a 15 (over V a) _ _ (sup15 a h) (hit_at a h 15) j
theorem sup17 (j : Fin 20) : res_main_v226 (F := Ideal) V (ix2 a j) = BitVec.ofBool (decide (Sup (over V a) 17 j)) := by
  pointwise [res_main_v226]
  exact round_at a 16 (over V a) _ _ (sup16 a h) (hit_at a h 16) j
theorem sup18 (j : Fin 20) : res_main_v233 (F := Ideal) V (ix2 a j) = BitVec.ofBool (decide (Sup (over V a) 18 j)) := by
  pointwise [res_main_v233]
  exact round_at a 17 (over V a) _ _ (sup17 a h) (hit_at a h 17) j
theorem sup19 (j : Fin 20) : res_main_v240 (F := Ideal) V (ix2 a j) = BitVec.ofBool (decide (Sup (over V a) 19 j)) := by
  pointwise [res_main_v240]
  exact round_at a 18 (over V a) _ _ (sup18 a h) (hit_at a h 18) j

theorem kept_at (j : Fin 20) : res_main_v249 (F := Ideal) V (ix2 a j) = if Sup (over V a) 20 j then 0#32 else 1#32 := by
  pointwise [res_main_v249]
  have e := round_at a 19 (over V a) _ _ (sup19 a h) (hit_at a h 19) j
  rw [e]
  show BitVec.zeroExtend 32 (~~~ BitVec.ofBool (decide (Sup (over V a) 20 j))) = _
  by_cases hs : Sup (over V a) 20 j
  · rw [if_pos hs, decide_eq_true hs]; rfl
  · rw [if_neg hs, decide_eq_false hs]; rfl

/-- The rows put back in their places. -/
theorem keep_back (r : Fin 20) : res_main_v250_1 (F := Ideal) V (ix2 a r) = if (agent V a).keep (ord V a) r then 1#32 else 0#32 := by
  have e := sort2_at (m := 1000) (n := 20) (α := BitVec 32) (β := BitVec 32) (κ := Int) (fun v => v.toInt)
    (res_main_v47_1 (F := Ideal) V) (res_main_v249 (F := Ideal) V) a r comparator_i32_i32_d1 less2i
  have e' : rowOrder (m := 1000) (n := 20) (α := Int) (fun i => (res_main_v47_1 (F := Ideal) V i : BitVec 32).toInt) a
      = sortedFrom fun k k' => decide (ord V a k < ord V a k') := by
    refine congrArg sortedFrom (funext fun k => funext fun k' => ?_)
    show decide (BitVec.toInt (res_main_v47_1 (F := Ideal) V (ix2 a k)) < BitVec.toInt (res_main_v47_1 (F := Ideal) V (ix2 a k'))) = _
    rw [order_at', order_at']
    generalize ord V a k = p
    generalize ord V a k' = q
    exact decide_eq_decide.mpr (toInt_lt p q)
  rw [e'] at e
  have e2 := Cert.Order.sortedFrom_inverse (ord V a) (ord_stable V a).inj r
  refine (show res_main_v250_1 (F := Ideal) V (ix2 a r) = _ from e).trans ?_
  rw [kept_at a h]
  generalize sortedFrom (fun k k' => decide (ord V a k < ord V a k')) r = j at e2
  rw [← e2]
  have := (agent V a).keep_at (ord_stable V a).inj j
  by_cases hs : Sup (over V a) 20 j
  · rw [if_pos hs, if_neg (fun hk => this.mp hk hs)]
  · rw [if_neg hs, if_pos (this.mpr hs)]

omit h in
theorem fold_count (p : Fin 20 → Prop) : ∀ S : Finset (Fin 20), S.fold IntOp.addi 0#32 (fun r => if p r then 1#32 else 0#32)
    = BitVec.ofNat 32 (S.filter p).card := by
  intro S
  induction S using Finset.induction_on with
  | empty => rfl
  | insert x S hx ih =>
    rw [Finset.fold_insert hx, ih, Finset.filter_insert]
    by_cases hp : p x
    · rw [if_pos hp, if_pos hp, Finset.card_insert_of_notMem (fun h => hx (Finset.mem_filter.mp h).1), Nat.add_comm]
      exact (BitVec.ofNat_add _ _).symm
    · rw [if_neg hp, if_neg hp]; exact BitVec.zero_add _

omit h in
theorem few_iff {n : Nat} (hn : n ≤ 20) : IntOp.cmpi .slt (BitVec.ofNat 32 n) 6#32 = BitVec.ofBool (decide (n < 6)) := by
  have : ∀ n : Fin 21, IntOp.cmpi .slt (BitVec.ofNat 32 n.val) 6#32 = BitVec.ofBool (decide (n.val < 6)) := by decide
  exact this ⟨n, by omega⟩

omit h in
theorem magnitude (v : ℝ) : Ideal.sqrt ((v : EReal) * (v : EReal)) = absE (v : EReal) := by
  unfold absE
  rw [← EReal.coe_neg, coe_max', ← EReal.coe_mul]
  show (if v * v < 0 then ⊥ else ((Real.sqrt (v * v) : ℝ) : EReal)) = _
  rw [if_neg (not_lt.mpr (mul_self_nonneg v)), Real.sqrt_mul_self_eq_abs, abs_eq_max_neg]

theorem count_at : Host.reduce IntOp.addi (res_main_v250_1 (F := Ideal) V) (constantI S_ 32 0#32) reducesTo_S1000x20_S1000_d1 h_S_ (ix1 a)
    = BitVec.ofNat 32 (Finset.univ.filter ((agent V a).keep (ord V a))).card := by
  rw [Host.reduce_eq_fold]
  refine (Shape.ReducesTo.fold_fiber_r2_a1 reducesTo_S1000x20_S1000_d1 (ix1 a) IntOp.addi _ _).trans ?_
  refine Eq.trans (Finset.fold_congr fun r _ => ?_) (fold_count ((agent V a).keep (ord V a)) Finset.univ)
  exact keep_back a h r

omit h in
theorem row_at {k : Nat} (hk : k < 2147483648) (y : BitVec 32) :
    (Scalar.select (IntOp.cmpi .slt (BitVec.ofNat 32 k) 0#32) y (BitVec.ofNat 32 k)).toInt.toNat = k := by
  have e : (BitVec.ofNat 32 k).toInt = k := by
    rw [BitVec.toInt_eq_toNat_cond, BitVec.toNat_ofNat, Nat.mod_eq_of_lt (by omega), if_pos (by omega)]
  have e' : IntOp.cmpi .slt (BitVec.ofNat 32 k) 0#32 = 0#1 := by
    show BitVec.ofBool (decide ((BitVec.ofNat 32 k).toInt < 0)) = 0#1
    rw [e, decide_eq_false (by omega)]; rfl
  rw [e']
  show (BitVec.ofNat 32 k).toInt.toNat = k
  rw [e]; rfl

theorem id_at : (broadcastInDim S1000x1 ![0] bcast_S1000_S1000x1_0 (select (cmpi .slt (ids V) (broadcastInDim S1000 ![] bcast_S_S1000 (constantI S_ 32 0#32)))
    (addi (ids V) (broadcastInDim S1000 ![] bcast_S_S1000 (constantI S_ 32 1000#32))) (ids V)) (ix2 a (0 : Fin 1)) : BitVec 32).toInt.toNat = a.val := by
  pointwise
  have e : ids V (ix1 a) = BitVec.ofNat 32 a.val := h.ids _
  rw [e]
  exact row_at (by omega) _

theorem truth_at (t : Fin 30) (c : Fin 2) : res_main_v6 (F := Ideal) V (ix3 a t c) = truth V (ix3 a t c) :=
  take_truth _ _ a t c (id_at a h)
theorem has_at (t : Fin 30) : res_main_v13 (F := Ideal) V (ix2 a t) = 1#1 :=
  (take_has _ _ a t (id_at a h)).trans (h.has _)
theorem centre_at (c : Fin 2) : res_main_v20 (F := Ideal) V (ix2 a c) = centre V (ix2 a c) :=
  take_centre _ _ a c (id_at a h)
theorem feat_at (c : Fin 3) : res_main_v29 (F := Ideal) V (ix2 a c) = feat V (ix3 a (19 : Fin 20) c) := by
  pointwise [res_main_v29]
  exact take_feat _ _ a 19 c (id_at a h)

theorem key_at (r : Fin 20) : res_main_v274 (F := Ideal) V (ix2 a r) = (agent V a).key (ord V a) r := by
  pointwise [res_main_v274, res_main_v263, res_main_v268, truth_at a h, g0_at, g1_at, keep_back a h]
  have hc := count_at a h
  rw [Host.reduce_eq_fold] at hc
  have hc' : Finset.fold IntOp.addi 0#32 (res_main_v250_1 (F := Ideal) V) (Finset.univ.filter fun i => reducesTo_S1000x20_S1000_d1.drop i = ix1 a)
    = BitVec.ofNat 32 (Finset.univ.filter ((agent V a).keep (ord V a))).card := hc
  rw [hc', few_iff ((Finset.card_filter_le _ _).trans (by simp))]
  obtain ⟨p, hp⟩ := fin_real (g_fin a h 0 r)
  obtain ⟨q, hq⟩ := fin_real (g_fin a h 1 r)
  obtain ⟨u, hu⟩ := fin_real (h.truth (ix3 a (29 : Fin 30) (0 : Fin 2)))
  obtain ⟨v, hv⟩ := fin_real (h.truth (ix3 a (29 : Fin 30) (1 : Fin 2)))
  have hd : (agent V a).dist r = absE ((p - u : ℝ) : EReal) + absE ((q - v : ℝ) : EReal) := by
    unfold Cand.dist
    rw [hp, hq]
    show absE ((p : EReal) - truth V (ix3 a (29 : Fin 30) (0 : Fin 2))) + absE ((q : EReal) - truth V (ix3 a (29 : Fin 30) (1 : Fin 2))) = _
    rw [hu, hv, EReal.coe_sub, EReal.coe_sub]
  rw [hp, hq, hu, hv, ← EReal.coe_sub, ← EReal.coe_sub, magnitude, magnitude, ← hd]
  unfold Cand.key Cand.sel
  have ht : (id (constant (F := Ideal) S_ .f32 0x7F800000#32) ix0 : EReal) = ⊤ := Cert.Consts.top
  rw [ht]
  by_cases h1 : (agent V a).keep (ord V a) r <;> by_cases h2 : (Finset.univ.filter ((agent V a).keep (ord V a))).card < 6
  · rw [if_pos h1, if_pos (Or.inl h1), decide_eq_true h2]; rfl
  · rw [if_pos h1, if_pos (Or.inl h1), decide_eq_false h2]; rfl
  · rw [if_neg h1, if_pos (Or.inr h2), decide_eq_true h2]; rfl
  · rw [if_neg h1, if_neg (fun h => h.elim h1 h2), decide_eq_false h2]; rfl

theorem pick_order : rowOrder (m := 1000) (n := 20) (α := EReal) (res_main_v274 (F := Ideal) V) a = (agent V a).byDist := by
  refine congrArg sortedFrom (funext fun k => funext fun k' => ?_)
  rw [key_at a h, key_at a h]

theorem picks (j : Fin 20) : (Host.sort4 S1000x20 1 comparator_f32_f32_f32_f32_d1 (res_main_v274 (F := Ideal) V) (res_main_v32 V) (res_main_v37 V) (res_main_v39 V)).2.1 (ix2 a j) = (agent V a).s ((agent V a).byDist j)
    ∧ (Host.sort4 S1000x20 1 comparator_f32_f32_f32_f32_d1 (res_main_v274 (F := Ideal) V) (res_main_v32 V) (res_main_v37 V) (res_main_v39 V)).2.2.1 (ix2 a j) = (agent V a).g 0 ((agent V a).byDist j)
    ∧ (Host.sort4 S1000x20 1 comparator_f32_f32_f32_f32_d1 (res_main_v274 (F := Ideal) V) (res_main_v32 V) (res_main_v37 V) (res_main_v39 V)).2.2.2 (ix2 a j) = (agent V a).g 1 ((agent V a).byDist j) := by
  rw [← pick_order a h, ← score_at, ← g0_at, ← g1_at]
  exact sort4_at (m := 1000) (n := 20) (α := EReal) (β := EReal) (γ := EReal) (δ := EReal) (κ := EReal) (fun v => v)
    (res_main_v274 (F := Ideal) V) (res_main_v32 (F := Ideal) V) (res_main_v37 (F := Ideal) V)
    (res_main_v39 (F := Ideal) V) a j (comparator_f32_f32_f32_f32_d1 (F := Ideal)) less4f

theorem picks' (j : Fin 20) : (Host.sort3 S1000x20 1 comparator_f32_f32_f32_d1 (res_main_v274 (F := Ideal) V) (res_main_v41 V) (res_main_v43 V)).2.1 (ix2 a j) = (agent V a).g 2 ((agent V a).byDist j)
    ∧ (Host.sort3 S1000x20 1 comparator_f32_f32_f32_d1 (res_main_v274 (F := Ideal) V) (res_main_v41 V) (res_main_v43 V)).2.2 (ix2 a j) = (agent V a).g 3 ((agent V a).byDist j) := by
  rw [← pick_order a h, ← g2_at, ← g3_at]
  exact sort3_at (m := 1000) (n := 20) (α := EReal) (β := EReal) (γ := EReal) (κ := EReal) (fun v => v)
    (res_main_v274 (F := Ideal) V) (res_main_v41 (F := Ideal) V) (res_main_v43 (F := Ideal) V)
    a j (comparator_f32_f32_f32_d1 (F := Ideal)) less3f

theorem pick0 (i : Fin 6) : res_main_v277 (F := Ideal) V (ix2 a i) = (agent V a).pick i 0 := by
  pointwise [res_main_v277]
  exact (picks a h _).1
theorem pick1 (i : Fin 6) : res_main_v278 (F := Ideal) V (ix2 a i) = (agent V a).pick i 1 := by
  pointwise [res_main_v278]
  exact (picks a h _).2.1
theorem pick2 (i : Fin 6) : res_main_v279 (F := Ideal) V (ix2 a i) = (agent V a).pick i 2 := by
  pointwise [res_main_v279]
  exact (picks a h _).2.2
end

end Cert.ReferenceIdeal.At
-- ==== Proof.Track.lean ====
/- One agent's tracks and losses, in plain extended reals: what the kernel and the reference both compute. -/
module

public import proofs.«01_k».proof.Proof.Work
public import proofs.«01_k».proof.Proof.Consts

@[expose] public section

noncomputable section

namespace Cert.Track

open Idealize.ShloMosaic Cert.KernelIdeal.Lane

/-- The `t`-th of the thirty times. -/
def time (t : Fin 30) : EReal := Ideal.ofBits .f32 0x3D0D3DCB#32 * ((t.val : ℝ) : EReal)
def lin (p c v q : EReal) : EReal :=
  Ideal.div (Ideal.ofBits .f32 0x40000000#32 * p * v + Ideal.ofBits .f32 0x40000000#32 * c * v) (Ideal.ofBits .f32 0x40000000#32 + v - q)
/-- The track `a t² + l t + c`. -/
def point (p c v q : EReal) (t : Fin 30) : EReal :=
  (p - c - lin p c v q) * (time t * time t) + lin p c v q * time t + c
/-- The smoothed distance. -/
def smooth (e : EReal) : EReal :=
  if absE e < 1 then Ideal.ofBits .f32 0x3F000000#32 * (e * e) else absE e - Ideal.ofBits .f32 0x3F000000#32
/-- One candidate's share of the first loss: its score, and whether it is the best. -/
def share (l h : EReal) : EReal := max l 0 - l * h + Ideal.log1p (Ideal.exp (-absE l))

/-- What an agent's tracks are drawn from: its six picks, its place and heading, and the true track. -/
structure Mark where
  val : Fin 6 → Fin 5 → EReal
  ctr : Fin 2 → EReal
  dir : Fin 2 → EReal
  gt : Fin 30 → Fin 2 → EReal

/-- `b` is the first at which `d` is least. -/
def First (d : Fin 6 → EReal) (b : Fin 6) : Prop := (∀ j, d b ≤ d j) ∧ ∀ j < b, d b < d j

theorem First.unique {d : Fin 6 → EReal} {b b' : Fin 6} (h : First d b) (h' : First d b') : b = b' := by
  rcases lt_trichotomy b b' with e | e | e
  · exact absurd (h'.2 b e) (not_lt.mpr (h.1 b'))
  · exact e
  · exact absurd (h.2 b' e) (not_lt.mpr (h'.1 b))

namespace Mark
variable (m : Mark)

def pos (k : Fin 6) (t : Fin 30) : Fin 2 → EReal :=
  ![point (m.val k 1) (m.ctr 0) (m.dir 0) (m.val k 3) t, point (m.val k 2) (m.ctr 1) (m.dir 1) (m.val k 4) t]
/-- The squared distance of the `k`-th track's end from the true one. -/
def d2 (k : Fin 6) : EReal :=
  (m.pos k 29 0 - m.gt 29 0) * (m.pos k 29 0 - m.gt 29 0) + (m.pos k 29 1 - m.gt 29 1) * (m.pos k 29 1 - m.gt 29 1)
def cls (b : Fin 6) : EReal := ∑ k, share (m.val k 0) (if k = b then 1 else 0)
def reg (b : Fin 6) (t : Fin 30) : EReal := smooth (m.pos b t 0 - m.gt t 0) + smooth (m.pos b t 1 - m.gt t 1)

theorem sq_nonneg (v : EReal) : 0 ≤ v * v := by
  induction v with
  | bot => rw [EReal.bot_mul_bot]; exact le_top
  | top => rw [EReal.top_mul_top]; exact le_top
  | coe v => rw [← EReal.coe_mul]; exact EReal.coe_nonneg.mpr (mul_self_nonneg v)

theorem d2_nonneg (k : Fin 6) : 0 ≤ m.d2 k := add_nonneg (sq_nonneg _) (sq_nonneg _)

end Mark

theorem sqrt_lt {a b : EReal} (ha : 0 ≤ a) (hb : 0 ≤ b) : Ideal.sqrt a < Ideal.sqrt b ↔ a < b := by
  induction a with
  | bot => exact absurd ha (by simp)
  | top => exact ⟨fun h => absurd h not_top_lt, fun h => absurd h not_top_lt⟩
  | coe a =>
    have ha' : 0 ≤ a := EReal.coe_nonneg.mp ha
    have e : Ideal.sqrt (a : EReal) = ((Real.sqrt a : ℝ) : EReal) := if_neg (not_lt.mpr ha')
    rw [e]
    induction b with
    | bot => exact absurd hb (by simp)
    | top => exact ⟨fun _ => EReal.coe_lt_top _, fun _ => EReal.coe_lt_top _⟩
    | coe b =>
      have hb' : 0 ≤ b := EReal.coe_nonneg.mp hb
      have e : Ideal.sqrt (b : EReal) = ((Real.sqrt b : ℝ) : EReal) := if_neg (not_lt.mpr hb')
      rw [e, EReal.coe_lt_coe_iff, EReal.coe_lt_coe_iff]
      exact Real.sqrt_lt_sqrt_iff ha'

/-- The reference's choice: the first of a stable order by the distances. -/
theorem first_of_stable {d : Fin 6 → EReal} (hd : ∀ k, 0 ≤ d k) {σ : Fin 6 → Fin 6}
    (h : Cert.Order.Stable (fun k => Ideal.sqrt (d k)) σ) : First d (σ 0) := by
  refine ⟨fun j => ?_, fun j hj => ?_⟩
  · exact not_lt.mp fun h' => absurd ((sqrt_lt (hd j) (hd _)).mpr h') (not_lt.mpr (h.first.1 j))
  · exact (sqrt_lt (hd _) (hd j)).mp (h.first.2 j hj)

end Cert.Track
-- ==== Proof.RefTrack.lean ====
/- The reference's tracks and losses: the readings of its three results. -/
module

public import proofs.«01_k».proof.Proof.RefSelect
public import proofs.«01_k».proof.Proof.Track

@[expose] public section

noncomputable section

namespace Cert.ReferenceIdeal.At

open Cert.ReferenceIdeal Cert.ReferenceIdeal.Gen Cert.ReferenceIdeal.Value Idealize.ShloMosaic Idealize.ShloMosaic.TcCoe
open Cert.KernelIdeal.Lane Cert.Track
open Classical

/-- What an agent's tracks are drawn from. -/
def mark (V : Args) (a : Fin 1000) : Mark where
  val := (agent V a).pick
  ctr c := centre V (ix2 a c)
  dir c := feat V (ix3 a (19 : Fin 20) (c.castLE (by decide)))
  gt t c := truth V (ix3 a t c)

theorem int_of {k : Nat} (hk : k < 2147483648) : (BitVec.ofNat 32 k).toInt = k := by
  rw [BitVec.toInt_eq_toNat_cond, BitVec.toNat_ofNat, Nat.mod_eq_of_lt (by omega), if_pos (by omega)]

theorem time_at (V : Args) (t : Fin 30) : res_main_v290 (F := Ideal) V (ix1 t) = time t := by
  pointwise [res_main_v290]
  show Ideal.ofBits .f32 0x3D0D3DCB#32 * ((((BitVec.ofNat 32 t.val).toInt : ℤ) : ℝ) : EReal) = _
  rw [int_of (by omega), Int.cast_natCast]; rfl

/-- The times a true track is followed for, and their negatives. -/
def late (V : Args) : (⟨2, ![1000, 30]⟩ : Shape).Idx → EReal := res_main_v366 (F := Ideal) V
def early (V : Args) : (⟨2, ![1000, 30]⟩ : Shape).Idx → EReal := res_main_v368 (F := Ideal) V
def far (V : Args) : (⟨2, ![1000, 6]⟩ : Shape).Idx → EReal := res_main_v409 (F := Ideal) V

theorem one_bit : FloatOps.uitofp (F := Ideal) .f32 (1#1) = (1 : EReal) := by
  show (((1#1 : BitVec 1).toNat : ℝ) : EReal) = 1
  simp

theorem tenth : ∃ r : ℝ, 0 < r ∧ Ideal.ofBits .f32 0x3DCCCCCD#32 = (r : EReal) := by
  refine ⟨_, ?_, by simp [Ideal.ofBits, Ideal.ieee, -EReal.coe_mul]; rfl⟩
  norm_num
theorem thirty : Ideal.ofBits .f32 0x41F00000#32 = ((30 : ℝ) : EReal) := by
  simp [Ideal.ofBits, Ideal.ieee, -EReal.coe_mul]; try norm_num

section
variable {V : Args} (a : Fin 1000) (h : Drawn V)
include h

theorem lin0_at (k : Fin 6) : res_main_v304 (F := Ideal) V (ix2 a k)
    = lin ((mark V a).val k 1) ((mark V a).ctr 0) ((mark V a).dir 0) ((mark V a).val k 3) := by
  pointwise [res_main_v304, res_main_v286, res_main_v284, centre_at a h, feat_at a h, pick1 a h, (picks' a h _).1]
  rfl
theorem lin1_at (k : Fin 6) : res_main_v321 (F := Ideal) V (ix2 a k)
    = lin ((mark V a).val k 2) ((mark V a).ctr 1) ((mark V a).dir 1) ((mark V a).val k 4) := by
  pointwise [res_main_v321, res_main_v287, res_main_v285, centre_at a h, feat_at a h, pick2 a h, (picks' a h _).2]
  rfl

theorem track_at (k : Fin 6) (t : Fin 30) (c : Fin 2) : res_main_v357 (F := Ideal) V (ix4 a k t c) = (mark V a).pos k t c := by
  match c with
  | ⟨0, _⟩ =>
    pointwise [res_main_v357, lin0_at a h, time_at, res_main_v284, centre_at a h, pick1 a h]
    rfl
  | ⟨1, _⟩ =>
    pointwise [res_main_v357, lin1_at a h, time_at, res_main_v285, centre_at a h, pick2 a h]
    rfl

theorem late_at : ∃ r : ℝ, 0 < r ∧ ∀ t : Fin 30, res_main_v366 (F := Ideal) V (ix2 a t) = ((1 + r * t.val : ℝ) : EReal) := by
  obtain ⟨r, hr, e⟩ := tenth
  refine ⟨r * (1 / 30), by positivity, fun t => ?_⟩
  pointwise [res_main_v366, has_at a h]
  show (((1#1 : BitVec 1).toNat : ℝ) : EReal) + Ideal.div (Ideal.ofBits .f32 0x3DCCCCCD#32 * ((((BitVec.ofNat 32 t.val).toInt : ℤ) : ℝ) : EReal)) (Ideal.ofBits .f32 0x41F00000#32) = _
  rw [int_of (by omega), Int.cast_natCast, e, thirty, Ideal.div_coe (by norm_num), ← EReal.coe_mul, ← EReal.coe_mul, ← EReal.coe_add]
  congr 1
  simp only [BitVec.toNat_ofNat]
  norm_num
  ring

theorem last_order : rowOrder (early V) a 0 = 29 := by
  obtain ⟨r, hr, e⟩ := late_at a h
  have hk : ∀ t : Fin 30, early V (ix2 a t) = ((-(1 + r * t.val) : ℝ) : EReal) := fun t => by
    show -(late V (ix2 a t)) = _
    rw [show late V (ix2 a t) = _ from e t, ← EReal.coe_neg]
  have hs := (Cert.Order.stable_sortedFrom (fun t : Fin 30 => early V (ix2 a t))).first.1 29
  generalize hp : rowOrder (early V) a 0 = p
  have hs' : early V (ix2 a p) ≤ early V (ix2 a (29 : Fin 30)) := hp ▸ hs
  rw [hk, hk, EReal.coe_le_coe_iff] at hs'
  have : ((29 : Fin 30).val : ℝ) ≤ p.val := by
    by_contra hc
    have := mul_lt_mul_of_pos_left (not_le.mp hc) hr
    linarith
  have h2 : (29 : Fin 30).val ≤ p.val := by exact_mod_cast this
  exact Fin.ext (by have h3 := p.isLt; have h4 : (29 : Fin 30).val = 29 := rfl; omega)

theorem last_at : res_main_v371 (F := Ideal) V (ix1 a) = BitVec.ofNat 32 29 := by
  pointwise [res_main_v371]
  refine (sort2_at (m := 1000) (n := 30) (α := EReal) (β := BitVec 32) (κ := EReal) (fun v => v) (early V)
    (res_main_call1_v0 (F := Ideal) V) a 0 (comparator_f32_i32_d1 (F := Ideal)) less2).trans ?_
  refine (congrArg (fun q => (res_main_call1_v0 (F := Ideal) V) (ix2 a q)) (last_order a h)).trans ?_
  pointwise [res_main_call1_v0]

theorem valid_at : res_main_v374 (F := Ideal) V (ix1 a) = (1 : EReal) := by
  obtain ⟨r, hr, e⟩ := late_at a h
  have hm : (1 : EReal) < Host.reduce (fun x y : EReal => max x y) (late V) (constant (F := Ideal) S_ .f32 0xFF800000#32) reducesTo_S1000x30_S1000_d1 h_S_ (ix1 a) := by
    rw [Host.reduce_eq_fold]
    refine lt_of_lt_of_eq ?_ (Shape.ReducesTo.fold_fiber_r2_a1 reducesTo_S1000x30_S1000_d1 (ix1 a) (fun x y : EReal => max x y) _ _).symm
    refine (Finset.lt_fold_max (s := Finset.univ) _).mpr (Or.inr ⟨(29 : Fin 30), Finset.mem_univ _, ?_⟩)
    show (1 : EReal) < late V (ix2 a (29 : Fin 30))
    rw [show late V (ix2 a (29 : Fin 30)) = _ from e 29, ← EReal.coe_one, EReal.coe_lt_coe_iff]
    have h4 : ((29 : Fin 30).val : ℝ) = 29 := by norm_num
    rw [h4]; linarith
  rw [Host.reduce_eq_fold] at hm
  have hm' : (1 : EReal) < Finset.fold (fun x y : EReal => max x y) (Ideal.ofBits .f32 0xFF800000#32) (res_main_v366 (F := Ideal) V)
    (Finset.univ.filter fun i => reducesTo_S1000x30_S1000_d1.drop i = ix1 a) := hm
  pointwise [res_main_v374]
  refine (congrArg (fun b : Bool => FloatOps.uitofp (F := Ideal) .f32 (BitVec.ofBool b)) (decide_eq_true hm')).trans ?_
  exact one_bit

omit h in
theorem two_at (y : IVec S1000 32) (n : Nat) (hn : n < 2147483648) (hy : y (ix1 a) = BitVec.ofNat 32 n) (w : BitVec 32) :
    ((concatenate S1000x2 1 [⟨S1000x1, (broadcastInDim S1000x1 ![0] bcast_S1000_S1000x1_0 (select (cmpi .slt (res_main_v375 (F := Ideal) V) (broadcastInDim S1000 ![] bcast_S_S1000 (constantI S_ 32 0#32))) (addi (res_main_v375 (F := Ideal) V) (broadcastInDim S1000 ![] bcast_S_S1000 (constantI S_ 32 1000#32))) (res_main_v375 (F := Ideal) V)))⟩, ⟨S1000x1, (broadcastInDim S1000x1 ![0] bcast_S1000_S1000x1_0 (select (cmpi .slt y (broadcastInDim S1000 ![] bcast_S_S1000 (constantI S_ 32 0#32))) (addi y (broadcastInDim S1000 ![] bcast_S_S1000 (constantI S_ 32 w))) y))⟩] concatenates_S1000x1_S1000x1_S1000x2_d1 (ix2 a (0 : Fin 2)) : BitVec 32)).toInt.toNat = a.val
    ∧ ((concatenate S1000x2 1 [⟨S1000x1, (broadcastInDim S1000x1 ![0] bcast_S1000_S1000x1_0 (select (cmpi .slt (res_main_v375 (F := Ideal) V) (broadcastInDim S1000 ![] bcast_S_S1000 (constantI S_ 32 0#32))) (addi (res_main_v375 (F := Ideal) V) (broadcastInDim S1000 ![] bcast_S_S1000 (constantI S_ 32 1000#32))) (res_main_v375 (F := Ideal) V)))⟩, ⟨S1000x1, (broadcastInDim S1000x1 ![0] bcast_S1000_S1000x1_0 (select (cmpi .slt y (broadcastInDim S1000 ![] bcast_S_S1000 (constantI S_ 32 0#32))) (addi y (broadcastInDim S1000 ![] bcast_S_S1000 (constantI S_ 32 w))) y))⟩] concatenates_S1000x1_S1000x1_S1000x2_d1 (ix2 a (1 : Fin 2)) : BitVec 32)).toInt.toNat = n := by
  constructor
  · pointwise [res_main_v375]
    exact row_at (by omega) _
  · pointwise
    rw [hy]
    exact row_at hn _

theorem gap_at (k : Fin 6) (c : Fin 2) : res_main_v406 (F := Ideal) V (ix3 a k c) = (mark V a).pos k 29 c - truth V (ix3 a (29 : Fin 30) c) := by
  have i := two_at (V := V) a (res_main_v371 (F := Ideal) V) 29 (by decide) (last_at a h) 30#32
  pointwise [res_main_v406, take_last _ _ a k c 29 i.1 i.2, take_end _ _ a c 29 i.1 i.2, track_at a h, truth_at a h]

theorem dist_at (k : Fin 6) : res_main_v409 (F := Ideal) V (ix2 a k) = Ideal.sqrt ((mark V a).d2 k) := by
  pointwise [res_main_v409, gap_at a h]
  exact congrArg Ideal.sqrt (Fin.sum_univ_two _)

/-- The candidate the reference calls the best. -/
def best (V : Args) (a : Fin 1000) : Fin 6 := sortedFrom (fun k k' => decide (Ideal.sqrt ((mark V a).d2 k) < Ideal.sqrt ((mark V a).d2 k'))) 0

omit h in
theorem best_first : First (mark V a).d2 (best V a) :=
  first_of_stable (mark V a).d2_nonneg (Cert.Order.stable_sortedFrom _)

theorem best_at : res_main_v412 (F := Ideal) V (ix1 a) = BitVec.ofNat 32 (best V a).val := by
  pointwise [res_main_v412]
  refine (sort2_at (m := 1000) (n := 6) (α := EReal) (β := BitVec 32) (κ := EReal) (fun v => v) (far V)
    (res_main_call2_v0 (F := Ideal) V) a 0 (comparator_f32_i32_d1 (F := Ideal)) less2).trans ?_
  have e : rowOrder (m := 1000) (n := 6) (α := EReal) (far V) a 0 = best V a := by
    refine congrFun (congrArg sortedFrom (funext fun k => funext fun k' => ?_)) 0
    rw [show far V (ix2 a k) = _ from dist_at a h k, show far V (ix2 a k') = _ from dist_at a h k']
  refine (congrArg (fun q => (res_main_call2_v0 (F := Ideal) V) (ix2 a q)) e).trans ?_
  pointwise [res_main_call2_v0]

theorem miss_at (t : Fin 30) (c : Fin 2) : res_main_v441 (F := Ideal) V (ix3 a t c) = (mark V a).pos (best V a) t c - truth V (ix3 a t c) := by
  have i := two_at (V := V) a (res_main_v412 (F := Ideal) V) (best V a).val (by omega) (best_at a h) 6#32
  pointwise [res_main_v441, take_best _ _ a t c (best V a) i.1 i.2, track_at a h, truth_at a h]

end

section
variable (V : Args) (h : Drawn V)
include h

omit h in
theorem same_at (b k : Fin 6) : FloatOps.uitofp (F := Ideal) .f32 (IntOp.cmpi .eq (BitVec.ofNat 32 b.val) (BitVec.ofNat 32 k.val)) = (if k = b then 1 else 0 : EReal) := by
  have e : IntOp.cmpi .eq (BitVec.ofNat 32 b.val) (BitVec.ofNat 32 k.val) = BitVec.ofBool (decide (k = b)) := by
    revert b k; decide
  rw [e]
  show (((BitVec.ofBool (decide (k = b))).toNat : ℝ) : EReal) = _
  by_cases hk : k = b
  · rw [if_pos hk, decide_eq_true hk]; simp
  · rw [if_neg hk, decide_eq_false hk]; simp

theorem cls_sum : Host.reduceAdd (mulf (addf (subf (maximumf (res_main_v277 (F := Ideal) V) (broadcastInDim S1000x6 ![] bcast_S_S1000x6 (constant S_ .f32 0x00000000#32))) (mulf (res_main_v277 V) (uitofp .f32 (cmpi .eq (broadcastInDim S1000x6 ![0, 1] bcast_S1000x1_S1000x6_0_1 (broadcastInDim S1000x1 ![0] bcast_S1000_S1000x1_0 (res_main_v412 V))) (broadcastInDim S1000x6 ![0, 1] bcast_S1x6_S1000x6_0_1 (iotaInDim S1x6 32 1)))))) (Host.log1p (Host.exp (Host.negf (Host.absf (res_main_v277 V)))))) (broadcastInDim S1000x6 ![0, 1] bcast_S1000x1_S1000x6_0_1 (broadcastInDim S1000x1 ![0] bcast_S1000_S1000x1_0 (res_main_v374 V)))) (constant S_ .f32 0x00000000#32) reducesTo_S1000x6_S_d0_1 h_S_ ix0
    = ∑ a, (mark V a).cls (best V a) := by
  pointwise [fun a => pick0 a h, fun a => valid_at a h, fun a => best_at a h, same_at]
  refine Finset.sum_congr rfl fun a _ => Finset.sum_congr rfl fun k _ => ?_
  rfl

theorem reg_sum : mulf (constant S_ .f32 0x3F800000#32) (Host.reduceAdd (mulf (select (cmpf (F := Ideal) (φ := .f32) .olt (res_main_v442 (F := Ideal) V) (broadcastInDim S1000x30x2 ![] bcast_S_S1000x30x2 (constant S_ .f32 0x3F800000#32))) (mulf (broadcastInDim S1000x30x2 ![] bcast_S_S1000x30x2 (constant S_ .f32 0x3F000000#32)) (mulf (res_main_v441 V) (res_main_v441 V))) (subf (res_main_v442 V) (broadcastInDim S1000x30x2 ![] bcast_S_S1000x30x2 (constant S_ .f32 0x3F000000#32)))) (broadcastInDim S1000x30x2 ![0, 1, 2] bcast_S1000x30x1_S1000x30x2_0_1_2 (mulf (broadcastInDim S1000x30x1 ![0, 1] bcast_S1000x30_S1000x30x1_0_1 (uitofp .f32 (res_main_v13 V))) (broadcastInDim S1000x30x1 ![0, 1, 2] bcast_S1000x1x1_S1000x30x1_0_1_2 (broadcastInDim S1000x1x1 ![0] bcast_S1000_S1000x1x1_0 (res_main_v374 V)))))) (constant S_ .f32 0x00000000#32) reducesTo_S1000x30x2_S_d0_1_2 h_S_) ix0
    = ∑ a, ∑ t, (mark V a).reg (best V a) t := by
  pointwise [res_main_v442, fun a => miss_at a h, fun a => valid_at a h, fun a => has_at a h]
  refine Finset.sum_congr rfl fun a _ => Finset.sum_congr rfl fun t _ => ?_
  rw [Fin.sum_univ_two, one_bit, mul_one, mul_one]
  rfl

theorem first_tracks (k : Fin 6) (t : Fin 30) (c : Fin 2) :
    shapeCast S6x30x2 (extractStridedSlice S1x6x30x2 ![0, 0, 0, 0] (res_main_v357 (F := Ideal) V) slices_S1000x6x30x2_S1x6x30x2_0_0_0_0) shapeCasts_S1x6x30x2_S6x30x2 (ix3 k t c)
      = (mark V 0).pos k t c := by
  pointwise [track_at 0 h]

end
end Cert.ReferenceIdeal.At
-- ==== Proof.DenseAt.lean ====
/- The dense kernel at one agent's lane: its tracks and losses are those of Track.lean. -/
module

public import proofs.«01_k».proof.Proof.Region
public import proofs.«01_k».proof.Proof.Track
public import Idealize.ShloMosaic.Lib.Pointwise

@[expose] public section

noncomputable section

namespace Cert.KernelIdeal.Dense

open Cert.KernelIdeal Cert.KernelIdeal.Gen
open Idealize.ShloMosaic
open Cert.Track (Mark time)

/-- The agent in lane `l`. -/
def In.agent (I : In Ideal) (l : Fin 1024) : Mark where
  val k c := I.row k c (ix2 (0 : Fin 1) l)
  ctr c := I.pose (c.castLE (by decide)) (ix2 (0 : Fin 1) l)
  dir c := I.pose (c.natAdd 2) (ix2 (0 : Fin 1) l)
  gt t c := (![I.gx, I.gy] c : M30 Ideal) (ix2 t l)

theorem int_of {k : Nat} (hk : k < 2147483648) : (BitVec.ofNat 32 k).toInt = k := by
  rw [BitVec.toInt_eq_toNat_cond, BitVec.toNat_ofNat, Nat.mod_eq_of_lt (by omega), if_pos (by omega)]

theorem one_sub_one : (1 - 1 : EReal) = 0 := by
  rw [← EReal.coe_one, ← EReal.coe_sub, sub_self, EReal.coe_zero]

/-- A comparison's bit, as a number. -/
theorem bit_at (p : Bool) : FloatOps.sitofp (F := Ideal) .f32 (BitVec.setWidth 32 (BitVec.ofBool p)) = (if p then 1 else 0 : EReal) := by
  cases p
  · show ((((BitVec.setWidth 32 (BitVec.ofBool false)).toInt : ℤ) : ℝ) : EReal) = _
    rw [show (BitVec.setWidth 32 (BitVec.ofBool false)).toInt = 0 by decide]; simp
  · show ((((BitVec.setWidth 32 (BitVec.ofBool true)).toInt : ℤ) : ℝ) : EReal) = _
    rw [show (BitVec.setWidth 32 (BitVec.ofBool true)).toInt = 1 by decide]; simp

theorem time_at (t : Fin 30) : (times (F := Ideal)) (ix2 t (0 : Fin 1)) = time t := by
  pointwise [times]
  show Ideal.ofBits .f32 0x3D0D3DCB#32 * ((((BitVec.ofNat 32 t.val).toInt : ℤ) : ℝ) : EReal) = _
  rw [int_of (by omega), Int.cast_natCast]; rfl

theorem track_at (p c v q : R1 Ideal) (t : Fin 30) (l : Fin 1024) :
    track p c v q (ix2 t l) = Cert.Track.point (p (ix2 (0 : Fin 1) l)) (c (ix2 (0 : Fin 1) l)) (v (ix2 (0 : Fin 1) l)) (q (ix2 (0 : Fin 1) l)) t := by
  pointwise [track, curve, quad, lin, wide, tall, times2, time_at, two]
  rfl

section
variable (I : In Ideal) (l : Fin 1024)
theorem x_at (k : Fin 6) (t : Fin 30) : I.x k (ix2 t l) = (I.agent l).pos k t 0 := track_at _ _ _ _ t l
theorem y_at (k : Fin 6) (t : Fin 30) : I.y k (ix2 t l) = (I.agent l).pos k t 1 := track_at _ _ _ _ t l

theorem d2_at (k : Fin 6) : I.d2 k (ix2 (0 : Fin 1) l) = (I.agent l).d2 k := by
  pointwise [In.d2, last, x_at, y_at]
  rfl

theorem mn_at : I.mn (ix2 (0 : Fin 1) l) = min (min (min (min (min ((I.agent l).d2 0) ((I.agent l).d2 1)) ((I.agent l).d2 2)) ((I.agent l).d2 3)) ((I.agent l).d2 4)) ((I.agent l).d2 5) := by
  pointwise [In.mn, d2_at]

theorem lanes_at : (lanes (F := Ideal)) (ix2 (0 : Fin 1) l) = (if l.val < 1000 then 1 else 0 : EReal) := by
  pointwise [lanes]
  have e : IntOp.cmpi .slt (BitVec.ofNat 32 l.val) 1000#32 = BitVec.ofBool (decide (l.val < 1000)) := by
    show BitVec.ofBool (decide ((BitVec.ofNat 32 l.val).toInt < (1000#32).toInt)) = _
    rw [int_of (by omega), show (1000#32).toInt = 1000 by decide]
    congr 1
    simp only [decide_eq_decide]
    omega
  rw [e, bit_at]
  simp only [decide_eq_true_eq]

theorem smooth_at (e : M30 Ideal) (t : Fin 30) : smooth e (ix2 t l) = Cert.Track.smooth (e (ix2 t l)) := by
  pointwise [smooth]
  rw [mul_assoc]
  rfl

theorem clsStep_at (acc lg h : R1 Ideal) : clsStep acc lg h (ix2 (0 : Fin 1) l) = acc (ix2 (0 : Fin 1) l) + Cert.Track.share (lg (ix2 (0 : Fin 1) l)) (h (ix2 (0 : Fin 1) l)) := by
  pointwise [clsStep, zero]
  rw [show (0 - FloatOps.absf (F := Ideal) (φ := .f32) (lg (ix2 (0 : Fin 1) l)) : EReal) = -Cert.KernelIdeal.Lane.absE (lg (ix2 (0 : Fin 1) l)) from zero_sub _]
  unfold Cert.Track.share
  simp only [sub_eq_add_neg, add_assoc]

theorem cls_sum : I.cls = ∑ l : Fin 1024, I.clsRow (ix2 (0 : Fin 1) l) * (lanes (F := Ideal)) (ix2 (0 : Fin 1) l) := by
  pointwise [In.cls]
  exact Fin.sum_univ_one _

theorem reg_sum : I.reg = ∑ t : Fin 30, ∑ l : Fin 1024, (smooth (subf (I.best I.x) I.gx) (ix2 t l) + smooth (subf (I.best I.y) I.gy) (ix2 t l)) * (lanes (F := Ideal)) (ix2 (0 : Fin 1) l) := by
  pointwise [In.reg]
  refine Finset.sum_congr rfl fun t _ => Finset.sum_congr rfl fun l _ => ?_
  congr 1

theorem front_at (m : M30 Ideal) (t : Fin 30) (x : Fin 128) : front m (ix3 (0 : Fin 1) t x) = m (ix2 t (x.castLE (by decide))) := by
  pointwise [front]
  rfl

variable {I l} {b : Fin 6} (hb : Cert.Track.First (I.agent l).d2 b)
include hb

theorem least : I.mn (ix2 (0 : Fin 1) l) = (I.agent l).d2 b := by
  rw [mn_at]
  refine le_antisymm ?_ ?_
  · match b with
    | 0 => simp
    | 1 => simp
    | 2 => simp
    | 3 => simp
    | 4 => simp
    | 5 => simp
  · simp only [le_min_iff]
    exact ⟨⟨⟨⟨⟨hb.1 0, hb.1 1⟩, hb.1 2⟩, hb.1 3⟩, hb.1 4⟩, hb.1 5⟩

theorem hit_at (k : Fin 6) : I.hit k (ix2 (0 : Fin 1) l) = (if (I.agent l).d2 k = (I.agent l).d2 b then 1 else 0 : EReal) := by
  pointwise [In.hit, d2_at, least hb]
  rw [bit_at]
  simp only [decide_eq_true_eq]

theorem seen_at : ∀ n : Nat, n ≤ 6 → I.seen n (ix2 (0 : Fin 1) l) = (if b.val < n then 1 else 0 : EReal)
  | 0, _ => by
    pointwise [In.seen, zero]
    exact (if_neg (Nat.not_lt_zero _)).symm
  | n + 1, hn => by
    have ih := seen_at n (by omega)
    pointwise [In.seen, one, ih, hit_at hb]
    have hv : (Fin.ofNat 6 n).val = n := Nat.mod_eq_of_lt (by omega)
    rcases lt_trichotomy b.val n with h | h | h
    · have h' : b.val < n + 1 := by omega
      rw [if_pos h, if_pos h', one_sub_one, mul_zero]; simp
    · have e : Fin.ofNat 6 n = b := Fin.ext (by omega)
      have h' : b.val < n + 1 := by omega
      have h'' : ¬ b.val < n := by omega
      rw [e, if_neg h'', if_pos h', if_pos rfl]; simp
    · have hne : (I.agent l).d2 (Fin.ofNat 6 n) ≠ (I.agent l).d2 b := (hb.2 _ (Fin.lt_def.mpr (by omega))).ne'
      have h' : ¬ b.val < n + 1 := by omega
      have h'' : ¬ b.val < n := by omega
      rw [if_neg hne, if_neg h'', if_neg h']; simp

theorem hot_at (k : Fin 6) : I.hot k (ix2 (0 : Fin 1) l) = (if k = b then 1 else 0 : EReal) := by
  pointwise [In.hot, one, hit_at hb, seen_at hb k.val (by omega)]
  rcases lt_trichotomy b k with h | h | h
  · rw [if_pos (show b.val < k.val from h), if_neg h.ne', one_sub_one, mul_zero]
  · subst h; rw [if_neg (lt_irrefl b.val), if_pos rfl, if_pos rfl]; simp
  · rw [if_neg (hb.2 k h).ne', if_neg h.ne]; simp

theorem cls_at : I.clsRow (ix2 (0 : Fin 1) l) = (I.agent l).cls b := by
  unfold In.clsRow Mark.cls
  simp only [clsStep_at, hot_at hb, Fin.sum_univ_six]
  rw [show (zero (F := Ideal)) (ix2 (0 : Fin 1) l) = (0 : EReal) from Cert.Consts.zero, zero_add]
  rfl

theorem best_at (z : Fin 6 → M30 Ideal) (t : Fin 30) : I.best z (ix2 t l) = z b (ix2 t l) := by
  pointwise [In.best, wide, hot_at hb]
  match b with
  | 0 => simp
  | 1 => simp
  | 2 => simp
  | 3 => simp
  | 4 => simp
  | 5 => simp

theorem reg_at (t : Fin 30) : (smooth (subf (I.best I.x) I.gx) (ix2 t l) + smooth (subf (I.best I.y) I.gy) (ix2 t l) : EReal) = (I.agent l).reg b t := by
  rw [smooth_at, smooth_at]
  show Cert.Track.smooth (I.best I.x (ix2 t l) - I.gx (ix2 t l)) + Cert.Track.smooth (I.best I.y (ix2 t l) - I.gy (ix2 t l)) = _
  rw [best_at hb, best_at hb, x_at, y_at]
  rfl
end

end Cert.KernelIdeal.Dense
-- ==== Proof.DenseIo.lean ====
/- What the dense call loads of its three operands, entry by entry, and what it leaves in its three results. -/
module

public import proofs.«01_k».proof.Proof.DenseAt
public import Idealize.ShloMosaic.Lib.Pipeline.ValueKit

@[expose] public section

noncomputable section

namespace Cert.KernelIdeal.Dense

open Cert.KernelIdeal Cert.KernelIdeal.Gen
open Idealize.ShloMosaic Idealize.ShloMosaic.TcCoe
open Idealize.ShloMosaic.Pipeline (Dat)

variable (V : (c : Dev nD) → (b : Ref sig .tc) → Buf (Elt Ideal) ((c : Thread nD τ).loc b)) (c : Dev nD)

theorem out3 : (dat V c).arrAt 3 cfg1.N = (broadcast S8x128 (loaded V c).cls : FVec Ideal S8x128 .f32) := by
  refine (dat V c).arrAt_eq_of_after_last 3 t1_0 (by decide +kernel) _ fun j => ?_
  rfl
theorem out4 : (dat V c).arrAt 4 cfg1.N = (broadcast S8x128 (loaded V c).reg : FVec Ideal S8x128 .f32) := by
  refine (dat V c).arrAt_eq_of_after_last 4 t1_0 (by decide +kernel) _ fun j => ?_
  rfl
theorem out5 : (dat V c).arrAt 5 cfg1.N = trackOut (loaded V c) := by
  refine (dat V c).arrAt_eq_of_after_last 5 t1_0 (by decide +kernel) _ fun j => ?_
  rfl

theorem stg0_at (r : Fin 30) (l : Fin 1024) : stg0 V c (ix2 r l) = V c main_v13 (ix2 r l) := by
  show V c main_v13 (((cfg1.win 0).blk t1_0).view.emb (ix2 r l)) = _
  refine congrArg (V c main_v13) (funext fun i => Fin.ext ?_)
  match i with
  | ⟨0, _⟩ => exact (show 0 + 1 * r.val = r.val by omega)
  | ⟨1, _⟩ => exact (show 0 + 1 * l.val = l.val by omega)
theorem stg1_at (k : Fin 2) (r : Fin 30) (l : Fin 1024) : stg1 V c (ix3 k r l) = V c main_v15 (ix3 k r l) := by
  show V c main_v15 (((cfg1.win 1).blk t1_0).view.emb (ix3 k r l)) = _
  refine congrArg (V c main_v15) (funext fun i => Fin.ext ?_)
  match i with
  | ⟨0, _⟩ => exact (show 0 + 1 * k.val = k.val by omega)
  | ⟨1, _⟩ => exact (show 0 + 1 * r.val = r.val by omega)
  | ⟨2, _⟩ => exact (show 0 + 1 * l.val = l.val by omega)
theorem stg2_at (r : Fin 4) (l : Fin 1024) : stg2 V c (ix2 r l) = V c main_v20 (ix2 r l) := by
  show V c main_v20 (((cfg1.win 2).blk t1_0).view.emb (ix2 r l)) = _
  refine congrArg (V c main_v20) (funext fun i => Fin.ext ?_)
  match i with
  | ⟨0, _⟩ => exact (show 0 + 1 * r.val = r.val by omega)
  | ⟨1, _⟩ => exact (show 0 + 1 * l.val = l.val by omega)

theorem got0_at (f : S30x1024.Idx → EReal) (r : Fin 30) (l : Fin 1024) : got0 (F := Ideal) c (win1_0.stage 0) f r (ix2 (0 : Fin 1) l) = f (ix2 r l) := by
  unfold got0
  pointwise
  refine congrArg f (funext fun i => Fin.ext ?_)
  match i with
  | ⟨0, _⟩ => exact (show r.val + 1 * 0 = r.val by omega)
  | ⟨1, _⟩ => exact (show 0 + 1 * l.val = l.val by omega)
theorem got1_at (f : S2x30x1024.Idx → EReal) (k : Fin 2) (r : Fin 30) (l : Fin 1024) : got1 (F := Ideal) c (win1_1.stage 0) f k (ix2 r l) = f (ix3 k r l) := by
  unfold got1
  have e : ∀ v : FVec Ideal S1x30x1024 .f32, shapeCast S30x1024 v shapeCasts_S1x30x1024_S30x1024 (ix2 r l) = v (ix3 (0 : Fin 1) r l) := fun v => by
    pointwise
  refine (e _).trans ?_
  refine congrArg f (funext fun i => Fin.ext ?_)
  match i with
  | ⟨0, _⟩ => exact (show k.val + 1 * 0 = k.val by omega)
  | ⟨1, _⟩ => exact (show 0 + 1 * r.val = r.val by omega)
  | ⟨2, _⟩ => exact (show 0 + 1 * l.val = l.val by omega)
theorem got2_at (f : S4x1024.Idx → EReal) (r : Fin 4) (l : Fin 1024) : got2 (F := Ideal) c (win1_2.stage 0) f r (ix2 (0 : Fin 1) l) = f (ix2 r l) := by
  unfold got2
  pointwise
  refine congrArg f (funext fun i => Fin.ext ?_)
  match i with
  | ⟨0, _⟩ => exact (show r.val + 1 * 0 = r.val by omega)
  | ⟨1, _⟩ => exact (show 0 + 1 * l.val = l.val by omega)

theorem row_at (k : Fin 6) (j : Fin 5) (l : Fin 1024) :
    (loaded V c).row k j (ix2 (0 : Fin 1) l) = V c main_v13 (ix2 (⟨5 * k.val + j.val, by omega⟩ : Fin 30) l) := by
  refine Eq.trans ?_ (stg0_at V c _ l)
  have e : (loaded V c).row k j = got0 (F := Ideal) c (win1_0.stage 0) (stg0 V c) (⟨5 * k.val + j.val, by omega⟩ : Fin 30) := by
    fin_cases k <;> fin_cases j <;> rfl
  rw [e]
  exact got0_at c (stg0 V c) _ l
theorem gx_at (r : Fin 30) (l : Fin 1024) : (loaded V c).gx (ix2 r l) = V c main_v15 (ix3 (0 : Fin 2) r l) :=
  (got1_at c (stg1 V c) 0 r l).trans (stg1_at V c 0 r l)
theorem gy_at (r : Fin 30) (l : Fin 1024) : (loaded V c).gy (ix2 r l) = V c main_v15 (ix3 (1 : Fin 2) r l) :=
  (got1_at c (stg1 V c) 1 r l).trans (stg1_at V c 1 r l)
theorem pose_at (k : Fin 4) (l : Fin 1024) : (loaded V c).pose k (ix2 (0 : Fin 1) l) = V c main_v20 (ix2 k l) := by
  refine Eq.trans ?_ (stg2_at V c k l)
  have e : (loaded V c).pose k = got2 (F := Ideal) c (win1_2.stage 0) (stg2 V c) k := by
    fin_cases k <;> rfl
  rw [e]
  exact got2_at c (stg2 V c) k l

/-- A plane of the third result. -/
theorem even_at (I : In Ideal) (k : Fin 6) (t : Fin 30) (x : Fin 128) :
    trackOut I (ix3 (⟨2 * k.val, by omega⟩ : Fin 12) t x) = I.x k (ix2 t (x.castLE (by decide))) := by
  refine Eq.trans ?_ (front_at (I.x k) t x)
  fin_cases k <;> rfl
theorem odd_at (I : In Ideal) (k : Fin 6) (t : Fin 30) (x : Fin 128) :
    trackOut I (ix3 (⟨1 + 2 * k.val, by omega⟩ : Fin 12) t x) = I.y k (ix2 t (x.castLE (by decide))) := by
  refine Eq.trans ?_ (front_at (I.y k) t x)
  fin_cases k <;> rfl

end Cert.KernelIdeal.Dense
-- ==== Proof.KerHost.lean ====
/- What the host operations around the two calls hand them, entry by entry. -/
module

public import proofs.«01_k».proof.Proof.Launch
public import Idealize.ShloMosaic.Lib.Pointwise

@[expose] public section

noncomputable section

namespace Cert.KernelIdeal.Feed

open Cert.KernelIdeal Cert.KernelIdeal.Gen Cert.KernelIdeal.Run
open Idealize.ShloMosaic Idealize.ShloMosaic.TcCoe
open Idealize.ShloMosaic.StableHlo (after)

variable (m : (ℓ : Loc nD τ sig) → Buf (Elt Ideal) ℓ) (d : Dev nD)

/-- What the padding writes. -/
abbrev nought : FVec Ideal S_ .f32 := sitofp .f32 (constantI S_ 32 0#32)

/-- The two tables the SparseCore call reads. -/
def tableA (V : Valuation τ sig (Elt Ideal)) : FVec Ideal S64x9x20x16 .f32 :=
  transpose S64x9x20x16 [0, 3, 2, 1] (shapeCast S64x16x20x9 (pad S1024x20x9 ![0, 0, 0] ![24, 0, 0] ![0, 0, 0]
    (concatenate S1000x20x9 2 [⟨S1000x20x5, shapeCast S1000x20x5 (V (dv main_arg0)) shapeCasts_S20000x5_S1000x20x5⟩, ⟨S1000x20x4, shapeCast S1000x20x4 (V (dv main_arg1)) shapeCasts_S20000x4_S1000x20x4⟩] concatenates_S1000x20x5_S1000x20x4_S1000x20x9_d2)
    nought pads_S1000x20x9_S1024x20x9_0240_000_000 h_S_) shapeCasts_S1024x20x9_S64x16x20x9) transposes_S64x16x20x9_S64x9x20x16_0_3_2_1
def tableB (V : Valuation τ sig (Elt Ideal)) : FVec Ideal S64x2x16 .f32 :=
  transpose S64x2x16 [0, 2, 1] (shapeCast S64x16x2 (pad S1024x2 ![0, 0] ![24, 0] ![0, 0]
    (shapeCast S1000x2 (extractStridedSlice S1000x1x2 ![0, 29, 0] (V (dv main_arg4)) slices_S1000x30x2_S1000x1x2_0_29_0) shapeCasts_S1000x1x2_S1000x2)
    nought pads_S1000x2_S1024x2_0240_000 h_S_) shapeCasts_S1024x2_S64x16x2) transposes_S64x16x2_S64x2x16_0_2_1

/-- The three tables the dense call reads. -/
def tableS (V : Valuation τ sig (Elt Ideal)) : FVec Ideal S30x1024 .f32 :=
  shapeCast S30x1024 (transpose S6x5x64x16 [1, 2, 0, 3] (V (dv main_v11)) transposes_S64x6x5x16_S6x5x64x16_1_2_0_3) shapeCasts_S6x5x64x16_S30x1024
def tableG' (w : FVec Ideal S1000x30x2 .f32) : FVec Ideal S2x30x1024 .f32 :=
  transpose S2x30x1024 [2, 1, 0] (pad S1024x30x2 ![0, 0, 0] ![24, 0, 0] ![0, 0, 0] w nought pads_S1000x30x2_S1024x30x2_0240_000_000 h_S_) transposes_S1024x30x2_S2x30x1024_2_1_0
abbrev tableG (V : Valuation τ sig (Elt Ideal)) : FVec Ideal S2x30x1024 .f32 := tableG' (V (dv main_arg4))
def tableP (V : Valuation τ sig (Elt Ideal)) : FVec Ideal S4x1024 .f32 :=
  transpose S4x1024 [1, 0] (pad S1024x4 ![0, 0] ![24, 0] ![0, 0]
    (concatenate S1000x4 1 [⟨S1000x2, V (dv main_arg2)⟩, ⟨S1000x2, shapeCast S1000x2 (extractStridedSlice S1000x1x2 ![0, 19, 0] (V (dv main_arg3)) slices_S1000x20x3_S1000x1x2_0_19_0) shapeCasts_S1000x1x2_S1000x2⟩] concatenates_S1000x2_S1000x2_S1000x4_d1)
    nought pads_S1000x4_S1024x4_0240_000 h_S_) transposes_S1024x4_S4x1024_1_0

theorem A_eq : A m d = tableA (V0 m d) := by
  show after before (V0 m d) (Proc.devRef .tc main_v5) = _
  unfold before
  after_results_simp
  rfl
theorem B_eq : B m d = tableB (V0 m d) := by
  show after before (V0 m d) (Proc.devRef .tc main_v10) = _
  unfold before
  after_results_simp
  rfl
variable (V : Valuation τ sig (Elt Ideal))
theorem S_eq : after between V (Proc.devRef .tc main_v13) = tableS V := by
  unfold between
  after_results_simp
  rfl
theorem G_eq : after between V (Proc.devRef .tc main_v15) = tableG V := by
  unfold between
  after_results_simp
  rfl
theorem P_eq : after between V (Proc.devRef .tc main_v20) = tableP V := by
  unfold between
  after_results_simp
  rfl
theorem out0_eq : after afterwards V (Proc.devRef .tc main_v23) = shapeCast S_ (extractStridedSlice S1x1 ![0, 0] (V (dv main_v21_0)) slices_S8x128_S1x1_0_0) shapeCasts_S1x1_S_ := by
  unfold afterwards
  after_results_simp
  rfl
theorem out1_eq : after afterwards V (Proc.devRef .tc main_v25) = shapeCast S_ (extractStridedSlice S1x1 ![0, 0] (V (dv main_v21_1)) slices_S8x128_S1x1_0_0) shapeCasts_S1x1_S_ := by
  unfold afterwards
  after_results_simp
  rfl
def stacked (V : Valuation τ sig (Elt Ideal)) : FVec Ideal S6x30x2 .f32 :=
  concatenate S6x30x2 2 [⟨S6x30x1, broadcastInDim S6x30x1 ![0, 1] bcast_S6x30_S6x30x1_0_1 (shapeCast S6x30 (Host.slice S6x30x1 ![0, 0, 0] ![2, 1, 1] (V (dv main_v21_2)) slicesBy_S12x30x128_S6x30x1_0s2_0s1_0s1) shapeCasts_S6x30x1_S6x30)⟩,
    ⟨S6x30x1, broadcastInDim S6x30x1 ![0, 1] bcast_S6x30_S6x30x1_0_1 (shapeCast S6x30 (Host.slice S6x30x1 ![1, 0, 0] ![2, 1, 1] (V (dv main_v21_2)) slicesBy_S12x30x128_S6x30x1_1s2_0s1_0s1) shapeCasts_S6x30x1_S6x30)⟩] concatenates_S6x30x1_S6x30x1_S6x30x2_d2
theorem out2_eq : after afterwards V (Proc.devRef .tc main_v32) = stacked V := by
  unfold afterwards
  after_results_simp
  rfl

/-- The line of a table for one lane's candidate. -/
abbrev line (a : Fin 1000) (r : Fin 20) : Fin 20000 := ⟨a.val * 20 + r.val, by omega⟩

section
variable (g : Fin 64) (x : Fin 16) (a : Fin 1000) (ha : g.val * 16 + x.val = a.val)
include ha
theorem tableA_roi (p : Fin 5) (r : Fin 20) : tableA V (ix4 g (p.castLE (by decide)) r x) = V (dv main_arg0) (ix2 (line a r) p) := by
  pointwise [tableA]
  rw [dif_pos (by omega), dif_pos (show (p.castLE (by decide : 5 ≤ 9)).val < 5 from p.isLt)]
  congr 2
  exact Fin.ext (by show (g.val * 16 + x.val) * 20 + r.val = a.val * 20 + r.val; rw [ha])
theorem tableA_anchor (p : Fin 4) (r : Fin 20) : tableA V (ix4 g (p.natAdd 5) r x) = V (dv main_arg1) (ix2 (line a r) p) := by
  pointwise [tableA]
  rw [dif_pos (by omega), dif_neg (show ¬ (p.natAdd 5).val < 5 by simp)]
  exact congrArg₂ (fun z z' => V (dv main_arg1) (ix2 z z')) (Fin.ext (by show (g.val * 16 + x.val) * 20 + r.val = a.val * 20 + r.val; rw [ha]))
    (Fin.ext (by show 5 + p.val - 5 = p.val; omega))
theorem tableB_at (c : Fin 2) : tableB V (ix3 g c x) = V (dv main_arg4) (ix3 a (29 : Fin 30) c) := by
  pointwise [tableB]
  rw [dif_pos (by omega)]
  congr 2
  exact Fin.ext ha
end

theorem tableS_at (k : Fin 6) (j : Fin 5) (g : Fin 64) (x : Fin 16) :
    tableS V (ix2 (⟨5 * k.val + j.val, by omega⟩ : Fin 30) (⟨g.val * 16 + x.val, by omega⟩ : Fin 1024)) = V (dv main_v11) (ix4 g k j x) := by
  pointwise [tableS]
section
variable (a : Fin 1000) (l : Fin 1024) (hl : l.val = a.val)
include hl
theorem tableG_at (c : Fin 2) (t : Fin 30) : tableG V (ix3 c t l) = V (dv main_arg4) (ix3 a t c) := by
  unfold tableG
  generalize (V (dv main_arg4)) = w
  pointwise [tableG']
  refine (dif_pos (show l.val < 1000 by omega)).trans ?_
  exact congrArg (fun z => w (ix3 z t c)) (Fin.ext hl)
theorem tableP_ctr (c : Fin 2) (k : Fin 4) (hk : k.val = c.val) : tableP V (ix2 k l) = V (dv main_arg2) (ix2 a c) := by
  pointwise [tableP]
  refine (dif_pos (show l.val < 1000 by omega)).trans ((dif_pos (show k.val < 2 by omega)).trans ?_)
  exact congrArg₂ (fun z z' => V (dv main_arg2) (ix2 z z')) (Fin.ext hl) (Fin.ext hk)
theorem tableP_dir (c : Fin 2) (k : Fin 4) (hk : k.val = 2 + c.val) : tableP V (ix2 k l) = V (dv main_arg3) (ix3 a (19 : Fin 20) (c.castLE (by decide : 2 ≤ 3))) := by
  pointwise [tableP]
  refine (dif_pos (show l.val < 1000 by omega)).trans ((dif_neg (show ¬ k.val < 2 by omega)).trans ?_)
  exact congrArg₂ (fun z z' => V (dv main_arg3) (ix3 z (19 : Fin 20) z')) (Fin.ext hl) (Fin.ext (by show k.val - 2 = c.val; omega))
end
theorem stacked_at (k : Fin 6) (t : Fin 30) (c : Fin 2) : stacked V (ix3 k t c)
    = if c = 0 then V (dv main_v21_2) (ix3 (⟨2 * k.val, by omega⟩ : Fin 12) t (0 : Fin 128)) else V (dv main_v21_2) (ix3 (⟨1 + 2 * k.val, by omega⟩ : Fin 12) t (0 : Fin 128)) := by
  match c with
  | 0 => pointwise [stacked]
  | 1 => pointwise [stacked]
end Cert.KernelIdeal.Feed
-- ==== Proof.Same.lean ====
/- The kernel and the reference on the same arguments: the same tracks and losses. -/
module

public import proofs.«01_k».proof.Proof.RefTrack
public import proofs.«01_k».proof.Proof.DenseIo
public import proofs.«01_k».proof.Proof.KerHost

@[expose] public section

noncomputable section

namespace Cert.KernelIdeal.Same

open Cert.KernelIdeal Cert.KernelIdeal.Gen Cert.KernelIdeal.Run Cert.KernelIdeal.Feed
open Idealize.ShloMosaic Idealize.ShloMosaic.TcCoe
open Cert.KernelIdeal.Tile (OutOK rowsA rowsB Tab)
open Cert.KernelIdeal.Lane (cand work_at Cand absE)
open Cert.Track (Mark First)
open Cert.ReferenceIdeal.At (Args Drawn agent mark best best_first roi anchor centre feat truth fin_real g_fin coe_max')

variable (m : (ℓ : Loc nD τ sig) → Buf (Elt Ideal) ℓ) (d : Dev nD) (f : FVec Ideal S64x6x5x16 .f32)

theorem V2_arg (b : Ref sig .tc) (h1 : b ∉ beforeW) (h2 : b ≠ main_v11) : V2 m f d (dv b) = V0 m d (dv b) := by
  rw [V2_ne m f d (dv b) (dv_ne h2)]
  unfold V1
  exact StableHlo.after_unwritten beforeW (before_writes (F := Ideal)) h1 _

/-- The reference's arguments are the kernel's. -/
structure Alike (R : Args) : Prop where
  roi : roi R = V0 m d (dv main_arg0)
  anchor : anchor R = V0 m d (dv main_arg1)
  centre : centre R = V0 m d (dv main_arg2)
  feat : feat R = V0 m d (dv main_arg3)
  truth : truth R = V0 m d (dv main_arg4)

variable {m d f} {R : Args} (e : Alike m d R) (h : Drawn R) (hf : SelOK m d f)
include e h hf

theorem pick_at (a : Fin 1000) (g : Fin 64) (x : Fin 16) (ha : g.val * 16 + x.val = a.val) (k : Fin 6) (j : Fin 5) :
    f (ix4 g k j x) = (agent R a).pick k j := by
  obtain ⟨T, hA, hB, ho⟩ := hf g
  have hc : cand (ValueIdx.ix1 x) T = agent R a := by
    have hs : (cand (ValueIdx.ix1 x) T).s = (agent R a).s := funext fun r => by
      show T.buf (0, r) (ValueIdx.ix1 x) = roi R (ix2 (Cert.ReferenceIdeal.At.line a r) (0 : Fin 5))
      rw [hA, e.roi]
      show A m d (ValueIdx.ix4 g 0 r x) = _
      rw [A_eq, ← ix4_eq_valueIdx]
      exact tableA_roi (V0 m d) g x a ha 0 r
    have hg : (cand (ValueIdx.ix1 x) T).g = (agent R a).g := funext fun c => funext fun r => by
      show T.buf (c.succ.castLE (by decide), r) (ValueIdx.ix1 x) + T.buf (c.natAdd 5, r) (ValueIdx.ix1 x)
        = anchor R (ix2 (Cert.ReferenceIdeal.At.line a r) c) + roi R (ix2 (Cert.ReferenceIdeal.At.line a r) c.succ)
      rw [hA, e.roi, e.anchor]
      show A m d (ValueIdx.ix4 g (c.succ.castLE (by decide)) r x) + A m d (ValueIdx.ix4 g (c.natAdd 5) r x) = _
      rw [A_eq, ← ix4_eq_valueIdx, ← ix4_eq_valueIdx]
      exact (congrArg₂ (fun u v : EReal => u + v) (tableA_roi (V0 m d) g x a ha c.succ r) (tableA_anchor (V0 m d) g x a ha c r)).trans (add_comm (G := EReal) _ _)
    have he : (cand (ValueIdx.ix1 x) T).e = (agent R a).e := funext fun c => by
      show T.gtb c (ValueIdx.ix1 x) = truth R (ix3 a (29 : Fin 30) c)
      rw [hB, e.truth]
      show B m d (ValueIdx.ix3 g c x) = _
      rw [B_eq, ← ix3_eq_valueIdx]
      exact tableB_at (V0 m d) g x a ha c
    generalize cand (ValueIdx.ix1 x) T = u at hs hg he
    cases u
    cases hs; cases hg; cases he; rfl
  rw [ix4_eq_valueIdx, ho k j x, work_at, hc]
  · rw [hc]; exact fun r => (h.roi _).1
  · rw [hc]
    intro r
    obtain ⟨p, hp⟩ := fin_real (g_fin a h 0 r)
    obtain ⟨q, hq⟩ := fin_real (g_fin a h 1 r)
    obtain ⟨u, hu⟩ := fin_real (h.truth (ix3 a (29 : Fin 30) (0 : Fin 2)))
    obtain ⟨v, hv⟩ := fin_real (h.truth (ix3 a (29 : Fin 30) (1 : Fin 2)))
    unfold Cand.dist
    rw [hp, hq, show (agent R a).e 0 = u from hu, show (agent R a).e 1 = v from hv, ← EReal.coe_sub, ← EReal.coe_sub]
    unfold absE
    rw [← EReal.coe_neg, ← EReal.coe_neg, coe_max', coe_max', ← EReal.coe_add]
    exact EReal.coe_ne_top _

/-- What the dense call loads. -/
abbrev got (m : (ℓ : Loc nD τ sig) → Buf (Elt Ideal) ℓ) (d : Dev nD) (f : FVec Ideal S64x6x5x16 .f32) : Dense.In Ideal := Dense.loaded (VR m f) d

theorem agent_at (a : Fin 1000) (l : Fin 1024) (hl : l.val = a.val) : (got m d f).agent l = mark R a := by
  have hv : ((got m d f).agent l).val = (mark R a).val := funext fun k => funext fun j => by
    refine (Dense.row_at (VR m f) d k j l).trans ?_
    refine (congrFun (S_eq (V2 m f d)) _).trans ?_
    have hl' : l = (⟨(⟨l.val / 16, by omega⟩ : Fin 64).val * 16 + (⟨l.val % 16, by omega⟩ : Fin 16).val, by omega⟩ : Fin 1024) :=
      Fin.ext (by show l.val = l.val / 16 * 16 + l.val % 16; omega)
    rw [hl']
    refine (tableS_at (V2 m f d) k j _ _).trans ?_
    rw [V2_self]
    exact pick_at e h hf a _ _ (by show l.val / 16 * 16 + l.val % 16 = a.val; omega) k j
  have hc : ((got m d f).agent l).ctr = (mark R a).ctr := funext fun c => by
    refine (Dense.pose_at (VR m f) d (c.castLE (by decide)) l).trans ?_
    refine (congrFun (P_eq (V2 m f d)) _).trans ((tableP_ctr (V2 m f d) a l hl c _ rfl).trans ?_)
    rw [V2_arg m d f main_arg2 (by decide) (by decide), ← e.centre]
    rfl
  have hd : ((got m d f).agent l).dir = (mark R a).dir := funext fun c => by
    refine (Dense.pose_at (VR m f) d (c.natAdd 2) l).trans ?_
    refine (congrFun (P_eq (V2 m f d)) _).trans ((tableP_dir (V2 m f d) a l hl c _ rfl).trans ?_)
    rw [V2_arg m d f main_arg3 (by decide) (by decide), ← e.feat]
    rfl
  have hg : ((got m d f).agent l).gt = (mark R a).gt := funext fun t => funext fun c => by
    have key : V3 m f d (dv main_v15) (ix3 c t l) = truth R (ix3 a t c) := by
      refine (congrFun (G_eq (V2 m f d)) _).trans ((tableG_at (V2 m f d) a l hl c t).trans ?_)
      rw [V2_arg m d f main_arg4 (by decide) (by decide), ← e.truth]
    match c with
    | 0 => exact (Dense.gx_at (VR m f) d t l).trans key
    | 1 => exact (Dense.gy_at (VR m f) d t l).trans key
  generalize (got m d f).agent l = u at hv hc hd hg
  cases u
  cases hv; cases hc; cases hd; cases hg; rfl

omit e h hf in
/-- A sum over the lanes, those past the thousandth weighing nothing. -/
theorem lanes_sum (v : Fin 1024 → EReal) (w : Fin 1000 → EReal) (hv : ∀ (a : Fin 1000) (l : Fin 1024), l.val = a.val → v l = w a) :
    (∑ l : Fin 1024, v l * (Dense.lanes (F := Ideal)) (ix2 (0 : Fin 1) l)) = ∑ a, w a := by
  have hs := Fin.sum_univ_add (a := 1000) (b := 24) (fun l : Fin 1024 => v l * (Dense.lanes (F := Ideal)) (ix2 (0 : Fin 1) l))
  refine hs.trans ?_
  have h0 : ∀ j : Fin 24, v (Fin.natAdd 1000 j) * (Dense.lanes (F := Ideal)) (ix2 (0 : Fin 1) (Fin.natAdd 1000 j : Fin 1024)) = 0 := fun j => by
    rw [Dense.lanes_at, if_neg (by simp), mul_zero]
  rw [Finset.sum_congr rfl (fun j _ => h0 j), Finset.sum_const_zero, add_zero]
  refine Finset.sum_congr rfl fun a _ => ?_
  rw [Dense.lanes_at, if_pos (show (Fin.castAdd 24 a).val < 1000 from a.isLt), mul_one]
  exact hv a _ rfl

theorem cls_eq : (got m d f).cls = ∑ a, (mark R a).cls (best R a) := by
  rw [Dense.cls_sum]
  refine lanes_sum _ _ fun a l hl => ?_
  have ha := agent_at e h hf a l hl
  rw [Dense.cls_at (b := best R a) (by rw [ha]; exact best_first a), ha]

theorem reg_eq : (got m d f).reg = ∑ a, ∑ t, (mark R a).reg (best R a) t := by
  rw [Dense.reg_sum, Finset.sum_comm (s := Finset.univ (α := Fin 1000))]
  refine Finset.sum_congr rfl fun t _ => ?_
  refine lanes_sum _ (fun a => (mark R a).reg (best R a) t) fun a l hl => ?_
  have ha := agent_at e h hf a l hl
  rw [← ha]
  exact Dense.reg_at (by rw [ha]; exact best_first a) t

theorem tracks_eq (k : Fin 6) (t : Fin 30) (c : Fin 2) : stacked (V4 m f d) (ix3 k t c) = (mark R 0).pos k t c := by
  have ha := agent_at e h hf 0 ((0 : Fin 128).castLE (by decide)) rfl
  rw [stacked_at, V4_2, Dense.out5, ← ha]
  match c with
  | 0 => exact (if_pos rfl).trans ((Dense.even_at _ k t 0).trans (Dense.x_at _ _ k t))
  | 1 => exact (if_neg (by decide)).trans ((Dense.odd_at _ k t 0).trans (Dense.y_at _ _ k t))

/-- The three results. -/
theorem first_result : V5 m f d (dv main_v23) = fun _ => ∑ a, (mark R a).cls (best R a) := by
  unfold V5
  rw [out0_eq, V4_0, Dense.out3, ← cls_eq e h hf]
  rfl
theorem second_result : V5 m f d (dv main_v25) = fun _ => ∑ a, ∑ t, (mark R a).reg (best R a) t := by
  unfold V5
  rw [out1_eq, V4_1, Dense.out4, ← reg_eq e h hf]
  rfl
theorem third_result (k : Fin 6) (t : Fin 30) (c : Fin 2) : V5 m f d (dv main_v32) (ix3 k t c) = (mark R 0).pos k t c := by
  unfold V5
  rw [out2_eq]
  exact tracks_eq e h hf k t c

end Cert.KernelIdeal.Same
-- ==== Proof.Given.lean ====
/- The precondition, read entry by entry. -/
module

public import proofs.«01_k».proof.Defs
public import proofs.«01_k».proof.Proof.RefSelect
public import Idealize.ShloMosaic.Lib.ReduceAll
public import Idealize.ShloMosaic.Lib.Pointwise

@[expose] public section

noncomputable section

namespace Cert.Given

open Idealize.ShloMosaic Cert.Pre_drawn
open Cert.ReferenceIdeal.At (Fin')

/-- The side conditions the precondition's operations take. -/
theorem facts : Cert.Pre_drawn.Facts where
  bcast_S_S20000x5 := by decide
  reducesTo_S20000x5_S_d0_1 := by decide
  h_S_ := by decide
  bcast_S_S20000x4 := by decide
  reducesTo_S20000x4_S_d0_1 := by decide
  bcast_S_S1000x30x2 := by decide
  reducesTo_S1000x30x2_S_d0_1_2 := by decide
  reducesTo_S1000x30_S_d0_1 := by decide
  reducesTo_S1000_S_d0 := by decide

/-- What is less in magnitude than the greatest value is neither infinity. -/
theorem fin_of_lt (x : EReal) (h : BitVec.ofBool (decide (Cert.KernelIdeal.Lane.absE x < Ideal.ofBits .f32 0x7F800000#32)) = 1#1) : Fin' x := by
  rw [Cert.Consts.top] at h
  have hl : Cert.KernelIdeal.Lane.absE x < ⊤ := by
    by_contra hn
    rw [decide_eq_false hn] at h
    exact absurd h (by decide)
  refine ⟨fun e => ?_, fun e => ?_⟩ <;> subst e <;> exact absurd hl (by simp [Cert.KernelIdeal.Lane.absE])

instance : Subsingleton S_.Idx := ⟨fun a b => funext fun i => i.elim0⟩

variable [Cert.Pre_drawn.Facts]
open Cert.Pre_drawn.Facts

/-- Such an array's entries are neither infinity. -/
theorem fin5 (x : FVec Ideal S20000x5 .f32) (i : S20000x5.Idx) (h : cmpf (F := Ideal) (φ := .f32) .olt (Host.absf x) (broadcastInDim S20000x5 ![] bcast_S_S20000x5 (constant (F := Ideal) S_ .f32 0x7F800000#32)) i = 1#1) : Fin' (x i) :=
  fin_of_lt _ h
theorem fin4 (x : FVec Ideal S20000x4 .f32) (i : S20000x4.Idx) (h : cmpf (F := Ideal) (φ := .f32) .olt (Host.absf x) (broadcastInDim S20000x4 ![] bcast_S_S20000x4 (constant (F := Ideal) S_ .f32 0x7F800000#32)) i = 1#1) : Fin' (x i) :=
  fin_of_lt _ h
theorem fin2 (x : FVec Ideal S1000x30x2 .f32) (i : S1000x30x2.Idx) (h : cmpf (F := Ideal) (φ := .f32) .olt (Host.absf x) (broadcastInDim S1000x30x2 ![] bcast_S_S1000x30x2 (constant (F := Ideal) S_ .f32 0x7F800000#32)) i = 1#1) : Fin' (x i) :=
  fin_of_lt _ h
theorem id_of (v : IVec S1000 32) (i : S1000.Idx) (h : cmpi .eq v (iotaInDim S1000 32 0) i = 1#1) : v i = BitVec.ofNat 32 (i 0).val := by
  by_contra hn
  have h0 : cmpi .eq v (iotaInDim S1000 32 0) i = BitVec.ofBool (v i == BitVec.ofNat 32 (i 0).val) := rfl
  rw [h0, beq_false_of_ne hn] at h
  exact absurd h (by decide)

/-- What the precondition says. -/
theorem holds (x0 : FVec Ideal S20000x5 .f32) (x1 : FVec Ideal S20000x4 .f32) (x2 : FVec Ideal S1000x2 .f32) (x3 : FVec Ideal S1000x20x3 .f32)
    (x4 : FVec Ideal S1000x30x2 .f32) (x5 : IVec S1000x30 1) (x6 : IVec S1000 32) (h : fn x0 x1 x2 x3 x4 x5 x6 = fun _ => 1#1) :
    (∀ i, Fin' (x0 i)) ∧ (∀ i, Fin' (x1 i)) ∧ (∀ i, Fin' (x4 i)) ∧ (∀ i, x5 i = 1#1) ∧ ∀ i, x6 i = BitVec.ofNat 32 (i 0).val := by
  have h := congrFun h (fun i => i.elim0)
  unfold fn fn_part1 at h
  obtain ⟨h, h6⟩ := IntOp.andi_eq_one.1 h
  obtain ⟨h, h5⟩ := IntOp.andi_eq_one.1 h
  obtain ⟨h, h4⟩ := IntOp.andi_eq_one.1 h
  obtain ⟨h0, h1⟩ := IntOp.andi_eq_one.1 h
  exact ⟨fun i => fin5 _ i (Host.reduce_andi_all _ _ _ _ _ h0 i), fun i => fin4 _ i (Host.reduce_andi_all _ _ _ _ _ h1 i),
    fun i => fin2 _ i (Host.reduce_andi_all _ _ _ _ _ h4 i), fun i => Host.reduce_andi_all _ _ _ _ _ h5 i,
    fun i => id_of _ i (Host.reduce_andi_all _ _ _ _ _ h6 i)⟩

end Cert.Given
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Frames
public import proofs.«01_k».proof.Proof.Same
public import proofs.«01_k».proof.Proof.Given
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- Each named constant is what the table gives its name. -/
theorem preserves : Cert.preserves_Kernel_KernelIdeal :=
  ⟨IdealRules.named_const.statement Cert.KernelIdeal.κ "lowest" .f32 0xFF61B1E6#32 ⊥ rfl,
    IdealRules.named_const.statement Cert.KernelIdeal.κ "sixth" .f32 0x3E2AAAAB#32 ((1 / 6 : ℝ) : EReal) rfl,
    IdealRules.named_const.statement Cert.KernelIdeal.κ "highest" .f32 0x7F61B1E6#32 ⊤ rfl⟩

open Idealize.ShloMosaic.TcCoe
open Cert.KernelIdeal.Run (V0 V5 arg_kept beforeW betweenW afterwardsW)
open Cert.ReferenceIdeal.At (Args Drawn mark best)
open Cert.KernelIdeal.Same (Alike first_result second_result third_result)

/-- The reference's frame. -/
theorem frame_ri : Cert.quiescent_ReferenceIdeal (hReferenceIdeal := Cert.ReferenceIdeal.Gen.facts) := fun m g _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m g)

/-- The reference's memory on one device. -/
abbrev argsOf (m' : (ℓ : Loc Cert.ReferenceIdeal.nD Cert.ReferenceIdeal.τ Cert.ReferenceIdeal.sig) → Buf (Elt Ideal) ℓ)
    (c : Dev Cert.ReferenceIdeal.nD) : Args := StableHlo.launchContents m' c

theorem ix3_of {a b c : Nat} (i : (⟨3, ![a, b, c]⟩ : Shape).Idx) : i = ix3 (i 0) (i 1) (i 2) :=
  funext fun k => match k with | 0 => rfl | 1 => rfl | 2 => rfl
theorem ix0_of (i : (⟨0, ![]⟩ : Shape).Idx) : i = ix0 := funext fun k => k.elim0

/-- The two programs end with the same three results. -/
theorem algebraic : Cert.algebraic_KernelIdeal_ReferenceIdeal_pre_drawn (hKernelIdeal := Cert.KernelIdeal.Gen.facts)
    (hReferenceIdeal := Cert.ReferenceIdeal.Gen.facts) (hPre_drawn := Cert.Given.facts) := by
  intro m g m' g' hpre hargs
  have e (c : Dev Cert.KernelIdeal.nD) : Alike m c (argsOf m' c) :=
    ⟨(hargs c).1, (hargs c).2.1, (hargs c).2.2.1, (hargs c).2.2.2.1, (hargs c).2.2.2.2.1⟩
  have hD (c : Dev Cert.KernelIdeal.nD) : Drawn (argsOf m' c) := by
    obtain ⟨h0, h1, h4, h5, h6⟩ := @Cert.Given.holds Cert.Given.facts _ _ _ _ _ _ _ (hpre c)
    refine ⟨fun i => ?_, fun i => ?_, fun i => ?_, fun i => ?_, fun i => ?_⟩
    · exact (congrArg Cert.ReferenceIdeal.At.Fin' (show Cert.ReferenceIdeal.At.roi (argsOf m' c) i = _ from congrFun (hargs c).1 i)).mpr (h0 i)
    · exact (congrArg Cert.ReferenceIdeal.At.Fin' (show Cert.ReferenceIdeal.At.anchor (argsOf m' c) i = _ from congrFun (hargs c).2.1 i)).mpr (h1 i)
    · exact (congrArg Cert.ReferenceIdeal.At.Fin' (show Cert.ReferenceIdeal.At.truth (argsOf m' c) i = _ from congrFun (hargs c).2.2.2.2.1 i)).mpr (h4 i)
    · exact (congrFun (hargs c).2.2.2.2.2.1 i).trans (h5 i)
    · exact (congrFun (hargs c).2.2.2.2.2.2 i).trans (h6 i)
  refine ⟨fun c _ => (∑ a, (mark (argsOf m' c) a).cls (best (argsOf m' c) a) : EReal),
    fun c _ => (∑ a, ∑ t, (mark (argsOf m' c) a).reg (best (argsOf m' c) a) t : EReal),
    fun c i => (mark (argsOf m' c) 0).pos (i 0) (i 1) (i 2), ?_, ?_⟩
  · refine (θ_run _ _ _).mono (fun r h c => ?_) (Cert.KernelIdeal.Run.run_main (F := Ideal) m g)
    obtain ⟨f, hf, hb⟩ := h.1 c
    have key (b : Ref Cert.KernelIdeal.sig .tc) (h0 : b.isScoped = false) (h1 : b ∉ beforeW) (h2 : b ≠ Cert.KernelIdeal.main_v11) (h3 : b ∉ betweenW)
        (h4 : b ≠ Cert.KernelIdeal.main_v21_0) (h5 : b ≠ Cert.KernelIdeal.main_v21_1) (h6 : b ≠ Cert.KernelIdeal.main_v21_2) (h7 : b ∉ afterwardsW) :
        r.2.mem ((c.tc : Thread Cert.KernelIdeal.nD Cert.KernelIdeal.τ).loc b) = m ((c.tc : Thread Cert.KernelIdeal.nD Cert.KernelIdeal.τ).loc b) :=
      (hb b h0).trans (arg_kept m f c b h1 h2 h3 h4 h5 h6 h7)
    refine ⟨(hb Cert.KernelIdeal.main_v23 (by decide)).trans (first_result (e c) (hD c) hf),
      (hb Cert.KernelIdeal.main_v25 (by decide)).trans (second_result (e c) (hD c) hf),
      (hb Cert.KernelIdeal.main_v32 (by decide)).trans (funext fun i => ?_),
      key Cert.KernelIdeal.main_arg0 (by decide) (by decide) (by decide) (by decide) (by decide) (by decide) (by decide) (by decide),
      key Cert.KernelIdeal.main_arg1 (by decide) (by decide) (by decide) (by decide) (by decide) (by decide) (by decide) (by decide),
      key Cert.KernelIdeal.main_arg2 (by decide) (by decide) (by decide) (by decide) (by decide) (by decide) (by decide) (by decide),
      key Cert.KernelIdeal.main_arg3 (by decide) (by decide) (by decide) (by decide) (by decide) (by decide) (by decide) (by decide),
      key Cert.KernelIdeal.main_arg4 (by decide) (by decide) (by decide) (by decide) (by decide) (by decide) (by decide) (by decide),
      key Cert.KernelIdeal.main_arg5 (by decide) (by decide) (by decide) (by decide) (by decide) (by decide) (by decide) (by decide),
      key Cert.KernelIdeal.main_arg6 (by decide) (by decide) (by decide) (by decide) (by decide) (by decide) (by decide) (by decide)⟩
    exact (congrArg _ (ix3_of i)).trans (third_result (e c) (hD c) hf (i 0) (i 1) (i 2))
  · refine (θ_run Cert.ReferenceIdeal.defs _ _).mono (fun r h c => ?_) (Cert.ReferenceIdeal.Value.run (F := Ideal) m' g')
    obtain ⟨h0, h1, h2, hk⟩ := h c
    refine ⟨h0.trans (funext fun i => ?_), h1.trans (funext fun i => ?_), h2.trans (funext fun i => ?_), hk⟩
    · exact (congrArg _ (ix0_of i)).trans (Cert.ReferenceIdeal.At.cls_sum (argsOf m' c) (hD c))
    · exact (congrArg _ (ix0_of i)).trans (Cert.ReferenceIdeal.At.reg_sum (argsOf m' c) (hD c))
    · exact (congrArg _ (ix3_of i)).trans (Cert.ReferenceIdeal.At.first_tracks (argsOf m' c) (hD c) (i 0) (i 1) (i 2))

theorem claim : Cert.Claim := ⟨Cert.Kernel.Gen.facts, Cert.KernelIdeal.Gen.facts, Cert.ReferenceIdeal.Gen.facts, Cert.Given.facts,
  Cert.KernelIdeal.Run.frame_p, Cert.KernelIdeal.Run.frame_pi, fun m g _ => Cert.KernelIdeal.Run.frame_pi m g trivial,
  frame_ri, fun m g _ => frame_ri m g trivial, preserves, algebraic⟩

end Cert.Proof

end
